-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_slope" .f32 0x3E095D4F#32 ((26829 / 200000 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v5) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v95) = v0 c
          ∧ r.2.mem ((c.tc : Thread Cert.Reference24Ideal.nD Cert.Reference24Ideal.τ).loc Cert.Reference24Ideal.main_v97) = v1 c
          ∧ r.2.mem ((c.tc : Thread Cert.Reference24Ideal.nD Cert.Reference24Ideal.τ).loc Cert.Reference24Ideal.main_v74) = v2 c
          ∧ r.2.mem ((c.tc : Thread Cert.Reference24Ideal.nD Cert.Reference24Ideal.τ).loc Cert.Reference24Ideal.main_v77) = v3 c
          ∧ r.2.mem ((c.tc : Thread Cert.Reference24Ideal.nD Cert.Reference24Ideal.τ).loc Cert.Reference24Ideal.main_v58) = v4 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v45) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v48) = v0 c
          ∧ r.2.mem ((c.tc : Thread Cert.Reference27Ideal.nD Cert.Reference27Ideal.τ).loc Cert.Reference27Ideal.main_v49) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v8)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v8) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v67) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_all_finite : Cert.Pre_all_finite.Facts) (hPre_ffn_finite : Cert.Pre_ffn_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_all_finite.lean ====
abbrev S4096x1024 : Shape := ⟨2, ![4096, 1024]⟩
abbrev S4096x3072 : Shape := ⟨2, ![4096, 3072]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128 .f32) (main_v3 : IVec S_ 1) (main_v7 : IVec S_ 1) (main_v11 : IVec S_ 1) (main_v15 : IVec S_ 1) : IVec S_ 1 :=
  let main_v16 : FVec F S1x8x128 .f32 := Host.absf main_arg4
  let main_cst_6 : FVec F S_ .f32 := constant S_ .f32 0x7F800000#32
  let main_v17 : FVec F S1x8x128 .f32 := broadcastInDim S1x8x128 ![] bcast_S_S1x8x128 main_cst_6
  let main_v18 : IVec S1x8x128 1 := cmpf .olt main_v16 main_v17
  let main_c_7 : IVec S_ 1 := constantI S_ 1 1#1
  let main_v19 : IVec S_ 1 := (fun x v => Host.reduce IntOp.andi x v reducesTo_S1x8x128_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S4096x3072 .f32) (main_arg2 : FVec F S1x1024 .f32) (main_arg3 : FVec F S1x8x128x128 .f32) (main_arg4 : FVec F S1x8x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x8x128x128 .f32 := Host.absf main_arg3
  let main_cst_4 : FVec F S_ .f32 := constant S_ .f32 0x7F800000#32
  let main_v13 : FVec F S1x8x128x128 .f32 := broadcastInDim S1x8x128x128 ![] bcast_S_S1x8x128x128 main_cst_4
  let main_v14 : IVec S1x8x128x128 1 := cmpf .olt main_v12 main_v13
  let main_c_5 : IVec S_ 1 := constantI S_ 1 1#1
  let main_v15 : IVec S_ 1 := (fun x v => Host.reduce IntOp.andi x v reducesTo_S1x8x128x128_S_d0_1_2_3 h_S_) main_v14 main_c_5
  fn_part1 (F := F) main_arg4 main_v3 main_v7 main_v11 main_v15
-- ==== Pre_ffn_finite.lean ====
abbrev S4096x2048 : Shape := ⟨2, ![4096, 2048]⟩
abbrev S6144x2048 : Shape := ⟨2, ![6144, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S6144x2048 : S_.BroadcastsInDim S6144x2048 (![] : Fin 0 → Fin S6144x2048.rank)
  reducesTo_S6144x2048_S_d0_1 : S6144x2048.ReducesTo [0, 1] S_

variable [Facts]

def fn_part1 {F : FTy → Type} [FloatOps F] (main_arg4 : FVec F S4096x2048 .bf16) (main_v3 : IVec S_ 1) (main_v7 : IVec S_ 1) (main_v11 : IVec S_ 1) (main_v15 : IVec S_ 1) : IVec S_ 1 :=
  let main_v16 : FVec F S4096x2048 .bf16 := Host.absf main_arg4
  let main_cst_6 : FVec F S_ .bf16 := constant S_ .bf16 0x7F80#16
  let main_v17 : FVec F S4096x2048 .bf16 := broadcastInDim S4096x2048 ![] bcast_S_S4096x2048 main_cst_6
  let main_v18 : IVec S4096x2048 1 := cmpf .olt main_v16 main_v17
  let main_c_7 : IVec S_ 1 := constantI S_ 1 1#1
  let main_v19 : IVec S_ 1 := (fun x v => Host.reduce IntOp.andi x v reducesTo_S4096x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2048 .bf16) (main_arg1 : FVec F S6144x2048 .bf16) (main_arg2 : FVec F S6144x2048 .bf16) (main_arg3 : FVec F S6144x2048 .bf16) (main_arg4 : FVec F S4096x2048 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S6144x2048 .bf16 := Host.absf main_arg1
  let main_cst_0 : FVec F S_ .bf16 := constant S_ .bf16 0x7F80#16
  let main_v5 : FVec F S6144x2048 .bf16 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : FVec F S6144x2048 .bf16 := Host.absf main_arg2
  let main_cst_2 : FVec F S_ .bf16 := constant S_ .bf16 0x7F80#16
  let main_v9 : FVec F S6144x2048 .bf16 := broadcastInDim S6144x2048 ![] bcast_S_S6144x2048 main_cst_2
  let main_v10 : IVec S6144x2048 1 := cmpf .olt main_v8 main_v9
  let main_c_3 : IVec S_ 1 := constantI S_ 1 1#1
  let main_v11 : IVec S_ 1 := (fun x v => Host.reduce IntOp.andi x v reducesTo_S6144x2048_S_d0_1 h_S_) main_v10 main_c_3
  let main_v12 : FVec F S6144x2048 .bf16 := Host.absf main_arg3
  let main_cst_4 : FVec F S_ .bf16 := constant S_ .bf16 0x7F80#16
  let main_v13 : FVec F S6144x2048 .bf16 := broadcastInDim S6144x2048 ![] bcast_S_S6144x2048 main_cst_4
  let main_v14 : IVec S6144x2048 1 := cmpf .olt main_v12 main_v13
  let main_c_5 : IVec S_ 1 := constantI S_ 1 1#1
  let main_v15 : IVec S_ 1 := (fun x v => Host.reduce IntOp.andi x v reducesTo_S6144x2048_S_d0_1 h_S_) main_v14 main_c_5
  fn_part1 (F := F) main_arg4 main_v3 main_v7 main_v11 main_v15
-- ==== Kernel.lean ====
abbrev S4096x1024 : Shape := ⟨2, ![4096, 1024]⟩
abbrev S4096x3072 : Shape := ⟨2, ![4096, 3072]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S256x1024 : Shape := ⟨2, ![256, 1024]⟩
abbrev S256 : Shape := ⟨1, ![256]⟩
abbrev S256x1 : Shape := ⟨2, ![256, 1]⟩
abbrev S1x128x1 : Shape := ⟨3, ![1, 128, 1]⟩
abbrev S128x1 : Shape := ⟨2, ![128, 1]⟩
abbrev S128 : Shape := ⟨1, ![128]⟩
abbrev S1024 : Shape := ⟨1, ![1024]⟩

abbrev nBuf : Space → Nat
  | .hbm => 32
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S8x128x128, .f32⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128x128, .bf16⟩
  | .hbm, ⟨25, _⟩ => ⟨S8x128, .f32⟩
  | .hbm, ⟨26, _⟩ => ⟨S8x128x1, .f32⟩
  | .hbm, ⟨27, _⟩ => ⟨S4096x1024, .bf16⟩
  | .hbm, ⟨28, _⟩ => ⟨S4096x1024, .bf16⟩
  | .hbm, ⟨29, _⟩ => ⟨S1x1024, .f32⟩
  | .hbm, ⟨30, _⟩ => ⟨S8x128x128, .f32⟩
  | .hbm, ⟨31, _⟩ => ⟨S8x128x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x128x128, .bf16⟩
  | .local _ .vmem, ⟨8, _⟩ => ⟨S8x128x128, .bf16⟩
  | .local _ .vmem, ⟨9, _⟩ => ⟨S8x128x1, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S8x128x128, .f32⟩
  | .local _ .vmem, ⟨16, _⟩ => ⟨S8x128x1, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== ReferenceIdeal.lean ====
abbrev S4096x1024 : Shape := ⟨2, ![4096, 1024]⟩
abbrev S4096x3072 : Shape := ⟨2, ![4096, 3072]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S1x4096x1024 : Shape := ⟨3, ![1, 4096, 1024]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S8x128x1 : Shape := ⟨3, ![8, 128, 1]⟩

abbrev nBuf : Space → Nat
  | .hbm => 227
  | .vmem => 0
  | .smem => 0
  | _ => 0

abbrev hbmTy0_0 (i : Nat) : BufTy := match i % 128 with
  | 0 => ⟨S4096x1024, .f32⟩
  | 1 => ⟨S4096x3072, .f32⟩
  | 2 => ⟨S1x1024, .f32⟩
  | 3 => ⟨S1x8x128x128, .f32⟩
  | 4 => ⟨S1x8x128, .f32⟩
  | 5 => ⟨S_, .i1⟩
  | 6 => ⟨S128x128, .i1⟩
  | 7 => ⟨S128x128, .i32⟩
  | 8 => ⟨S_, .i32⟩
  | 9 => ⟨S128x128, .i32⟩
  | 10 => ⟨S128x128, .i32⟩
  | 11 => ⟨S128x128, .i32⟩
  | 12 => ⟨S128x128, .i1⟩
  | 13 => ⟨S_, .i1⟩
  | 14 => ⟨S128x128, .i1⟩
  | 15 => ⟨S128x128, .i1⟩
  | 16 => ⟨S1x128x128, .i1⟩
  | 17 => ⟨S8x128x128, .f32⟩
  | 18 => ⟨S8x128x128, .f32⟩
  | 19 => ⟨S_, .f32⟩
  | 20 => ⟨S8x128x128, .f32⟩
  | 21 => ⟨S8x128x128, .i1⟩
  | 22 => ⟨S8x128x128, .f32⟩
  | 23 => ⟨S4096x1024, .f32⟩
  | 24 => ⟨S4096x1024, .f32⟩
  | 25 => ⟨S8x128, .f32⟩
  | 26 => ⟨S1x4096x1024, .f32⟩
  | 27 => ⟨S1x4096x1024, .f32⟩
  | 28 => ⟨S1024, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S1x4096x1024, .f32⟩
  | 42 => ⟨S_, .f32⟩
  | 43 => ⟨S1x4096x1024, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S_, .f32⟩
  | 67 => ⟨S1x4096x1024, .f32⟩
  | 68 => ⟨S1x4096x1024, .f32⟩
  | 69 => ⟨S_, .f32⟩
  | 70 => ⟨S1x4096x1024, .f32⟩
  | 71 => ⟨S1x4096x1024, .f32⟩
  | 72 => ⟨S1x4096x1024, .f32⟩
  | 73 => ⟨S_, .f32⟩
  | 74 => ⟨S1x4096x1024, .f32⟩
  | 75 => ⟨S1x4096x1024, .f32⟩
  | 76 => ⟨S1x4096x1024, .f32⟩
  | 77 => ⟨S_, .f32⟩
  | 78 => ⟨S1x4096x1024, .f32⟩
  | 79 => ⟨S1x4096x1024, .f32⟩
  | 80 => ⟨S_, .f32⟩
  | 81 => ⟨S1x4096x1024, .f32⟩
  | 82 => ⟨S1x4096x1024, .f32⟩
  | 83 => ⟨S1x4096x1024, .f32⟩
  | 84 => ⟨S_, .f32⟩
  | 85 => ⟨S1x4096x1024, .f32⟩
  | 86 => ⟨S1x4096x1024, .f32⟩
  | 87 => ⟨S_, .f32⟩
  | 88 => ⟨S1x4096x1024, .f32⟩
  | 89 => ⟨S1x4096x1024, .f32⟩
  | 90 => ⟨S1x4096x1024, .f32⟩
  | 91 => ⟨S_, .f32⟩
  | 92 => ⟨S1x4096, .f32⟩
  | 93 => ⟨S1x4096x1, .f32⟩
  | 94 => ⟨S_, .f32⟩
  | 95 => ⟨S1x4096x1, .f32⟩
  | 96 => ⟨S1x4096x1, .f32⟩
  | 97 => ⟨S1x4096x1024, .f32⟩
  | 98 => ⟨S1x4096x1024, .f32⟩
  | 99 => ⟨S1x4096x1024, .f32⟩
  | 100 => ⟨S_, .f32⟩
  | 101 => ⟨S1x4096, .f32⟩
  | 102 => ⟨S1x4096x1, .f32⟩
  | 103 => ⟨S_, .f32⟩
  | 104 => ⟨S1x4096x1, .f32⟩
  | 105 => ⟨S1x4096x1, .f32⟩
  | 106 => ⟨S_, .f32⟩
  | 107 => ⟨S1x4096x1, .f32⟩
  | 108 => ⟨S1x4096x1, .f32⟩
  | 109 => ⟨S1x4096x1, .f32⟩
  | 110 => ⟨S1x4096x1, .f32⟩
  | 111 => ⟨S_, .f32⟩
  | 112 => ⟨S1x4096x1, .f32⟩
  | 113 => ⟨S1x4096x1, .f32⟩
  | 114 => ⟨S1x4096x1024, .f32⟩
  | 115 => ⟨S1x4096x1024, .f32⟩
  | 116 => ⟨S1x1x1024, .f32⟩
  | 117 => ⟨S1x4096x1024, .f32⟩
  | 118 => ⟨S1x4096x1024, .f32⟩
  | 119 => ⟨S1x32x128x8x128, .f32⟩
  | 120 => ⟨S8x1x32x128x128, .f32⟩
  | 121 => ⟨S1x32x128x8x128, .f32⟩
  | 122 => ⟨S128x8, .f32⟩
  | 123 => ⟨S1x1x128x8x1, .f32⟩
  | 124 => ⟨S1x32x128x8x128, .f32⟩
  | 125 => ⟨S1x32x128x8x128, .f32⟩
  | 126 => ⟨S1x32x128x8x128, .f32⟩
  | 127 => ⟨S1x32x128x8x128, .f32⟩
  | _ => ⟨S4096x1024, .f32⟩

abbrev hbmTy0_1 (i : Nat) : BufTy := match i % 128 with
  | 0 => ⟨S1x4096x1024, .f32⟩
  | 1 => ⟨S1x4096x1024, .f32⟩
  | 2 => ⟨S1x32x128x8x128, .f32⟩
  | 3 => ⟨S1x32x128x8x128, .f32⟩
  | 4 => ⟨S1x32x128x8x128, .f32⟩
  | 5 => ⟨S1x4096x1024, .f32⟩
  | 6 => ⟨S_, .f32⟩
  | 7 => ⟨S1x128x8, .f32⟩
  | 8 => ⟨S1x1x128x8x1, .f32⟩
  | 9 => ⟨S_, .f32⟩
  | 10 => ⟨S128x8, .f32⟩
  | 11 => ⟨S8x128, .f32⟩
  | 12 => ⟨S8x1x32x128x128, .f32⟩
  | 13 => ⟨S8x128x128, .f32⟩
  | 14 => ⟨S8x1x32x128x128, .f32⟩
  | 15 => ⟨S1x32x128x8x128, .f32⟩
  | 16 => ⟨S1x4096x1024, .f32⟩
  | 17 => ⟨S1x4096x1024, .f32⟩
  | 18 => ⟨S_, .f32⟩
  | 19 => ⟨S1x1024, .f32⟩
  | 20 => ⟨S1x1x1024, .f32⟩
  | 21 => ⟨S1x4096x1024, .f32⟩
  | 22 => ⟨S1x4096x1024, .f32⟩
  | 23 => ⟨S_, .f32⟩
  | 24 => ⟨S1024, .f32⟩
  | 25 => ⟨S1x4096x1024, .f32⟩
  | 26 => ⟨S_, .f32⟩
  | 27 => ⟨S1x4096, .f32⟩
  | 28 => ⟨S1x4096x1, .f32⟩
  | 29 => ⟨S1x4096x1024, .f32⟩
  | 30 => ⟨S1x4096x1024, .f32⟩
  | 31 => ⟨S1x4096x1, .f32⟩
  | 32 => ⟨S_, .f32⟩
  | 33 => ⟨S1x4096x1, .f32⟩
  | 34 => ⟨S1x4096x1, .f32⟩
  | 35 => ⟨S_, .f32⟩
  | 36 => ⟨S4096, .f32⟩
  | 37 => ⟨S1x4096, .f32⟩
  | 38 => ⟨S1x4096x1024, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S_, .f32⟩
  | 45 => ⟨S1x4096, .f32⟩
  | 46 => ⟨S1x4096x1, .f32⟩
  | 47 => ⟨S_, .f32⟩
  | 48 => ⟨S1x4096x1, .f32⟩
  | 49 => ⟨S1x4096x1, .f32⟩
  | 50 => ⟨S_, .f32⟩
  | 51 => ⟨S4096, .f32⟩
  | 52 => ⟨S1x4096, .f32⟩
  | 53 => ⟨S1x4096x1024, .f32⟩
  | 54 => ⟨S1x4096x1024, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S_, .f32⟩
  | 62 => ⟨S1x4096x1024, .f32⟩
  | 63 => ⟨S1x4096x1024, .f32⟩
  | 64 => ⟨S1x4096x1024, .f32⟩
  | 65 => ⟨S_, .f32⟩
  | 66 => ⟨S1x4096x1024, .f32⟩
  | 67 => ⟨S1x4096x1024, .f32⟩
  | 68 => ⟨S_, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S_, .f32⟩
  | 76 => ⟨S1x4096x1024, .f32⟩
  | 77 => ⟨S1x4096x1024, .f32⟩
  | 78 => ⟨S1x4096x1024, .f32⟩
  | 79 => ⟨S_, .f32⟩
  | 80 => ⟨S1x4096x1024, .f32⟩
  | 81 => ⟨S1x4096x1024, .f32⟩
  | 82 => ⟨S1x4096x1024, .f32⟩
  | 83 => ⟨S_, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x1024, .f32⟩
  | 92 => ⟨S_, .f32⟩
  | 93 => ⟨S4096x1024, .f32⟩
  | 94 => ⟨S_, .f32⟩
  | 95 => ⟨S4096x1024, .f32⟩
  | 96 => ⟨S4096x1024, .bf16⟩
  | 97 => ⟨S4096x1024, .bf16⟩
  | 98 => ⟨S8x128x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_cst_19 : Ref sig .tc := ⟨.hbm, 103, rfl⟩
abbrev main_v68 : Ref sig .tc := ⟨.hbm, 104, rfl⟩
abbrev main_v69 : Ref sig .tc := ⟨.hbm, 105, rfl⟩
abbrev main_cst_20 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_21 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_cst_23 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_25 : Ref sig .tc := ⟨.hbm, 151, rfl⟩
abbrev main_v110 : Ref sig .tc := ⟨.hbm, 152, rfl⟩
abbrev main_v111 : Ref sig .tc := ⟨.hbm, 153, rfl⟩
abbrev main_cst_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_27 : Ref sig .tc := ⟨.hbm, 160, rfl⟩
abbrev main_v117 : Ref sig .tc := ⟨.hbm, 161, rfl⟩
abbrev main_v118 : Ref sig .tc := ⟨.hbm, 162, rfl⟩
abbrev main_cst_28 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_29 : Ref sig .tc := ⟨.hbm, 172, rfl⟩
abbrev main_v127 : Ref sig .tc := ⟨.hbm, 173, rfl⟩
abbrev main_v128 : Ref sig .tc := ⟨.hbm, 174, rfl⟩
abbrev main_cst_30 : Ref sig .tc := ⟨.hbm, 175, rfl⟩
abbrev main_v129 : Ref sig .tc := ⟨.hbm, 176, rfl⟩
abbrev main_v130 : Ref sig .tc := ⟨.hbm, 177, rfl⟩
abbrev main_cst_31 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_32 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_33 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_34 : Ref sig .tc := ⟨.hbm, 193, rfl⟩
abbrev main_v143 : Ref sig .tc := ⟨.hbm, 194, rfl⟩
abbrev main_v144 : Ref sig .tc := ⟨.hbm, 195, rfl⟩
abbrev main_cst_35 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_36 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_37 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_38 : Ref sig .tc := ⟨.hbm, 211, rfl⟩
abbrev main_v157 : Ref sig .tc := ⟨.hbm, 212, rfl⟩
abbrev main_v158 : Ref sig .tc := ⟨.hbm, 213, rfl⟩
abbrev main_cst_39 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_40 : Ref sig .tc := ⟨.hbm, 220, rfl⟩
abbrev main_v164 : Ref sig .tc := ⟨.hbm, 221, rfl⟩
abbrev main_cst_41 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩

abbrev nD : Nat := 1
abbrev τ : Topo := Topo.v7x

variable {F : FTy → Type} [FloatOps F]
-- ==== Kernel2.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 17
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S6144x2048, .bf16⟩
  | .hbm, ⟨3, _⟩ => ⟨S6144x2048, .bf16⟩
  | .hbm, ⟨4, _⟩ => ⟨S4096x2048, .bf16⟩
  | .hbm, ⟨5, _⟩ => ⟨S4096x2048, .f32⟩
  | .hbm, ⟨6, _⟩ => ⟨S6144x2048, .f32⟩
  | .hbm, ⟨7, _⟩ => ⟨S2048x6144, .f32⟩
  | .hbm, ⟨8, _⟩ => ⟨S4096x6144, .f32⟩
  | .hbm, ⟨9, _⟩ => ⟨S4096x6144, .bf16⟩
  | .hbm, ⟨10, _⟩ => ⟨S4096x2048, .f32⟩
  | .hbm, ⟨11, _⟩ => ⟨S6144x2048, .f32⟩
  | .hbm, ⟨12, _⟩ => ⟨S2048x6144, .f32⟩
  | .hbm, ⟨13, _⟩ => ⟨S4096x6144, .f32⟩
  | .hbm, ⟨14, _⟩ => ⟨S4096x6144, .bf16⟩
  | .hbm, ⟨15, _⟩ => ⟨S4096x6144, .bf16⟩
  | .hbm, ⟨16, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S6144x2048, .bf16⟩
  | .hbm, ⟨3, _⟩ => ⟨S6144x2048, .bf16⟩
  | .hbm, ⟨4, _⟩ => ⟨S4096x2048, .bf16⟩
  | .hbm, ⟨5, _⟩ => ⟨S4096x2048, .f32⟩
  | .hbm, ⟨6, _⟩ => ⟨S6144x2048, .f32⟩
  | .hbm, ⟨7, _⟩ => ⟨S6144x2048, .f32⟩
  | .hbm, ⟨8, _⟩ => ⟨S6144x2048, .f32⟩
  | .hbm, ⟨9, _⟩ => ⟨S4096x2048, .f32⟩
  | .hbm, ⟨10, _⟩ => ⟨S2048x6144, .f32⟩
  | .hbm, ⟨11, _⟩ => ⟨S4096x6144, .f32⟩
  | .hbm, ⟨12, _⟩ => ⟨S2048x6144, .f32⟩
  | .hbm, ⟨13, _⟩ => ⟨S4096x6144, .f32⟩
  | .hbm, ⟨14, _⟩ => ⟨S4096x6144, .f32⟩
  | .hbm, ⟨15, _⟩ => ⟨S4096x6144, .f32⟩
  | .hbm, ⟨16, _⟩ => ⟨S_, .f32⟩
  | .hbm, ⟨17, _⟩ => ⟨S4096x6144, .f32⟩
  | .hbm, ⟨18, _⟩ => ⟨S4096x6144, .f32⟩
  | .hbm, ⟨19, _⟩ => ⟨S_, .f32⟩
  | .hbm, ⟨20, _⟩ => ⟨S4096x6144, .f32⟩
  | .hbm, ⟨21, _⟩ => ⟨S4096x6144, .f32⟩
  | .hbm, ⟨22, _⟩ => ⟨S_, .f32⟩
  | .hbm, ⟨23, _⟩ => ⟨S4096x6144, .f32⟩
  | .hbm, ⟨24, _⟩ => ⟨S4096x6144, .f32⟩
  | .hbm, ⟨25, _⟩ => ⟨S4096x6144, .f32⟩
  | .hbm, ⟨26, _⟩ => ⟨S4096x6144, .f32⟩
  | .hbm, ⟨27, _⟩ => ⟨S4096x6144, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x6144, .f32⟩
  | .hbm, ⟨36, _⟩ => ⟨S4096x6144, .f32⟩
  | .hbm, ⟨37, _⟩ => ⟨S4096x6144, .f32⟩
  | .hbm, ⟨38, _⟩ => ⟨S4096x6144, .f32⟩
  | .hbm, ⟨39, _⟩ => ⟨S4096x6144, .f32⟩
  | .hbm, ⟨40, _⟩ => ⟨S4096x6144, .f32⟩
  | .hbm, ⟨41, _⟩ => ⟨S4096x6144, .f32⟩
  | .hbm, ⟨42, _⟩ => ⟨S4096x6144, .bf16⟩
  | .hbm, ⟨43, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Kernel3.lean ====
abbrev S4096x6144 : Shape := ⟨2, ![4096, 6144]⟩
abbrev S4096x2048 : Shape := ⟨2, ![4096, 2048]⟩
abbrev S6144x2048 : Shape := ⟨2, ![6144, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S6144x2048, .f32⟩
  | .hbm, ⟨11, _⟩ => ⟨S6144x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x6144 : Shape := ⟨2, ![4096, 6144]⟩
abbrev S4096x2048 : Shape := ⟨2, ![4096, 2048]⟩
abbrev S6144x2048 : Shape := ⟨2, ![6144, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 16
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x6144, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x6144, .f32⟩
  | .hbm, ⟨14, _⟩ => ⟨S6144x2048, .f32⟩
  | .hbm, ⟨15, _⟩ => ⟨S6144x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S4096x6144 : Shape := ⟨2, ![4096, 6144]⟩
abbrev S6144x2048 : Shape := ⟨2, ![6144, 2048]⟩
abbrev S4096x2048 : Shape := ⟨2, ![4096, 2048]⟩
abbrev S1024x6144 : Shape := ⟨2, ![1024, 6144]⟩
abbrev S6144x512 : Shape := ⟨2, ![6144, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x6144 : Shape := ⟨2, ![4096, 6144]⟩
abbrev S6144x2048 : Shape := ⟨2, ![6144, 2048]⟩
abbrev S_ : Shape := ⟨0, ![]⟩
abbrev S4096x2048 : Shape := ⟨2, ![4096, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S_, .f32⟩
  | .hbm, ⟨3, _⟩ => ⟨S4096x2048, .f32⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x6144 : Shape := ⟨2, ![4096, 6144]⟩
abbrev S6144x2048 : Shape := ⟨2, ![6144, 2048]⟩
abbrev S4096x2048 : Shape := ⟨2, ![4096, 2048]⟩
abbrev S1024x6144 : Shape := ⟨2, ![1024, 6144]⟩
abbrev S6144x512 : Shape := ⟨2, ![6144, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x6144 : Shape := ⟨2, ![4096, 6144]⟩
abbrev S6144x2048 : Shape := ⟨2, ![6144, 2048]⟩
abbrev S4096x2048 : Shape := ⟨2, ![4096, 2048]⟩
abbrev S_ : Shape := ⟨0, ![]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S6144x2048, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .f32⟩
  | .hbm, ⟨3, _⟩ => ⟨S4096x6144, .bf16⟩
  | .hbm, ⟨4, _⟩ => ⟨S4096x6144, .bf16⟩
  | .hbm, ⟨5, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x2048 : Shape := ⟨2, ![4096, 2048]⟩
abbrev S6144x2048 : Shape := ⟨2, ![6144, 2048]⟩
abbrev S4096x6144 : Shape := ⟨2, ![4096, 6144]⟩
abbrev S2048x6144 : Shape := ⟨2, ![2048, 6144]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .f32⟩
  | .hbm, ⟨3, _⟩ => ⟨S4096x2048, .f32⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x6144, .bf16⟩
  | .hbm, ⟨8, _⟩ => ⟨S4096x6144, .bf16⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel9.lean ====
abbrev S4096x6144 : Shape := ⟨2, ![4096, 6144]⟩
abbrev S6144x2048 : Shape := ⟨2, ![6144, 2048]⟩
abbrev S4096x2048 : Shape := ⟨2, ![4096, 2048]⟩
abbrev S1024x6144 : Shape := ⟨2, ![1024, 6144]⟩
abbrev S6144x512 : Shape := ⟨2, ![6144, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x2048, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x6144 : Shape := ⟨2, ![4096, 6144]⟩
abbrev S6144x2048 : Shape := ⟨2, ![6144, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .hbm, ⟨3, _⟩ => ⟨S4096x6144, .f32⟩
  | .hbm, ⟨4, _⟩ => ⟨S6144x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S6144x2048 : Shape := ⟨2, ![6144, 2048]⟩
abbrev S4096x6144 : Shape := ⟨2, ![4096, 6144]⟩
abbrev S1024x2048 : Shape := ⟨2, ![1024, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S6144x2048, .bf16⟩
  | .hbm, ⟨3, _⟩ => ⟨S4096x6144, .bf16⟩
  | .hbm, ⟨4, _⟩ => ⟨S4096x6144, .bf16⟩
  | .hbm, ⟨5, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S6144x2048, .bf16⟩
  | .hbm, ⟨3, _⟩ => ⟨S4096x2048, .f32⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x2048, .f32⟩
  | .hbm, ⟨8, _⟩ => ⟨S6144x2048, .f32⟩
  | .hbm, ⟨9, _⟩ => ⟨S2048x6144, .f32⟩
  | .hbm, ⟨10, _⟩ => ⟨S4096x6144, .f32⟩
  | .hbm, ⟨11, _⟩ => ⟨S4096x6144, .bf16⟩
  | .hbm, ⟨12, _⟩ => ⟨S4096x6144, .bf16⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S_, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S4096x6144, .f32⟩
  | .hbm, ⟨23, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel11.lean ====
abbrev S4096x2048 : Shape := ⟨2, ![4096, 2048]⟩
abbrev S2048x3072 : Shape := ⟨2, ![2048, 3072]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S4096x3072 : Shape := ⟨2, ![4096, 3072]⟩
abbrev S2048x3072 : Shape := ⟨2, ![2048, 3072]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x3072 : Shape := ⟨2, ![4096, 3072]⟩
abbrev S2048x3072 : Shape := ⟨2, ![2048, 3072]⟩
abbrev S4096x2048 : Shape := ⟨2, ![4096, 2048]⟩
abbrev S1024x3072 : Shape := ⟨2, ![1024, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .f32⟩
  | .hbm, ⟨3, _⟩ => ⟨S4096x2048, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S1024x2048 : Shape := ⟨2, ![1024, 2048]⟩
abbrev S2048x1024 : Shape := ⟨2, ![2048, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .bf16⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .bf16⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x256, .f32⟩
  | .hbm, ⟨9, _⟩ => ⟨S256x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel21.lean ====
abbrev S4096x256 : Shape := ⟨2, ![4096, 256]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4096x2048 : Shape := ⟨2, ![4096, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel24.lean ====
abbrev S4096x2048 : Shape := ⟨2, ![4096, 2048]⟩
abbrev S4096x1024 : Shape := ⟨2, ![4096, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S1x1024, .f32⟩
  | .hbm, ⟨10, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference24Ideal.lean ====
abbrev S4096x2048 : Shape := ⟨2, ![4096, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x2048, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096, .f32⟩
  | .hbm, ⟨109, _⟩ => ⟨S4096x1, .f32⟩
  | .hbm, ⟨110, _⟩ => ⟨S4096x1024, .f32⟩
  | .hbm, ⟨111, _⟩ => ⟨S4096x1024, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S_, .f32⟩
  | .hbm, ⟨117, _⟩ => ⟨S4096, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S4096x1024, .f32⟩
  | .hbm, ⟨123, _⟩ => ⟨S4096x1024, .f32⟩
  | .hbm, ⟨124, _⟩ => ⟨S4096x1024, .f32⟩
  | .hbm, ⟨125, _⟩ => ⟨S4096x1024, .f32⟩
  | .hbm, ⟨126, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_18 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_19 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_20 : Ref sig .tc := ⟨.hbm, 113, rfl⟩
abbrev main_v86 : Ref sig .tc := ⟨.hbm, 114, rfl⟩
abbrev main_v87 : Ref sig .tc := ⟨.hbm, 115, rfl⟩
abbrev main_cst_21 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x2048, .f32⟩
  | .hbm, ⟨62, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel27.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S8x128, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S8x128, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel28.lean ====
abbrev S4096x3072 : Shape := ⟨2, ![4096, 3072]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S1x128x1 : Shape := ⟨3, ![1, 128, 1]⟩
abbrev S128x1 : Shape := ⟨2, ![128, 1]⟩

abbrev nBuf : Space → Nat
  | .hbm => 26
  | .vmem => 9
  | .smem => 0
  | _ => 0

abbrev bufTy : (tb : Table) → Fin (tcTables nBuf tb) → BufTy
  | .hbm, ⟨0, _⟩ => ⟨S4096x3072, .f32⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S_, .i1⟩
  | .hbm, ⟨5, _⟩ => ⟨S128x128, .i1⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .i1⟩
  | .hbm, ⟨13, _⟩ => ⟨S128x128, .i1⟩
  | .hbm, ⟨14, _⟩ => ⟨S128x128, .i1⟩
  | .hbm, ⟨15, _⟩ => ⟨S1x128x128, .i1⟩
  | .hbm, ⟨16, _⟩ => ⟨S8x128x128, .f32⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S8x128, .f32⟩
  | .hbm, ⟨24, _⟩ => ⟨S8x128x1, .f32⟩
  | .hbm, ⟨25, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x128x128, .bf16⟩
  | .local _ .vmem, ⟨6, _⟩ => ⟨S8x128x1, .f32⟩
  | .local _ .vmem, ⟨7, _⟩ => ⟨S256x1024, .f32⟩
  | .local _ .vmem, ⟨8, _⟩ => ⟨S256x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S4096x3072 : Shape := ⟨2, ![4096, 3072]⟩
abbrev S1x1024 : Shape := ⟨2, ![1, 1024]⟩
abbrev S1x8x128x128 : Shape := ⟨4, ![1, 8, 128, 128]⟩
abbrev S1x8x128 : Shape := ⟨3, ![1, 8, 128]⟩
abbrev S4096x1024 : Shape := ⟨2, ![4096, 1024]⟩
abbrev S1x4096x1024 : Shape := ⟨3, ![1, 4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S128x128 : Shape := ⟨2, ![128, 128]⟩
abbrev S1x128x128 : Shape := ⟨3, ![1, 128, 128]⟩
abbrev S1x32x128x8x128 : Shape := ⟨5, ![1, 32, 128, 8, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩

abbrev nBuf : Space → Nat
  | .hbm => 96
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S4096x1024, .f32⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S1024, .f32⟩
  | .hbm, ⟨9, _⟩ => ⟨S8x128x128, .f32⟩
  | .hbm, ⟨10, _⟩ => ⟨S8x128, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S_, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096x1024, .f32⟩
  | .hbm, ⟨23, _⟩ => ⟨S1x4096x1024, .f32⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S_, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x4096, .f32⟩
  | .hbm, ⟨56, _⟩ => ⟨S1x4096x1, .f32⟩
  | .hbm, ⟨57, _⟩ => ⟨S_, .f32⟩
  | .hbm, ⟨58, _⟩ => ⟨S1x4096x1, .f32⟩
  | .hbm, ⟨59, _⟩ => ⟨S1x4096x1, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S1x4096x1, .f32⟩
  | .hbm, ⟨64, _⟩ => ⟨S1x4096x1024, .f32⟩
  | .hbm, ⟨65, _⟩ => ⟨S1x4096x1024, .f32⟩
  | .hbm, ⟨66, _⟩ => ⟨S1x1x1024, .f32⟩
  | .hbm, ⟨67, _⟩ => ⟨S1x4096x1024, .f32⟩
  | .hbm, ⟨68, _⟩ => ⟨S1x4096x1024, .f32⟩
  | .hbm, ⟨69, _⟩ => ⟨S_, .i1⟩
  | .hbm, ⟨70, _⟩ => ⟨S128x128, .i1⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i1⟩
  | .hbm, ⟨78, _⟩ => ⟨S128x128, .i1⟩
  | .hbm, ⟨79, _⟩ => ⟨S128x128, .i1⟩
  | .hbm, ⟨80, _⟩ => ⟨S1x128x128, .i1⟩
  | .hbm, ⟨81, _⟩ => ⟨S_, .f32⟩
  | .hbm, ⟨82, _⟩ => ⟨S8x128x128, .f32⟩
  | .hbm, ⟨83, _⟩ => ⟨S8x128x128, .i1⟩
  | .hbm, ⟨84, _⟩ => ⟨S8x128x128, .f32⟩
  | .hbm, ⟨85, _⟩ => ⟨S1x32x128x8x128, .f32⟩
  | .hbm, ⟨86, _⟩ => ⟨S8x1x32x128x128, .f32⟩
  | .hbm, ⟨87, _⟩ => ⟨S1x32x128x8x128, .f32⟩
  | .hbm, ⟨88, _⟩ => ⟨S128x8, .f32⟩
  | .hbm, ⟨89, _⟩ => ⟨S1x1x128x8x1, .f32⟩
  | .hbm, ⟨90, _⟩ => ⟨S1x32x128x8x128, .f32⟩
  | .hbm, ⟨91, _⟩ => ⟨S1x32x128x8x128, .f32⟩
  | .hbm, ⟨92, _⟩ => ⟨S1x32x128x8x128, .f32⟩
  | .hbm, ⟨93, _⟩ => ⟨S1x32x128x8x128, .f32⟩
  | .hbm, ⟨94, _⟩ => ⟨S1x4096x1024, .f32⟩
  | .hbm, ⟨95, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_v52 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Kernel29.lean ====
abbrev S4x768x2048 : Shape := ⟨3, ![4, 768, 2048]⟩
abbrev S704x2048 : Shape := ⟨2, ![704, 2048]⟩
abbrev S4x176x2048 : Shape := ⟨3, ![4, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x768x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x176x2048, .bf16⟩
  | .local _ .vmem, ⟨1, _⟩ => ⟨S4x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S4x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S4x768x2048 : Shape := ⟨3, ![4, 768, 2048]⟩
abbrev S704x2048 : Shape := ⟨2, ![704, 2048]⟩
abbrev S_ : Shape := ⟨0, ![]⟩
abbrev S768x2048 : Shape := ⟨2, ![768, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x768x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S4x768x2048, .f32⟩
  | .hbm, ⟨5, _⟩ => ⟨S_, .f32⟩
  | .hbm, ⟨6, _⟩ => ⟨S768x2048, .f32⟩
  | .hbm, ⟨7, _⟩ => ⟨S704x2048, .f32⟩
  | .hbm, ⟨8, _⟩ => ⟨S_, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | _, _ => ⟨S4x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel30.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference30Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Spec.lean ====
module
public import Idealize.ShloMosaic.Lib.Pointwise

/-! # The gate's derivative over the reals

The forward lines of the chunked gMLP gate are, for a token `r` and a column `q` of head `q / 128`,

  `out r q = gelu (zu r q) * S r q`,
  `S r q = ∑ k, w (q / 128) (r % 128) k * V (128 * (r / 128) + k) q + b (q / 128) (r % 128)`,

with `V` the layer norm of `gelu zv` times the gain. This file states those lines and the five derivatives
against a cotangent `dy`, as functions of natural numbers: a tile of the kernel is then the same function at a
shifted row, with no cast between index types. -/

@[expose] public section

namespace Gate

noncomputable section

/-- The rounded `√(2/π)` of both programs. -/
def gk : ℝ := 13386282 / 16777216

/-- The constant of the cubic term of gelu, by its exact value. -/
def gc : ℝ := 8943 / 200000

/-- The rounded `1e-6` that the layer norm adds to the variance. -/
def eps : ℝ := 8796093 / 8796093022208

/-- The hyperbolic tangent inside gelu. -/
def th (x : ℝ) : ℝ := Real.tanh (gk * (x + gc * x * x * x))

/-- gelu, in its tanh form. -/
def gelu (x : ℝ) : ℝ := 1 / 2 * x * (1 + th x)

/-- The derivative of gelu. -/
def gelu' (x : ℝ) : ℝ :=
  1 / 2 * (1 + th x) + 1 / 2 * x * (1 - th x * th x) * (gk * (1 + 3 * gc * x * x))

/-- The arrays of one backward call. `w` is the causally masked mixing matrix of every head. -/
structure Inp where
  /-- the cotangent of the gate's output -/
  dy : ℕ → ℕ → ℝ
  /-- the pre-activation of the gating half -/
  zu : ℕ → ℕ → ℝ
  /-- the pre-activation of the mixed half -/
  zv : ℕ → ℕ → ℝ
  /-- the layer norm's gain -/
  nv : ℕ → ℝ
  /-- the masked mixing matrices -/
  w : ℕ → ℕ → ℕ → ℝ
  /-- the mixing biases -/
  b : ℕ → ℕ → ℝ

namespace Inp

variable (I : Inp)

/-- The same arrays seen from row `s` on. -/
def shift (s : ℕ) : Inp :=
  { I with dy := fun r q => I.dy (s + r) q, zu := fun r q => I.zu (s + r) q, zv := fun r q => I.zv (s + r) q }

/-- A row's mean of `gelu zv`. -/
def mean (r : ℕ) : ℝ := (∑ k : Fin 1024, gelu (I.zv r k.val)) / 1024

/-- `gelu zv` centred. -/
def xc (r q : ℕ) : ℝ := gelu (I.zv r q) - I.mean r

/-- A row's mean square. -/
def var (r : ℕ) : ℝ := (∑ k : Fin 1024, I.xc r k.val * I.xc r k.val) / 1024

/-- The layer norm's reciprocal standard deviation. -/
def rs (r : ℕ) : ℝ := (√(I.var r + eps))⁻¹

/-- The normalised row. -/
def xh (r q : ℕ) : ℝ := I.xc r q * I.rs r

/-- The layer norm's result. -/
def V (r q : ℕ) : ℝ := I.xh r q * I.nv q

/-- The mixed half: each chunk of 128 tokens mixed by its head's matrix, plus the bias. -/
def S (r q : ℕ) : ℝ :=
  (∑ k : Fin 128, I.w (q / 128) (r % 128) k.val * I.V (128 * (r / 128) + k.val) q) + I.b (q / 128) (r % 128)

/-- The gradient of the gating half's pre-activation. -/
def dzu (r q : ℕ) : ℝ := I.dy r q * I.S r q * gelu' (I.zu r q)

/-- The gradient of the mixed half's value `S`. -/
def ds (r q : ℕ) : ℝ := I.dy r q * gelu (I.zu r q)

/-- The gradient of the layer norm's result: `ds` mixed by the transposed matrix. -/
def DV (r q : ℕ) : ℝ :=
  ∑ k : Fin 128, I.w (q / 128) k.val (r % 128) * I.ds (128 * (r / 128) + k.val) q

/-- The gradient of the normalised row. -/
def dxh (r q : ℕ) : ℝ := I.DV r q * I.nv q

/-- The gradient of `gelu zv`: the layer norm's backward formula. -/
def dgv (r q : ℕ) : ℝ :=
  I.rs r * (I.dxh r q - (∑ k : Fin 1024, I.dxh r k.val) / 1024
    - I.xh r q * ((∑ k : Fin 1024, I.dxh r k.val * I.xh r k.val) / 1024))

/-- The gradient of the mixed half's pre-activation. -/
def dzv (r q : ℕ) : ℝ := I.dgv r q * gelu' (I.zv r q)

/-- One row's part of the gain's gradient. -/
def dnvAt (r q : ℕ) : ℝ := I.DV r q * I.xh r q

/-- One chunk's part of a bias's gradient. -/
def dbsAt (c h i : ℕ) : ℝ := ∑ p : Fin 128, I.ds (128 * c + i) (128 * h + p.val)

/-- One chunk's part of a mixing matrix's gradient. -/
def dwmAt (c h i k : ℕ) : ℝ :=
  ∑ p : Fin 128, I.ds (128 * c + i) (128 * h + p.val) * I.V (128 * c + k) (128 * h + p.val)

/-- The gradient of the layer norm's gain, over the first `n` rows. -/
def dnv (n q : ℕ) : ℝ := ∑ r : Fin n, I.dnvAt r.val q

/-- The gradient of the mixing biases, over the first `n` chunks. -/
def dbs (n h i : ℕ) : ℝ := ∑ c : Fin n, I.dbsAt c.val h i

/-- The gradient of the mixing matrices, over the first `n` chunks. -/
def dwm (n h i k : ℕ) : ℝ := ∑ c : Fin n, I.dwmAt c.val h i k

/-! ## Shifting by whole chunks commutes with everything -/

theorem mean_shift (s r : ℕ) : (I.shift s).mean r = I.mean (s + r) := rfl
theorem rs_shift (s r : ℕ) : (I.shift s).rs r = I.rs (s + r) := rfl
theorem xh_shift (s r q : ℕ) : (I.shift s).xh r q = I.xh (s + r) q := rfl
theorem V_shift (s r q : ℕ) : (I.shift s).V r q = I.V (s + r) q := rfl
theorem ds_shift (s r q : ℕ) : (I.shift s).ds r q = I.ds (s + r) q := rfl

theorem chunk_mod (n r : ℕ) : (128 * n + r) % 128 = r % 128 := by omega
theorem chunk_div (n r k : ℕ) : 128 * ((128 * n + r) / 128) + k = 128 * n + (128 * (r / 128) + k) := by omega

theorem S_shift (n r q : ℕ) : (I.shift (128 * n)).S r q = I.S (128 * n + r) q := by
  unfold S
  rw [chunk_mod]
  simp only [chunk_div]
  rfl

theorem DV_shift (n r q : ℕ) : (I.shift (128 * n)).DV r q = I.DV (128 * n + r) q := by
  unfold DV
  rw [chunk_mod]
  simp only [chunk_div]
  rfl

theorem dzu_shift (n r q : ℕ) : (I.shift (128 * n)).dzu r q = I.dzu (128 * n + r) q := by
  unfold dzu
  rw [S_shift]
  rfl

theorem dxh_shift (n r q : ℕ) : (I.shift (128 * n)).dxh r q = I.dxh (128 * n + r) q := by
  unfold dxh
  rw [DV_shift]
  rfl

theorem dgv_shift (n r q : ℕ) : (I.shift (128 * n)).dgv r q = I.dgv (128 * n + r) q := by
  unfold dgv
  simp only [dxh_shift]
  rfl

theorem dzv_shift (n r q : ℕ) : (I.shift (128 * n)).dzv r q = I.dzv (128 * n + r) q := by
  unfold dzv
  rw [dgv_shift]
  rfl

theorem dnvAt_shift (n r q : ℕ) : (I.shift (128 * n)).dnvAt r q = I.dnvAt (128 * n + r) q := by
  unfold dnvAt
  rw [DV_shift]
  rfl

theorem dbsAt_shift (n c h i : ℕ) : (I.shift (128 * n)).dbsAt c h i = I.dbsAt (n + c) h i := by
  unfold dbsAt
  simp only [ds_shift, mul_add, add_assoc]

theorem dwmAt_shift (n c h i k : ℕ) : (I.shift (128 * n)).dwmAt c h i k = I.dwmAt (n + c) h i k := by
  unfold dwmAt
  simp only [ds_shift, V_shift, mul_add, add_assoc]

/-- The variance plus the added constant is positive, so nothing below divides by zero. -/
theorem var_eps_pos (r : ℕ) : 0 < I.var r + eps := by
  have h : 0 ≤ I.var r := by
    unfold var
    exact div_nonneg (Finset.sum_nonneg fun k _ => mul_self_nonneg _) (by norm_num)
  have he : (0 : ℝ) < eps := by unfold eps; norm_num
  linarith

/-! ## Adding one point of 256 rows, two chunks -/

theorem dnv_zero (q : ℕ) : I.dnv 0 q = 0 := rfl
theorem dbs_zero (h i : ℕ) : I.dbs 0 h i = 0 := rfl
theorem dwm_zero (h i k : ℕ) : I.dwm 0 h i k = 0 := rfl

theorem dnv_step (t q : ℕ) :
    I.dnv (256 * (t + 1)) q = I.dnv (256 * t) q + ∑ r : Fin 256, (I.shift (128 * (2 * t))).dnvAt r.val q := by
  unfold dnv
  simp only [dnvAt_shift]
  rw [show 256 * (t + 1) = 256 * t + 256 from by ring, Fin.sum_univ_add]
  congr 1
  refine Finset.sum_congr rfl fun r _ => ?_
  simp [show 128 * (2 * t) = 256 * t from by ring]

theorem dbs_step (t h i : ℕ) :
    I.dbs (2 * (t + 1)) h i
      = I.dbs (2 * t) h i + (I.shift (128 * (2 * t))).dbsAt 0 h i + (I.shift (128 * (2 * t))).dbsAt 1 h i := by
  unfold dbs
  simp only [dbsAt_shift]
  rw [show 2 * (t + 1) = 2 * t + 1 + 1 from by ring, Fin.sum_univ_castSucc, Fin.sum_univ_castSucc]
  rfl

theorem dwm_step (t h i k : ℕ) :
    I.dwm (2 * (t + 1)) h i k
      = I.dwm (2 * t) h i k + (I.shift (128 * (2 * t))).dwmAt 0 h i k + (I.shift (128 * (2 * t))).dwmAt 1 h i k := by
  unfold dwm
  simp only [dwmAt_shift]
  rw [show 2 * (t + 1) = 2 * t + 1 + 1 from by ring, Fin.sum_univ_castSucc, Fin.sum_univ_castSucc]
  rfl

end Inp

end

end Gate
-- ==== Proof.Consts.lean ====
module
public import Idealize.ShloMosaic.PureOps.Ideal
public import proofs.«01_k».proof.Proof.Spec

/-! # The programs' float literals as extended reals

One file states them all, so that no other unfolds the bit decoding. -/

@[expose] public section

namespace Gate

open Idealize.ShloMosaic

/-- `0.0` -/
theorem ofBits_zero : Ideal.ofBits .f32 0x00000000#32 = ((0 : ℝ) : EReal) := by
  simp [Ideal.ofBits, Ideal.ieee]

/-- `1.0` -/
theorem ofBits_one : Ideal.ofBits .f32 0x3F800000#32 = ((1 : ℝ) : EReal) := by
  simp [Ideal.ofBits, Ideal.ieee, -EReal.coe_mul]; norm_num

/-- `0.5` -/
theorem ofBits_half : Ideal.ofBits .f32 0x3F000000#32 = ((1 / 2 : ℝ) : EReal) := by
  simp [Ideal.ofBits, Ideal.ieee, -EReal.coe_mul]; norm_num

/-- `-0.5` -/
theorem ofBits_neg_half : Ideal.ofBits .f32 0xBF000000#32 = ((-(1 / 2) : ℝ) : EReal) := by
  simp [Ideal.ofBits, Ideal.ieee, -EReal.coe_mul]; norm_num

/-- `3.0` -/
theorem ofBits_three : Ideal.ofBits .f32 0x40400000#32 = ((3 : ℝ) : EReal) := by
  simp [Ideal.ofBits, Ideal.ieee, -EReal.coe_mul]; norm_num

/-- `1024.0` -/
theorem ofBits_1024 : Ideal.ofBits .f32 0x44800000#32 = ((1024 : ℝ) : EReal) := by
  simp [Ideal.ofBits, Ideal.ieee, -EReal.coe_mul]; norm_num

/-- `2048.0` -/
theorem ofBits_2048 : Ideal.ofBits .f32 0x45000000#32 = ((2048 : ℝ) : EReal) := by
  simp [Ideal.ofBits, Ideal.ieee, -EReal.coe_mul]; norm_num

/-- `2.0` -/
theorem ofBits_two : Ideal.ofBits .f32 0x40000000#32 = ((2 : ℝ) : EReal) := by
  simp [Ideal.ofBits, Ideal.ieee, -EReal.coe_mul]; norm_num

/-- `1/2048` -/
theorem ofBits_inv_2048 : Ideal.ofBits .f32 0x3A000000#32 = ((1 / 2048 : ℝ) : EReal) := by
  simp [Ideal.ofBits, Ideal.ieee, -EReal.coe_mul]; norm_num

/-- `1/4096` -/
theorem ofBits_inv_4096 : Ideal.ofBits .f32 0x39800000#32 = ((1 / 4096 : ℝ) : EReal) := by
  simp [Ideal.ofBits, Ideal.ieee, -EReal.coe_mul]; norm_num

/-- the rounded `√(2/π)` -/
theorem ofBits_gk : Ideal.ofBits .f32 0x3F4C422A#32 = ((gk : ℝ) : EReal) := by
  unfold gk
  simp [Ideal.ofBits, Ideal.ieee, -EReal.coe_mul]; norm_num

/-- the rounded `1e-6` -/
theorem ofBits_eps : Ideal.ofBits .f32 0x358637BD#32 = ((eps : ℝ) : EReal) := by
  unfold eps
  simp [Ideal.ofBits, Ideal.ieee, -EReal.coe_mul]; norm_num

/-- `44715.0` -/
theorem ofBits_44715 : Ideal.ofBits .f32 0x472EAB00#32 = ((44715 : ℝ) : EReal) := by
  simp [Ideal.ofBits, Ideal.ieee, -EReal.coe_mul]; norm_num

/-- `1000000.0` -/
theorem ofBits_million : Ideal.ofBits .f32 0x49742400#32 = ((1000000 : ℝ) : EReal) := by
  simp [Ideal.ofBits, Ideal.ieee, -EReal.coe_mul]; norm_num

/-- `+∞` -/
theorem ofBits_inf : Ideal.ofBits .f32 0x7F800000#32 = ⊤ := by
  simp [Ideal.ofBits, Ideal.ieee]

end Gate
-- ==== Proof.Finite.lean ====
module
public import proofs.«01_k».proof.Defs
public import proofs.«01_k».proof.Proof.Consts
public import Idealize.ShloMosaic.Lib.ReduceAll
public import Idealize.ShloMosaic.Lib.IdealHost

/-! # What the precondition says

`all_finite` is one exactly when every element of every argument is below infinity in absolute value, so a real. -/

@[expose] public section

namespace Gate

open Idealize.ShloMosaic

/-- An extended real whose absolute value is below infinity is a real. -/
theorem real_of_abs_lt (x : EReal) (h : max x (-x) < ⊤) : ∃ r : ℝ, x = (r : EReal) := by
  induction x using EReal.rec with
  | bot => simp at h
  | coe r => exact ⟨r, rfl⟩
  | top => simp at h

/-- The comparison of an absolute value with infinity, at one element. -/
theorem real_of_cmp {s : Shape} (h : (⟨0, ![]⟩ : Shape).BroadcastsInDim s ![]) (a : FVec Ideal s .f32) (i : s.Idx)
    (e : cmpf .olt (Host.absf a) (broadcastInDim s ![] h (constant (F := Ideal) ⟨0, ![]⟩ .f32 0x7F800000#32)) i = 1#1) :
    ∃ r : ℝ, a i = (r : EReal) := by
  have e' : Ideal.cmp .olt (max (a i) (-(a i))) (Ideal.ofBits .f32 0x7F800000#32) = 1#1 := e
  rw [ofBits_inf] at e'
  refine real_of_abs_lt _ ?_
  by_contra hn
  simp [Ideal.cmp, hn] at e'

variable [Cert.Pre_all_finite.Facts]

open Cert.Pre_all_finite in
/-- The precondition makes every element of every argument a real. -/
theorem reals_of_pre (a0 : FVec Ideal S4096x1024 .f32) (a1 : FVec Ideal S4096x3072 .f32) (a2 : FVec Ideal S1x1024 .f32)
    (a3 : FVec Ideal S1x8x128x128 .f32) (a4 : FVec Ideal S1x8x128 .f32) (h : fn (F := Ideal) a0 a1 a2 a3 a4 = fun _ => 1#1) :
    (∀ j, ∃ x : ℝ, a0 j = (x : EReal)) ∧ (∀ j, ∃ x : ℝ, a1 j = (x : EReal)) ∧ (∀ j, ∃ x : ℝ, a2 j = (x : EReal))
      ∧ (∀ j, ∃ x : ℝ, a3 j = (x : EReal)) ∧ (∀ j, ∃ x : ℝ, a4 j = (x : EReal)) := by
  have h' := congrFun h (fun a => a.elim0)
  unfold fn fn_part1 at h'
  dsimp only [andi] at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  have : Subsingleton S_.Idx := ⟨fun a b => funext fun i => i.elim0⟩
  exact ⟨fun j => real_of_cmp _ a0 j (Host.reduce_andi_all _ _ _ _ _ e0 j),
    fun j => real_of_cmp _ a1 j (Host.reduce_andi_all _ _ _ _ _ e1 j),
    fun j => real_of_cmp _ a2 j (Host.reduce_andi_all _ _ _ _ _ e2 j),
    fun j => real_of_cmp _ a3 j (Host.reduce_andi_all _ _ _ _ _ e3 j),
    fun j => real_of_cmp _ a4 j (Host.reduce_andi_all _ _ _ _ _ e4 j)⟩

end Gate
-- ==== Proof.Real.lean ====
module
public import proofs.«01_k».proof.Proof.Consts
public import Idealize.ShloMosaic.Lib.Pointwise
public import Idealize.ShloMosaic.PureOps.IdealRules

/-! # Real numbers inside the extended reals

The operations both programs use, on extended reals that are reals. -/

@[expose] public section

namespace Gate

open Idealize.ShloMosaic

/-- A finite sum of reals. -/
theorem coe_sum {n : ℕ} (f : Fin n → ℝ) : (∑ k : Fin n, ((f k : ℝ) : EReal)) = ((∑ k : Fin n, f k : ℝ) : EReal) := by
  induction n with
  | zero => simp
  | succ n ih => rw [Fin.sum_univ_castSucc, ih, Fin.sum_univ_castSucc, EReal.coe_add]

/-- A real over a nonzero real. -/
theorem div_real (x y : ℝ) (h : y ≠ 0) : Ideal.div (x : EReal) (y : EReal) = ((x / y : ℝ) : EReal) := by
  rw [Ideal.div_coe h, ← EReal.coe_mul, mul_one_div]

/-- A real over 1024. -/
theorem div_1024 (x : ℝ) : Ideal.div (x : EReal) ((1024 : ℝ) : EReal) = ((x / 1024 : ℝ) : EReal) :=
  div_real x 1024 (by norm_num)

/-- A real over a million. -/
theorem div_million (x : ℝ) : Ideal.div (x : EReal) ((1000000 : ℝ) : EReal) = ((x / 1000000 : ℝ) : EReal) :=
  div_real x 1000000 (by norm_num)

/-- The reciprocal square root of a positive real. -/
theorem rsqrt_pos (x : ℝ) (h : 0 < x) : Ideal.rsqrt (x : EReal) = (((√x)⁻¹ : ℝ) : EReal) := by
  rw [Ideal.rsqrt_coe, if_neg (not_lt.2 h.le), if_neg h.ne']

end Gate
-- ==== Proof.Tile.lean ====
module
public import proofs.«01_k».proof.Proof.Real
public import proofs.«01_k».proof.Proof.Gen.KernelIdeal.Skeleton

/-! # One tile of the kernel's body, read at an index

The body is unrolled over two chunks and eight heads. Each of its stores is an instance, at offsets `(a, b)`, of one of the
terms stated here; each is read once, over arbitrary offsets. -/

@[expose] public section

set_option maxRecDepth 16384

namespace Gate.Tile

open Cert.KernelIdeal Cert.KernelIdeal.Gen Idealize.ShloMosaic

noncomputable section

theorem named_gc :
    Named.named (F := Ideal) (φ := .f32) Cert.KernelIdeal.κ "gelu_cubic" 0x3D372713#32 = ((gc : ℝ) : EReal) := by
  unfold gc
  exact IdealRules.named_const.ideal_named_scalar _ _ _ _ rfl

theorem named_gc3 :
    Named.named (F := Ideal) (φ := .f32) Cert.KernelIdeal.κ "gelu_cubic_slope" 0x3E095D4F#32 = ((3 * gc : ℝ) : EReal) := by
  have h : (3 * gc : ℝ) = 26829 / 200000 := by unfold gc; norm_num
  rw [h]
  exact IdealRules.named_const.ideal_named_scalar _ _ _ _ rfl

/-! ## The row statistics and the layer norm -/

section Rows

variable (I : Inp) (zv : Vec Ideal S256x1024 .f32)
  (hz : ∀ p q, zv (ix2 p q) = ((I.zv p.val q.val : ℝ) : EReal))

include hz

/-- `gelu zv` centred. -/
theorem pay5_apply (p : Fin 256) (q : Fin 1024) : k0_pay5 zv (ix2 p q) = ((I.xc p.val q.val : ℝ) : EReal) := by
  pointwise [k0_pay5]
  simp only [hz, named_gc, ofBits_gk, ofBits_half, ofBits_1024, ← EReal.coe_one, ← EReal.coe_mul, ← EReal.coe_add,
    Ideal.tanh_coe, coe_sum, div_1024, ← EReal.coe_sub]
  rfl

/-- The reciprocal standard deviation. -/
theorem pay6_apply (p : Fin 256) : k0_pay6 zv (ix2 p 0) = ((I.rs p.val : ℝ) : EReal) := by
  pointwise [k0_pay6]
  simp only [pay5_apply I zv hz, ofBits_1024, ofBits_eps, ← EReal.coe_mul, coe_sum, div_1024, ← EReal.coe_add]
  exact rsqrt_pos _ (I.var_eps_pos _)

/-- The normalised row. -/
theorem pay7_apply (p : Fin 256) (q : Fin 1024) : k0_pay7 zv (ix2 p q) = ((I.xh p.val q.val : ℝ) : EReal) := by
  pointwise [k0_pay7]
  simp only [pay5_apply I zv hz, pay6_apply I zv hz, ← EReal.coe_mul]
  rfl

/-- The layer norm's result. -/
theorem pay8_apply (nv : Vec Ideal S1x1024 .f32) (hn : ∀ q, nv (ix2 0 q) = ((I.nv q.val : ℝ) : EReal))
    (p : Fin 256) (q : Fin 1024) : k0_pay8 zv nv (ix2 p q) = ((I.V p.val q.val : ℝ) : EReal) := by
  pointwise [k0_pay8]
  simp only [pay7_apply I zv hz, hn, ← EReal.coe_mul]
  rfl

end Rows

/-- The gating half's gelu. -/
theorem pay10_apply (I : Inp) (zu : Vec Ideal S256x1024 .f32)
    (hz : ∀ p q, zu (ix2 p q) = ((I.zu p.val q.val : ℝ) : EReal)) (p : Fin 256) (q : Fin 1024) :
    k0_pay10 zu (k0_pay9 zu) (ix2 p q) = ((gelu (I.zu p.val q.val) : ℝ) : EReal) := by
  pointwise [k0_pay10, k0_pay9]
  simp only [hz, named_gc, ofBits_gk, ofBits_half, ← EReal.coe_one, ← EReal.coe_mul, ← EReal.coe_add, Ideal.tanh_coe]
  rfl

/-! ## gelu's derivative -/

/-- The tanh of gelu, as the body writes it. -/
def thT {s : Shape} (x : FVec Ideal s .f32) : FVec Ideal s .f32 :=
  tanh (mulf (broadcast s (Scalar.ofBits .f32 0x3F4C422A#32))
    (addf x (mulf (mulf (mulf (broadcast s (Named.named κ "gelu_cubic" 0x3D372713#32)) x) x) x)))

/-- gelu's derivative, as the body writes it. -/
def slopeT {s : Shape} (x : FVec Ideal s .f32) : FVec Ideal s .f32 :=
  addf (mulf (broadcast s (Scalar.ofBits .f32 0x3F000000#32)) (addf (broadcast s (Scalar.ofBits .f32 0x3F800000#32)) (thT x)))
    (mulf (mulf (mulf (broadcast s (Scalar.ofBits .f32 0x3F000000#32)) x)
        (subf (broadcast s (Scalar.ofBits .f32 0x3F800000#32)) (mulf (thT x) (thT x))))
      (mulf (broadcast s (Scalar.ofBits .f32 0x3F4C422A#32))
        (addf (broadcast s (Scalar.ofBits .f32 0x3F800000#32))
          (mulf (mulf (broadcast s (Named.named κ "gelu_cubic_slope" 0x3E095D4F#32)) x) x))))

theorem slopeT_apply {s : Shape} (x : FVec Ideal s .f32) (i : s.Idx) (r : ℝ) (h : x i = ((r : ℝ) : EReal)) :
    slopeT x i = ((gelu' r : ℝ) : EReal) := by
  pointwise [slopeT, thT]
  simp only [h, named_gc, named_gc3, ofBits_gk, ofBits_half, ← EReal.coe_one, ← EReal.coe_mul, ← EReal.coe_add,
    Ideal.tanh_coe, ← EReal.coe_sub]
  rfl

/-! ## One head of one chunk -/

section Head

variable (I : Inp) (c h : ℕ) (hc : c < 2) (hh : h < 8)

/-- The store of the gating half's gradient at offsets `o`. -/
def dzuT (o : Fin 2 → ℕ) (hs : S256x1024.Slices o S128x128) (v : FVec Ideal S256x1024 .bf16) (zu dy : Vec Ideal S256x1024 .f32)
    (w : FVec Ideal S1x128x128 .bf16) (b : FVec Ideal S1x128x1 .f32) : FVec Ideal S128x128 .bf16 :=
  truncf .bf16
    (mulf
      (mulf (extractStridedSlice S128x128 o dy hs)
        (addf (matmul dot_S128x128_S128x128_S128x128_1_0_0_1_n_n none (shapeCast S128x128 w shapeCasts_S1x128x128_S128x128)
            (extractStridedSlice S128x128 o v hs) (constant S128x128 .f32 0x00000000#32))
          (broadcastTo S128x128 (shapeCast S128x1 b shapeCasts_S1x128x1_S128x1) broadcasts_S128x1_S128x128)))
      (slopeT (extractStridedSlice S128x128 o zu hs)))
    bitsLt_bf16_f32

/-- The gradient of the mixed half's value on one head of one chunk. -/
def dsT (o : Fin 2 → ℕ) (hs : S256x1024.Slices o S128x128) (u : FVec Ideal S256x1024 .f32) (dy : Vec Ideal S256x1024 .f32) :
    FVec Ideal S128x128 .f32 :=
  mulf (extractStridedSlice S128x128 o dy hs) (extractStridedSlice S128x128 o u hs)

/-- The store of the layer norm's cotangent. -/
def dvT (o : Fin 2 → ℕ) (hs : S256x1024.Slices o S128x128) (u : FVec Ideal S256x1024 .f32) (dy : Vec Ideal S256x1024 .f32)
    (wt : FVec Ideal S1x128x128 .bf16) : FVec Ideal S128x128 .f32 :=
  shapeCast S128x128
    (matmul dot_S128x128_S128x128_S128x128_1_0_0_1_n_n none (shapeCast S128x128 wt shapeCasts_S1x128x128_S128x128)
      (truncf .bf16 (dsT o hs u dy) bitsLt_bf16_f32) (constant S128x128 .f32 0x00000000#32))
    shapeCasts_S128x128_S128x128

/-- The bias gradient's update. -/
def dbsT (o : Fin 2 → ℕ) (hs : S256x1024.Slices o S128x128) (u : FVec Ideal S256x1024 .f32) (dy : Vec Ideal S256x1024 .f32)
    (prev : Vec Ideal S1x128x1 .f32) : FVec Ideal S1x128x1 .f32 :=
  shapeCast S1x128x1
    (addf (shapeCast S128x1 prev shapeCasts_S1x128x1_S128x1)
      (shapeCast S128x1 (multiReduction .add [1] S128 (dsT o hs u dy) 0x00000000#32 reduces_S128x128_S128 (.inl rfl) rfl)
        shapeCasts_S128_S128x1))
    shapeCasts_S128x1_S1x128x1

/-- The mixing matrix gradient's update. -/
def dwmT (o : Fin 2 → ℕ) (hs : S256x1024.Slices o S128x128) (u : FVec Ideal S256x1024 .f32) (dy : Vec Ideal S256x1024 .f32)
    (v : FVec Ideal S256x1024 .bf16) (prev : Vec Ideal S1x128x128 .f32) : FVec Ideal S1x128x128 .f32 :=
  shapeCast S1x128x128
    (addf (shapeCast S128x128 prev shapeCasts_S1x128x128_S128x128)
      (matmul dot_S128x128_S128x128_S128x128_1_1_0_0_n_n none (truncf .bf16 (dsT o hs u dy) bitsLt_bf16_f32)
        (extractStridedSlice S128x128 o v hs) (constant S128x128 .f32 0x00000000#32)))
    shapeCasts_S128x128_S1x128x128

variable (hs : S256x1024.Slices ![128 * c, 128 * h] S128x128)
  (dy zu : Vec Ideal S256x1024 .f32) (u : FVec Ideal S256x1024 .f32) (v : FVec Ideal S256x1024 .bf16)
  (hdy : ∀ p q, dy (ix2 p q) = ((I.dy p.val q.val : ℝ) : EReal))
  (hzu : ∀ p q, zu (ix2 p q) = ((I.zu p.val q.val : ℝ) : EReal))
  (hu : ∀ p q, u (ix2 p q) = ((gelu (I.zu p.val q.val) : ℝ) : EReal))
  (hv : ∀ p q, v (ix2 p q) = ((I.V p.val q.val : ℝ) : EReal))

theorem row_div (c i : ℕ) (hi : i < 128) : (128 * c + i) / 128 = c := by omega
theorem row_mod (c i : ℕ) (hi : i < 128) : (128 * c + i) % 128 = i := by omega

include hdy hzu hv in
theorem dzuT_apply (w : FVec Ideal S1x128x128 .bf16) (b : FVec Ideal S1x128x1 .f32)
    (hw : ∀ i k, w (ix3 0 i k) = ((I.w h i.val k.val : ℝ) : EReal)) (hb : ∀ i, b (ix3 0 i 0) = ((I.b h i.val : ℝ) : EReal))
    (i j : Fin 128) :
    dzuT _ hs v zu dy w b (ix2 i j) = ((I.dzu (128 * c + i.val) (128 * h + j.val) : ℝ) : EReal) := by
  unfold dzuT
  have hsl := slopeT_apply (extractStridedSlice S128x128 ![128 * c, 128 * h] zu hs) (ix2 i j)
    (I.zu (128 * c + i.val) (128 * h + j.val)) (by pointwise; exact hzu _ _)
  pointwise
  simp only [hsl, hdy, hv, hw, hb, ← EReal.coe_mul, coe_sum, ← EReal.coe_add]
  unfold Inp.dzu Inp.S
  rw [row_div _ _ j.isLt, row_mod _ _ i.isLt, row_div _ _ i.isLt]

include hdy hu in
theorem dsT_apply (i j : Fin 128) :
    dsT _ hs u dy (ix2 i j) = ((I.ds (128 * c + i.val) (128 * h + j.val) : ℝ) : EReal) := by
  pointwise [dsT]
  simp only [hu, hdy, ← EReal.coe_mul]
  rfl

include hdy hu in
theorem dvT_apply (wt : FVec Ideal S1x128x128 .bf16)
    (hw : ∀ i k, wt (ix3 0 i k) = ((I.w h k.val i.val : ℝ) : EReal)) (i j : Fin 128) :
    dvT _ hs u dy wt (ix2 i j) = ((I.DV (128 * c + i.val) (128 * h + j.val) : ℝ) : EReal) := by
  pointwise [dvT]
  simp only [dsT_apply I c h hs dy u hdy hu, hw, ← EReal.coe_mul, coe_sum]
  unfold Inp.DV
  rw [row_div _ _ j.isLt, row_mod _ _ i.isLt, row_div _ _ i.isLt]

include hdy hu in
theorem dbsT_apply (prev : Vec Ideal S1x128x1 .f32) (P : ℝ) (i : Fin 128) (hp : prev (ix3 0 i 0) = ((P : ℝ) : EReal)) :
    dbsT _ hs u dy prev (ix3 0 i 0) = ((P + I.dbsAt c h i.val : ℝ) : EReal) := by
  pointwise [dbsT]
  simp only [dsT_apply I c h hs dy u hdy hu, hp, coe_sum, ← EReal.coe_add]
  rfl

include hdy hu hv in
theorem dwmT_apply (prev : Vec Ideal S1x128x128 .f32) (P : ℝ) (i k : Fin 128) (hp : prev (ix3 0 i k) = ((P : ℝ) : EReal)) :
    dwmT _ hs u dy v prev (ix3 0 i k) = ((P + I.dwmAt c h i.val k.val : ℝ) : EReal) := by
  pointwise [dwmT]
  simp only [dsT_apply I c h hs dy u hdy hu, hp, hv, coe_sum, ← EReal.coe_mul, ← EReal.coe_add]
  rfl

end Head

/-! ## The stores over the whole tile -/

/-- The store of the mixed half's gradient. -/
theorem dzv_apply (I : Inp) (zv dv : Vec Ideal S256x1024 .f32) (nv : Vec Ideal S1x1024 .f32)
    (hz : ∀ p q, zv (ix2 p q) = ((I.zv p.val q.val : ℝ) : EReal))
    (hn : ∀ q, nv (ix2 0 q) = ((I.nv q.val : ℝ) : EReal))
    (hd : ∀ p q, dv (ix2 p q) = ((I.DV p.val q.val : ℝ) : EReal)) (p : Fin 256) (q : Fin 1024) :
    k0_pay1 (k0_pay200 nv (k0_pay6 zv) (k0_pay7 zv) dv) (k0_pay202 zv) (k0_pay203 zv) (k0_pay204 zv) k0_pay205 (ix2 p q)
      = ((I.dzv p.val q.val : ℝ) : EReal) := by
  have hsl := slopeT_apply zv (ix2 p q) _ (hz p q)
  have hg : k0_pay200 nv (k0_pay6 zv) (k0_pay7 zv) dv (ix2 p q) = ((I.dgv p.val q.val : ℝ) : EReal) := by
    pointwise [k0_pay200]
    simp only [pay6_apply I zv hz, pay7_apply I zv hz, hn, hd, ofBits_1024, ← EReal.coe_mul, coe_sum, div_1024, ← EReal.coe_sub]
    rfl
  have he : k0_pay1 (k0_pay200 nv (k0_pay6 zv) (k0_pay7 zv) dv) (k0_pay202 zv) (k0_pay203 zv) (k0_pay204 zv) k0_pay205
      = truncf .bf16 (mulf (k0_pay200 nv (k0_pay6 zv) (k0_pay7 zv) dv) (slopeT zv)) bitsLt_bf16_f32 := rfl
  rw [he]
  pointwise
  rw [hg, hsl, ← EReal.coe_mul]
  rfl

end

end Gate.Tile
-- ==== Proof.Body.lean ====
module
public import proofs.«01_k».proof.Proof.Tile
public import proofs.«01_k».proof.Proof.Gen.KernelIdeal.Frame
public import Idealize.ShloMosaic.Lib.Pipeline.Value
public import Idealize.ShloMosaic.Lib.Pipeline.ValueKit.Basic
public import Idealize.ShloMosaic.Lib.Pipeline.ReadBack

/-! # One grid point of the kernel: what its stores leave

A point holds 256 rows, two chunks of 128. Each result's stores are read back to the tile functions of `Tile.lean`: the
unrolled body stores sixteen head blocks (two chunks, eight heads), and a gradient that is accumulated reads the block it
updates where an earlier store left it. -/

@[expose] public section

set_option maxRecDepth 16384
set_option maxHeartbeats 0

namespace Gate.Body

open Cert.KernelIdeal Cert.KernelIdeal.Gen Idealize.ShloMosaic Idealize.ShloMosaic.TcCoe Idealize.SL.Sem Gate.Tile

noncomputable section

/-- The blocks a point fetched hold the arrays of `I`. -/
structure Blk (I : Inp) (x0 x1 x2 : Vec Ideal S256x1024 .f32) (x3 : Vec Ideal S1x1024 .f32) (x4 x5 : Vec Ideal S8x128x128 .bf16)
    (x6 : Vec Ideal S8x128x1 .f32) : Prop where
  dy : ∀ p q, x0 (ix2 p q) = ((I.dy p.val q.val : ℝ) : EReal)
  zu : ∀ p q, x1 (ix2 p q) = ((I.zu p.val q.val : ℝ) : EReal)
  zv : ∀ p q, x2 (ix2 p q) = ((I.zv p.val q.val : ℝ) : EReal)
  nv : ∀ q, x3 (ix2 0 q) = ((I.nv q.val : ℝ) : EReal)
  w : ∀ h i k, x4 (ix3 h i k) = ((I.w h.val i.val k.val : ℝ) : EReal)
  wt : ∀ h i k, x5 (ix3 h i k) = ((I.w h.val k.val i.val : ℝ) : EReal)
  b : ∀ h i, x6 (ix3 h i 0) = ((I.b h.val i.val : ℝ) : EReal)

/-! ## Loads and stores of one head's block -/

/-- A head's slab of a stack of matrices. -/
theorem ld_slab {φ : EltTy} (X : Vec Ideal S8x128x128 φ) (h : ℕ) (inb : ∀ a, (![h, 0, 0] : Fin 3 → ℕ) a + S1x128x128.size a ≤ S8x128x128.size a)
    (hh : h < 8) (i k : Fin 128) :
    View.ld X (Rect.unit (s := S8x128x128) ![h, 0, 0] ![1, 128, 128] inb) (ix3 0 i k) = X (ix3 ⟨h, hh⟩ i k) := by
  pointwise

/-- A head's column of the stack of columns. -/
theorem ld_col {φ : EltTy} (X : Vec Ideal S8x128x1 φ) (h : ℕ) (inb : ∀ a, (![h, 0, 0] : Fin 3 → ℕ) a + S1x128x1.size a ≤ S8x128x1.size a)
    (hh : h < 8) (i : Fin 128) :
    View.ld X (Rect.unit (s := S8x128x1) ![h, 0, 0] ![1, 128, 1] inb) (ix3 0 i 0) = X (ix3 ⟨h, hh⟩ i 0) := by
  pointwise

/-- A tile over the 256 rows. -/
def G2 (f : ℕ → ℕ → ℝ) : S256x1024.Idx → EReal := fun y => ((f (y 0).val (y 1).val : ℝ) : EReal)
/-- A stack of matrices. -/
def G3 (f : ℕ → ℕ → ℕ → ℝ) : S8x128x128.Idx → EReal := fun y => ((f (y 0).val (y 1).val (y 2).val : ℝ) : EReal)
/-- A stack of columns. -/
def G1 (f : ℕ → ℕ → ℝ) : S8x128x1.Idx → EReal := fun y => ((f (y 0).val (y 1).val : ℝ) : EReal)

theorem block2 (f : ℕ → ℕ → ℝ) (a b : ℕ) (inb : ∀ e, (![a, b] : Fin 2 → ℕ) e + S128x128.size e ≤ S256x1024.size e)
    (T : S128x128.Idx → EReal) (hT : ∀ i j, T (ix2 i j) = ((f (a + i.val) (b + j.val) : ℝ) : EReal)) :
    ∀ x : (Rect.unit (s := S256x1024) ![a, b] ![128, 128] inb).shape.Idx,
      T x = G2 f ((Rect.unit (s := S256x1024) ![a, b] ![128, 128] inb).emb x) := by
  intro x
  obtain ⟨i, j, rfl⟩ : ∃ (i j : Fin 128), x = ix2 i j := ⟨x 0, x 1, eq_ix2 x⟩
  rw [hT i j]
  unfold G2
  simp [Rect.emb, Rect.unit, ix2]

theorem block3 (f : ℕ → ℕ → ℕ → ℝ) (h : ℕ) (inb : ∀ e, (![h, 0, 0] : Fin 3 → ℕ) e + S1x128x128.size e ≤ S8x128x128.size e)
    (T : S1x128x128.Idx → EReal) (hT : ∀ i k, T (ix3 0 i k) = ((f h i.val k.val : ℝ) : EReal)) :
    ∀ x : (Rect.unit (s := S8x128x128) ![h, 0, 0] ![1, 128, 128] inb).shape.Idx,
      T x = G3 f ((Rect.unit (s := S8x128x128) ![h, 0, 0] ![1, 128, 128] inb).emb x) := by
  intro x
  obtain ⟨z, i, k, rfl⟩ : ∃ (z : Fin 1) (i k : Fin 128), x = ix3 z i k := ⟨x 0, x 1, x 2, eq_ix3 x⟩
  obtain rfl : z = 0 := Subsingleton.elim _ _
  rw [hT i k]
  unfold G3
  simp [Rect.emb, Rect.unit, ix3]

theorem block1 (f : ℕ → ℕ → ℝ) (h : ℕ) (inb : ∀ e, (![h, 0, 0] : Fin 3 → ℕ) e + S1x128x1.size e ≤ S8x128x1.size e)
    (T : S1x128x1.Idx → EReal) (hT : ∀ i, T (ix3 0 i 0) = ((f h i.val : ℝ) : EReal)) :
    ∀ x : (Rect.unit (s := S8x128x1) ![h, 0, 0] ![1, 128, 1] inb).shape.Idx,
      T x = G1 f ((Rect.unit (s := S8x128x1) ![h, 0, 0] ![1, 128, 1] inb).emb x) := by
  intro x
  obtain ⟨z, i, k, rfl⟩ : ∃ (z : Fin 1) (i : Fin 128) (k : Fin 1), x = ix3 z i k := ⟨x 0, x 1, x 2, eq_ix3 x⟩
  obtain rfl : z = 0 := Subsingleton.elim _ _
  obtain rfl : k = 0 := Subsingleton.elim _ _
  rw [hT i]
  unfold G1
  simp [Rect.emb, Rect.unit, ix3]

section

variable {I : Inp} {x0 x1 x2 : Vec Ideal S256x1024 .f32} {x3 : Vec Ideal S1x1024 .f32} {x4 x5 : Vec Ideal S8x128x128 .bf16}
    {x6 : Vec Ideal S8x128x1 .f32} (B : Blk I x0 x1 x2 x3 x4 x5 x6)

include B

/-- One head's store of the gating half's gradient. -/
theorem head7 (c h : ℕ) (hh : h < 8) (hs : S256x1024.Slices ![128 * c, 128 * h] S128x128)
    (ib : ∀ e, (![128 * c, 128 * h] : Fin 2 → ℕ) e + S128x128.size e ≤ S256x1024.size e)
    (iw : ∀ e, (![h, 0, 0] : Fin 3 → ℕ) e + S1x128x128.size e ≤ S8x128x128.size e)
    (ic : ∀ e, (![h, 0, 0] : Fin 3 → ℕ) e + S1x128x1.size e ≤ S8x128x1.size e) :
    ∀ x : (Rect.unit (s := S256x1024) ![128 * c, 128 * h] ![128, 128] ib).shape.Idx,
      dzuT _ hs (k0_pay8 x2 x3) x1 x0 (View.ld x4 (Rect.unit (s := S8x128x128) ![h, 0, 0] ![1, 128, 128] iw))
          (View.ld x6 (Rect.unit (s := S8x128x1) ![h, 0, 0] ![1, 128, 1] ic)) x
        = G2 I.dzu ((Rect.unit (s := S256x1024) ![128 * c, 128 * h] ![128, 128] ib).emb x) :=
  block2 _ _ _ _ _ (dzuT_apply I c h hs x0 x1 _ B.dy B.zu (pay8_apply I x2 B.zv x3 B.nv) _ _
    (fun i k => by rw [ld_slab _ _ _ hh]; exact B.w _ _ _) (fun i => by rw [ld_col _ _ _ hh]; exact B.b _ _))

/-- One head's store of the layer norm's cotangent. -/
theorem headV (c h : ℕ) (hh : h < 8) (hs : S256x1024.Slices ![128 * c, 128 * h] S128x128)
    (ib : ∀ e, (![128 * c, 128 * h] : Fin 2 → ℕ) e + S128x128.size e ≤ S256x1024.size e)
    (iw : ∀ e, (![h, 0, 0] : Fin 3 → ℕ) e + S1x128x128.size e ≤ S8x128x128.size e) :
    ∀ x : (Rect.unit (s := S256x1024) ![128 * c, 128 * h] ![128, 128] ib).shape.Idx,
      dvT _ hs (k0_pay10 x1 (k0_pay9 x1)) x0 (View.ld x5 (Rect.unit (s := S8x128x128) ![h, 0, 0] ![1, 128, 128] iw)) x
        = G2 I.DV ((Rect.unit (s := S256x1024) ![128 * c, 128 * h] ![128, 128] ib).emb x) :=
  block2 _ _ _ _ _ (dvT_apply I c h hs x0 _ B.dy (pay10_apply I x1 B.zu) _
    (fun i k => by rw [ld_slab _ _ _ hh]; exact B.wt _ _ _))

/-- One head's block of the mixing matrices' gradient after the point's two chunks. -/
theorem head10 (h : ℕ) (hh : h < 8) (hs0 : S256x1024.Slices ![128 * 0, 128 * h] S128x128) (hs1 : S256x1024.Slices ![128 * 1, 128 * h] S128x128)
    (iw : ∀ e, (![h, 0, 0] : Fin 3 → ℕ) e + S1x128x128.size e ≤ S8x128x128.size e)
    (X : Vec Ideal S8x128x128 .f32) (P : ℕ → ℕ → ℕ → ℝ) (hX : ∀ h i k, X (ix3 h i k) = ((P h.val i.val k.val : ℝ) : EReal)) :
    ∀ x : (Rect.unit (s := S8x128x128) ![h, 0, 0] ![1, 128, 128] iw).shape.Idx,
      dwmT _ hs1 (k0_pay10 x1 (k0_pay9 x1)) x0 (k0_pay8 x2 x3)
          (dwmT _ hs0 (k0_pay10 x1 (k0_pay9 x1)) x0 (k0_pay8 x2 x3)
            (View.ld X (Rect.unit (s := S8x128x128) ![h, 0, 0] ![1, 128, 128] iw))) x
        = G3 (fun h i k => P h i k + I.dwmAt 0 h i k + I.dwmAt 1 h i k)
            ((Rect.unit (s := S8x128x128) ![h, 0, 0] ![1, 128, 128] iw).emb x) :=
  block3 _ _ _ _ fun i k => dwmT_apply I 1 h hs1 x0 _ _ B.dy (pay10_apply I x1 B.zu) (pay8_apply I x2 B.zv x3 B.nv) _ _ i k
    (dwmT_apply I 0 h hs0 x0 _ _ B.dy (pay10_apply I x1 B.zu) (pay8_apply I x2 B.zv x3 B.nv) _ _ i k
      (by rw [ld_slab _ _ _ hh]; exact hX _ _ _))

/-- One head's block of the biases' gradient after the point's two chunks. -/
theorem head11 (h : ℕ) (hh : h < 8) (hs0 : S256x1024.Slices ![128 * 0, 128 * h] S128x128) (hs1 : S256x1024.Slices ![128 * 1, 128 * h] S128x128)
    (iw : ∀ e, (![h, 0, 0] : Fin 3 → ℕ) e + S1x128x1.size e ≤ S8x128x1.size e)
    (X : Vec Ideal S8x128x1 .f32) (P : ℕ → ℕ → ℝ) (hX : ∀ h i, X (ix3 h i 0) = ((P h.val i.val : ℝ) : EReal)) :
    ∀ x : (Rect.unit (s := S8x128x1) ![h, 0, 0] ![1, 128, 1] iw).shape.Idx,
      dbsT _ hs1 (k0_pay10 x1 (k0_pay9 x1)) x0
          (dbsT _ hs0 (k0_pay10 x1 (k0_pay9 x1)) x0 (View.ld X (Rect.unit (s := S8x128x1) ![h, 0, 0] ![1, 128, 1] iw))) x
        = G1 (fun h i => P h i + I.dbsAt 0 h i + I.dbsAt 1 h i)
            ((Rect.unit (s := S8x128x1) ![h, 0, 0] ![1, 128, 1] iw).emb x) :=
  block1 _ _ _ _ fun i => dbsT_apply I 1 h hs1 x0 _ B.dy (pay10_apply I x1 B.zu) _ _ i
    (dbsT_apply I 0 h hs0 x0 _ B.dy (pay10_apply I x1 B.zu) _ _ i (by rw [ld_col _ _ _ hh]; exact hX _ _))

end

/-- A load of a whole tile. -/
theorem ld2 (X : Vec Ideal S256x1024 .f32) :
    View.ld X (Rect.unit (s := S256x1024) ![0, 0] ![256, 1024] inb_S256x1024_S256x1024_0_0) = X :=
  View.ld_unit_lit _ X (by decide)

/-- A load of the whole gain. -/
theorem ldn (X : Vec Ideal S1x1024 .f32) :
    View.ld X (Rect.unit (s := S1x1024) ![0, 0] ![1, 1024] inb_S1x1024_S1x1024_0_0) = X :=
  View.ld_unit_lit _ X (by decide)

/-- A scratch tile that head blocks cover, loaded whole. -/
theorem scratch (v : View sig .tc .vmem S256x1024 .f32) (f : ℕ → ℕ → ℝ) (L : List (View.Piece (Elt Ideal) S256x1024 .f32))
    (hL : View.PiecesOf (G2 f) L) (hc : ∀ y : S256x1024.Idx, ∃ p ∈ L, y ∈ p.1.set) (p : Fin 256) (q : Fin 1024) :
    v.readCov L (Rect.unit (s := S256x1024) ![0, 0] ![256, 1024] inb_S256x1024_S256x1024_0_0).toLoadRect (ix2 p q)
      = ((f p.val q.val : ℝ) : EReal) := by
  rw [View.readCov_eq_canon']
  refine (View.canon_apply_of_pieces (G2 f) _ hL.mem _ (hc _)).trans ?_
  unfold G2
  simp [Rect.toLoadRect, LoadRect.idx, Rect.unit, ix2]

/-- The gain's gradient: what was there plus the column sums. -/
theorem dnv_apply (I : Inp) (zv dv : Vec Ideal S256x1024 .f32) (prev : Vec Ideal S1x1024 .f32)
    (hz : ∀ p q, zv (ix2 p q) = ((I.zv p.val q.val : ℝ) : EReal))
    (hd : ∀ p q, dv (ix2 p q) = ((I.DV p.val q.val : ℝ) : EReal))
    (P : ℕ → ℝ) (hP : ∀ q, prev (ix2 0 q) = ((P q.val : ℝ) : EReal)) (q : Fin 1024) :
    k0_pay199 (k0_pay197 prev) (k0_pay198 (k0_pay7 zv) dv) (ix2 0 q)
      = ((P q.val + ∑ r : Fin 256, I.dnvAt r.val q.val : ℝ) : EReal) := by
  pointwise [k0_pay199, k0_pay197, k0_pay198]
  simp only [pay7_apply I zv hz, hd, hP, ← EReal.coe_mul, coe_sum, ← EReal.coe_add]
  rfl

theorem zero2 (q : Fin 1024) : (k0_pay2 (F := Ideal)) (ix2 0 q) = (((fun _ : ℕ => (0 : ℝ)) q.val : ℝ) : EReal) := by
  pointwise [k0_pay2]
  simp

theorem zero3 (h : Fin 8) (i k : Fin 128) :
    (k0_pay3 (F := Ideal)) (ix3 h i k) = (((fun _ _ _ : ℕ => (0 : ℝ)) h.val i.val k.val : ℝ) : EReal) := by
  pointwise [k0_pay3]
  simp

theorem zero1 (h : Fin 8) (i : Fin 128) :
    (k0_pay4 (F := Ideal)) (ix3 h i 0) = (((fun _ _ : ℕ => (0 : ℝ)) h.val i.val : ℝ) : EReal) := by
  pointwise [k0_pay4]
  simp

/-- The gating half's gradient, case A. -/
theorem out7_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (I : Inp) (B : Blk I x0 x1 x2 x3 x4 x5 x6) (p : Fin 256) (q : Fin 1024) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p q) = ((I.dzu p.val q.val : ℝ) : EReal) := by
  have hP : View.PiecesOf (G2 I.dzu) (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 := by
    unfold kernelRun0_A
    dsimp only
    sl_unfold_words
    simp (disch := decide) only [↓View.readCov_skip, ↓View.readCov_cons_toLoadRect, ↓View.readCov_fill]
    simp (disch := decide) only [View.readAt_eq_ld, harg1.read_unread, harg2.read_unread, harg3.read_unread, harg4.read_unread, harg5.read_unread, harg6.read_unread, harg7.read_unread, harg10.read_unread, harg11.read_unread, harg12.read_unread]
    rw [ld2 x0, ld2 x1, ld2 x2, ldn x3]
    exact ⟨head7 B 1 7 (by decide) slices_S256x1024_o128_896_S128x128 inb_S256x1024_S128x128_128_896 inb_S8x128x128_S1x128x128_7_0_0 inb_S8x128x1_S1x128x1_7_0_0,
      head7 B 1 6 (by decide) slices_S256x1024_o128_768_S128x128 inb_S256x1024_S128x128_128_768 inb_S8x128x128_S1x128x128_6_0_0 inb_S8x128x1_S1x128x1_6_0_0,
      head7 B 1 5 (by decide) slices_S256x1024_o128_640_S128x128 inb_S256x1024_S128x128_128_640 inb_S8x128x128_S1x128x128_5_0_0 inb_S8x128x1_S1x128x1_5_0_0,
      head7 B 1 4 (by decide) slices_S256x1024_o128_512_S128x128 inb_S256x1024_S128x128_128_512 inb_S8x128x128_S1x128x128_4_0_0 inb_S8x128x1_S1x128x1_4_0_0,
      head7 B 1 3 (by decide) slices_S256x1024_o128_384_S128x128 inb_S256x1024_S128x128_128_384 inb_S8x128x128_S1x128x128_3_0_0 inb_S8x128x1_S1x128x1_3_0_0,
      head7 B 1 2 (by decide) slices_S256x1024_o128_256_S128x128 inb_S256x1024_S128x128_128_256 inb_S8x128x128_S1x128x128_2_0_0 inb_S8x128x1_S1x128x1_2_0_0,
      head7 B 1 1 (by decide) slices_S256x1024_o128_128_S128x128 inb_S256x1024_S128x128_128_128 inb_S8x128x128_S1x128x128_1_0_0 inb_S8x128x1_S1x128x1_1_0_0,
      head7 B 1 0 (by decide) slices_S256x1024_o128_0_S128x128 inb_S256x1024_S128x128_128_0 inb_S8x128x128_S1x128x128_0_0_0 inb_S8x128x1_S1x128x1_0_0_0,
      head7 B 0 7 (by decide) slices_S256x1024_o0_896_S128x128 inb_S256x1024_S128x128_0_896 inb_S8x128x128_S1x128x128_7_0_0 inb_S8x128x1_S1x128x1_7_0_0,
      head7 B 0 6 (by decide) slices_S256x1024_o0_768_S128x128 inb_S256x1024_S128x128_0_768 inb_S8x128x128_S1x128x128_6_0_0 inb_S8x128x1_S1x128x1_6_0_0,
      head7 B 0 5 (by decide) slices_S256x1024_o0_640_S128x128 inb_S256x1024_S128x128_0_640 inb_S8x128x128_S1x128x128_5_0_0 inb_S8x128x1_S1x128x1_5_0_0,
      head7 B 0 4 (by decide) slices_S256x1024_o0_512_S128x128 inb_S256x1024_S128x128_0_512 inb_S8x128x128_S1x128x128_4_0_0 inb_S8x128x1_S1x128x1_4_0_0,
      head7 B 0 3 (by decide) slices_S256x1024_o0_384_S128x128 inb_S256x1024_S128x128_0_384 inb_S8x128x128_S1x128x128_3_0_0 inb_S8x128x1_S1x128x1_3_0_0,
      head7 B 0 2 (by decide) slices_S256x1024_o0_256_S128x128 inb_S256x1024_S128x128_0_256 inb_S8x128x128_S1x128x128_2_0_0 inb_S8x128x1_S1x128x1_2_0_0,
      head7 B 0 1 (by decide) slices_S256x1024_o0_128_S128x128 inb_S256x1024_S128x128_0_128 inb_S8x128x128_S1x128x128_1_0_0 inb_S8x128x1_S1x128x1_1_0_0,
      head7 B 0 0 (by decide) slices_S256x1024_o0_0_S128x128 inb_S256x1024_S128x128_0_0 inb_S8x128x128_S1x128x128_0_0_0 inb_S8x128x1_S1x128x1_0_0_0, trivial⟩
  unfold out0_A_7
  rw [View.read_writes_junk_eq_canon]
  exact View.canon_apply_of_pieces (G2 I.dzu) _ hP.mem (ix2 p q) (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p q))

/-- The mixed half's gradient, case A. -/
theorem out8_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (I : Inp) (B : Blk I x0 x1 x2 x3 x4 x5 x6) (p : Fin 256) (q : Fin 1024) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 p q) = ((I.dzv p.val q.val : ℝ) : EReal) := by
  unfold out0_A_8
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2, ldn x3]
  rw [View.canon_cons_unit_lit _ _ _ (by decide)]
  refine dzv_apply I x2 _ x3 B.zv B.nv (fun p q => scratch arg13.view I.DV _ ?_ ?_ p q) p q
  · exact ⟨headV B 1 7 (by decide) slices_S256x1024_o128_896_S128x128 inb_S256x1024_S128x128_128_896 inb_S8x128x128_S1x128x128_7_0_0,
        headV B 1 6 (by decide) slices_S256x1024_o128_768_S128x128 inb_S256x1024_S128x128_128_768 inb_S8x128x128_S1x128x128_6_0_0,
        headV B 1 5 (by decide) slices_S256x1024_o128_640_S128x128 inb_S256x1024_S128x128_128_640 inb_S8x128x128_S1x128x128_5_0_0,
        headV B 1 4 (by decide) slices_S256x1024_o128_512_S128x128 inb_S256x1024_S128x128_128_512 inb_S8x128x128_S1x128x128_4_0_0,
        headV B 1 3 (by decide) slices_S256x1024_o128_384_S128x128 inb_S256x1024_S128x128_128_384 inb_S8x128x128_S1x128x128_3_0_0,
        headV B 1 2 (by decide) slices_S256x1024_o128_256_S128x128 inb_S256x1024_S128x128_128_256 inb_S8x128x128_S1x128x128_2_0_0,
        headV B 1 1 (by decide) slices_S256x1024_o128_128_S128x128 inb_S256x1024_S128x128_128_128 inb_S8x128x128_S1x128x128_1_0_0,
        headV B 1 0 (by decide) slices_S256x1024_o128_0_S128x128 inb_S256x1024_S128x128_128_0 inb_S8x128x128_S1x128x128_0_0_0,
        headV B 0 7 (by decide) slices_S256x1024_o0_896_S128x128 inb_S256x1024_S128x128_0_896 inb_S8x128x128_S1x128x128_7_0_0,
        headV B 0 6 (by decide) slices_S256x1024_o0_768_S128x128 inb_S256x1024_S128x128_0_768 inb_S8x128x128_S1x128x128_6_0_0,
        headV B 0 5 (by decide) slices_S256x1024_o0_640_S128x128 inb_S256x1024_S128x128_0_640 inb_S8x128x128_S1x128x128_5_0_0,
        headV B 0 4 (by decide) slices_S256x1024_o0_512_S128x128 inb_S256x1024_S128x128_0_512 inb_S8x128x128_S1x128x128_4_0_0,
        headV B 0 3 (by decide) slices_S256x1024_o0_384_S128x128 inb_S256x1024_S128x128_0_384 inb_S8x128x128_S1x128x128_3_0_0,
        headV B 0 2 (by decide) slices_S256x1024_o0_256_S128x128 inb_S256x1024_S128x128_0_256 inb_S8x128x128_S1x128x128_2_0_0,
        headV B 0 1 (by decide) slices_S256x1024_o0_128_S128x128 inb_S256x1024_S128x128_0_128 inb_S8x128x128_S1x128x128_1_0_0,
        headV B 0 0 (by decide) slices_S256x1024_o0_0_S128x128 inb_S256x1024_S128x128_0_0 inb_S8x128x128_S1x128x128_0_0_0, trivial⟩
  · exact fun y => View.cover_of_tiledL (s := S256x1024) _ S128x128.size (by sl_kernel_rfl) y

/-- The gain's gradient, case A. -/
theorem out9_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (I : Inp) (B : Blk I x0 x1 x2 x3 x4 x5 x6) (q : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 0 q) = ((0 + ∑ r : Fin 256, I.dnvAt r.val q.val : ℝ) : EReal) := by
  unfold out0_A_9
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2]
  rw [View.canon_cons_unit_lit _ _ _ (by decide)]
  refine dnv_apply I x2 _ _ B.zv (fun p q => scratch arg13.view I.DV _ ?_ ?_ p q) (fun _ => 0) zero2 q
  · exact ⟨headV B 1 7 (by decide) slices_S256x1024_o128_896_S128x128 inb_S256x1024_S128x128_128_896 inb_S8x128x128_S1x128x128_7_0_0,
        headV B 1 6 (by decide) slices_S256x1024_o128_768_S128x128 inb_S256x1024_S128x128_128_768 inb_S8x128x128_S1x128x128_6_0_0,
        headV B 1 5 (by decide) slices_S256x1024_o128_640_S128x128 inb_S256x1024_S128x128_128_640 inb_S8x128x128_S1x128x128_5_0_0,
        headV B 1 4 (by decide) slices_S256x1024_o128_512_S128x128 inb_S256x1024_S128x128_128_512 inb_S8x128x128_S1x128x128_4_0_0,
        headV B 1 3 (by decide) slices_S256x1024_o128_384_S128x128 inb_S256x1024_S128x128_128_384 inb_S8x128x128_S1x128x128_3_0_0,
        headV B 1 2 (by decide) slices_S256x1024_o128_256_S128x128 inb_S256x1024_S128x128_128_256 inb_S8x128x128_S1x128x128_2_0_0,
        headV B 1 1 (by decide) slices_S256x1024_o128_128_S128x128 inb_S256x1024_S128x128_128_128 inb_S8x128x128_S1x128x128_1_0_0,
        headV B 1 0 (by decide) slices_S256x1024_o128_0_S128x128 inb_S256x1024_S128x128_128_0 inb_S8x128x128_S1x128x128_0_0_0,
        headV B 0 7 (by decide) slices_S256x1024_o0_896_S128x128 inb_S256x1024_S128x128_0_896 inb_S8x128x128_S1x128x128_7_0_0,
        headV B 0 6 (by decide) slices_S256x1024_o0_768_S128x128 inb_S256x1024_S128x128_0_768 inb_S8x128x128_S1x128x128_6_0_0,
        headV B 0 5 (by decide) slices_S256x1024_o0_640_S128x128 inb_S256x1024_S128x128_0_640 inb_S8x128x128_S1x128x128_5_0_0,
        headV B 0 4 (by decide) slices_S256x1024_o0_512_S128x128 inb_S256x1024_S128x128_0_512 inb_S8x128x128_S1x128x128_4_0_0,
        headV B 0 3 (by decide) slices_S256x1024_o0_384_S128x128 inb_S256x1024_S128x128_0_384 inb_S8x128x128_S1x128x128_3_0_0,
        headV B 0 2 (by decide) slices_S256x1024_o0_256_S128x128 inb_S256x1024_S128x128_0_256 inb_S8x128x128_S1x128x128_2_0_0,
        headV B 0 1 (by decide) slices_S256x1024_o0_128_S128x128 inb_S256x1024_S128x128_0_128 inb_S8x128x128_S1x128x128_1_0_0,
        headV B 0 0 (by decide) slices_S256x1024_o0_0_S128x128 inb_S256x1024_S128x128_0_0 inb_S8x128x128_S1x128x128_0_0_0, trivial⟩
  · exact fun y => View.cover_of_tiledL (s := S256x1024) _ S128x128.size (by sl_kernel_rfl) y

/-- The mixing matrices' gradient, case A. -/
theorem out10_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (I : Inp) (B : Blk I x0 x1 x2 x3 x4 x5 x6) (h : Fin 8) (a b : Fin 128) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 h a b) = ((0 + I.dwmAt 0 h.val a.val b.val + I.dwmAt 1 h.val a.val b.val : ℝ) : EReal) := by
  unfold out0_A_10
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2, ldn x3]
  refine View.canon_append_of_piecesOf (Val := Elt Ideal) (e := .f32) (s := S8x128x128) (G3 (fun h i k => 0 + I.dwmAt 0 h i k + I.dwmAt 1 h i k)) _ [_, _, _, _, _, _, _, _] ?_ (ix3 h a b) ?_
  · exact ⟨head10 B 7 (by decide) slices_S256x1024_o0_896_S128x128 slices_S256x1024_o128_896_S128x128 inb_S8x128x128_S1x128x128_7_0_0 (k0_pay3 (F := Ideal)) (fun _ _ _ => 0) zero3,
    head10 B 6 (by decide) slices_S256x1024_o0_768_S128x128 slices_S256x1024_o128_768_S128x128 inb_S8x128x128_S1x128x128_6_0_0 (k0_pay3 (F := Ideal)) (fun _ _ _ => 0) zero3,
    head10 B 5 (by decide) slices_S256x1024_o0_640_S128x128 slices_S256x1024_o128_640_S128x128 inb_S8x128x128_S1x128x128_5_0_0 (k0_pay3 (F := Ideal)) (fun _ _ _ => 0) zero3,
    head10 B 4 (by decide) slices_S256x1024_o0_512_S128x128 slices_S256x1024_o128_512_S128x128 inb_S8x128x128_S1x128x128_4_0_0 (k0_pay3 (F := Ideal)) (fun _ _ _ => 0) zero3,
    head10 B 3 (by decide) slices_S256x1024_o0_384_S128x128 slices_S256x1024_o128_384_S128x128 inb_S8x128x128_S1x128x128_3_0_0 (k0_pay3 (F := Ideal)) (fun _ _ _ => 0) zero3,
    head10 B 2 (by decide) slices_S256x1024_o0_256_S128x128 slices_S256x1024_o128_256_S128x128 inb_S8x128x128_S1x128x128_2_0_0 (k0_pay3 (F := Ideal)) (fun _ _ _ => 0) zero3,
    head10 B 1 (by decide) slices_S256x1024_o0_128_S128x128 slices_S256x1024_o128_128_S128x128 inb_S8x128x128_S1x128x128_1_0_0 (k0_pay3 (F := Ideal)) (fun _ _ _ => 0) zero3,
    head10 B 0 (by decide) slices_S256x1024_o0_0_S128x128 slices_S256x1024_o128_0_S128x128 inb_S8x128x128_S1x128x128_0_0_0 (k0_pay3 (F := Ideal)) (fun _ _ _ => 0) zero3, trivial⟩
  · exact View.cover_of_tiledL (s := S8x128x128) _ S1x128x128.size (by sl_kernel_rfl) _

/-- The biases' gradient, case A. -/
theorem out11_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (I : Inp) (B : Blk I x0 x1 x2 x3 x4 x5 x6) (h : Fin 8) (a : Fin 128) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 h a 0) = ((0 + I.dbsAt 0 h.val a.val + I.dbsAt 1 h.val a.val : ℝ) : EReal) := by
  unfold out0_A_11
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1]
  refine View.canon_append_of_piecesOf (Val := Elt Ideal) (e := .f32) (s := S8x128x1) (G1 (fun h i => 0 + I.dbsAt 0 h i + I.dbsAt 1 h i)) _ [_, _, _, _, _, _, _, _] ?_ (ix3 h a 0) ?_
  · exact ⟨head11 B 7 (by decide) slices_S256x1024_o0_896_S128x128 slices_S256x1024_o128_896_S128x128 inb_S8x128x1_S1x128x1_7_0_0 (k0_pay4 (F := Ideal)) (fun _ _ => 0) zero1,
    head11 B 6 (by decide) slices_S256x1024_o0_768_S128x128 slices_S256x1024_o128_768_S128x128 inb_S8x128x1_S1x128x1_6_0_0 (k0_pay4 (F := Ideal)) (fun _ _ => 0) zero1,
    head11 B 5 (by decide) slices_S256x1024_o0_640_S128x128 slices_S256x1024_o128_640_S128x128 inb_S8x128x1_S1x128x1_5_0_0 (k0_pay4 (F := Ideal)) (fun _ _ => 0) zero1,
    head11 B 4 (by decide) slices_S256x1024_o0_512_S128x128 slices_S256x1024_o128_512_S128x128 inb_S8x128x1_S1x128x1_4_0_0 (k0_pay4 (F := Ideal)) (fun _ _ => 0) zero1,
    head11 B 3 (by decide) slices_S256x1024_o0_384_S128x128 slices_S256x1024_o128_384_S128x128 inb_S8x128x1_S1x128x1_3_0_0 (k0_pay4 (F := Ideal)) (fun _ _ => 0) zero1,
    head11 B 2 (by decide) slices_S256x1024_o0_256_S128x128 slices_S256x1024_o128_256_S128x128 inb_S8x128x1_S1x128x1_2_0_0 (k0_pay4 (F := Ideal)) (fun _ _ => 0) zero1,
    head11 B 1 (by decide) slices_S256x1024_o0_128_S128x128 slices_S256x1024_o128_128_S128x128 inb_S8x128x1_S1x128x1_1_0_0 (k0_pay4 (F := Ideal)) (fun _ _ => 0) zero1,
    head11 B 0 (by decide) slices_S256x1024_o0_0_S128x128 slices_S256x1024_o128_0_S128x128 inb_S8x128x1_S1x128x1_0_0_0 (k0_pay4 (F := Ideal)) (fun _ _ => 0) zero1, trivial⟩
  · exact View.cover_of_tiledL (s := S8x128x1) _ S1x128x1.size (by sl_kernel_rfl) _

/-- The gating half's gradient, case B. -/
theorem out7_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : ¬cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (xo9 : Vec Ideal S1x1024 .f32) (xo10 : Vec Ideal S8x128x128 .f32) (xo11 : Vec Ideal S8x128x1 .f32) (I : Inp) (B : Blk I x0 x1 x2 x3 x4 x5 x6) (p : Fin 256) (q : Fin 1024) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix2 p q) = ((I.dzu p.val q.val : ℝ) : EReal) := by
  have hP : View.PiecesOf (G2 I.dzu) (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11).1 := by
    unfold kernelRun0_B
    dsimp only
    sl_unfold_words
    simp (disch := decide) only [↓View.readCov_skip, ↓View.readCov_cons_toLoadRect, ↓View.readCov_fill]
    simp (disch := decide) only [View.readAt_eq_ld, harg1.read_unread, harg2.read_unread, harg3.read_unread, harg4.read_unread, harg5.read_unread, harg6.read_unread, harg7.read_unread, harg10.read_unread, harg11.read_unread, harg12.read_unread]
    rw [ld2 x0, ld2 x1, ld2 x2, ldn x3]
    exact ⟨head7 B 1 7 (by decide) slices_S256x1024_o128_896_S128x128 inb_S256x1024_S128x128_128_896 inb_S8x128x128_S1x128x128_7_0_0 inb_S8x128x1_S1x128x1_7_0_0,
      head7 B 1 6 (by decide) slices_S256x1024_o128_768_S128x128 inb_S256x1024_S128x128_128_768 inb_S8x128x128_S1x128x128_6_0_0 inb_S8x128x1_S1x128x1_6_0_0,
      head7 B 1 5 (by decide) slices_S256x1024_o128_640_S128x128 inb_S256x1024_S128x128_128_640 inb_S8x128x128_S1x128x128_5_0_0 inb_S8x128x1_S1x128x1_5_0_0,
      head7 B 1 4 (by decide) slices_S256x1024_o128_512_S128x128 inb_S256x1024_S128x128_128_512 inb_S8x128x128_S1x128x128_4_0_0 inb_S8x128x1_S1x128x1_4_0_0,
      head7 B 1 3 (by decide) slices_S256x1024_o128_384_S128x128 inb_S256x1024_S128x128_128_384 inb_S8x128x128_S1x128x128_3_0_0 inb_S8x128x1_S1x128x1_3_0_0,
      head7 B 1 2 (by decide) slices_S256x1024_o128_256_S128x128 inb_S256x1024_S128x128_128_256 inb_S8x128x128_S1x128x128_2_0_0 inb_S8x128x1_S1x128x1_2_0_0,
      head7 B 1 1 (by decide) slices_S256x1024_o128_128_S128x128 inb_S256x1024_S128x128_128_128 inb_S8x128x128_S1x128x128_1_0_0 inb_S8x128x1_S1x128x1_1_0_0,
      head7 B 1 0 (by decide) slices_S256x1024_o128_0_S128x128 inb_S256x1024_S128x128_128_0 inb_S8x128x128_S1x128x128_0_0_0 inb_S8x128x1_S1x128x1_0_0_0,
      head7 B 0 7 (by decide) slices_S256x1024_o0_896_S128x128 inb_S256x1024_S128x128_0_896 inb_S8x128x128_S1x128x128_7_0_0 inb_S8x128x1_S1x128x1_7_0_0,
      head7 B 0 6 (by decide) slices_S256x1024_o0_768_S128x128 inb_S256x1024_S128x128_0_768 inb_S8x128x128_S1x128x128_6_0_0 inb_S8x128x1_S1x128x1_6_0_0,
      head7 B 0 5 (by decide) slices_S256x1024_o0_640_S128x128 inb_S256x1024_S128x128_0_640 inb_S8x128x128_S1x128x128_5_0_0 inb_S8x128x1_S1x128x1_5_0_0,
      head7 B 0 4 (by decide) slices_S256x1024_o0_512_S128x128 inb_S256x1024_S128x128_0_512 inb_S8x128x128_S1x128x128_4_0_0 inb_S8x128x1_S1x128x1_4_0_0,
      head7 B 0 3 (by decide) slices_S256x1024_o0_384_S128x128 inb_S256x1024_S128x128_0_384 inb_S8x128x128_S1x128x128_3_0_0 inb_S8x128x1_S1x128x1_3_0_0,
      head7 B 0 2 (by decide) slices_S256x1024_o0_256_S128x128 inb_S256x1024_S128x128_0_256 inb_S8x128x128_S1x128x128_2_0_0 inb_S8x128x1_S1x128x1_2_0_0,
      head7 B 0 1 (by decide) slices_S256x1024_o0_128_S128x128 inb_S256x1024_S128x128_0_128 inb_S8x128x128_S1x128x128_1_0_0 inb_S8x128x1_S1x128x1_1_0_0,
      head7 B 0 0 (by decide) slices_S256x1024_o0_0_S128x128 inb_S256x1024_S128x128_0_0 inb_S8x128x128_S1x128x128_0_0_0 inb_S8x128x1_S1x128x1_0_0_0, trivial⟩
  unfold out0_B_7
  rw [View.read_writes_junk_eq_canon]
  exact View.canon_apply_of_pieces (G2 I.dzu) _ hP.mem (ix2 p q) (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix2 p q))

/-- The mixed half's gradient, case B. -/
theorem out8_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : ¬cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (xo9 : Vec Ideal S1x1024 .f32) (xo10 : Vec Ideal S8x128x128 .f32) (xo11 : Vec Ideal S8x128x1 .f32) (I : Inp) (B : Blk I x0 x1 x2 x3 x4 x5 x6) (p : Fin 256) (q : Fin 1024) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix2 p q) = ((I.dzv p.val q.val : ℝ) : EReal) := by
  unfold out0_B_8
  rw [View.read_writes_junk_eq_canon]
  unfold kernelRun0_B
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2, ldn x3]
  rw [View.canon_cons_unit_lit _ _ _ (by decide)]
  refine dzv_apply I x2 _ x3 B.zv B.nv (fun p q => scratch arg13.view I.DV _ ?_ ?_ p q) p q
  · exact ⟨headV B 1 7 (by decide) slices_S256x1024_o128_896_S128x128 inb_S256x1024_S128x128_128_896 inb_S8x128x128_S1x128x128_7_0_0,
        headV B 1 6 (by decide) slices_S256x1024_o128_768_S128x128 inb_S256x1024_S128x128_128_768 inb_S8x128x128_S1x128x128_6_0_0,
        headV B 1 5 (by decide) slices_S256x1024_o128_640_S128x128 inb_S256x1024_S128x128_128_640 inb_S8x128x128_S1x128x128_5_0_0,
        headV B 1 4 (by decide) slices_S256x1024_o128_512_S128x128 inb_S256x1024_S128x128_128_512 inb_S8x128x128_S1x128x128_4_0_0,
        headV B 1 3 (by decide) slices_S256x1024_o128_384_S128x128 inb_S256x1024_S128x128_128_384 inb_S8x128x128_S1x128x128_3_0_0,
        headV B 1 2 (by decide) slices_S256x1024_o128_256_S128x128 inb_S256x1024_S128x128_128_256 inb_S8x128x128_S1x128x128_2_0_0,
        headV B 1 1 (by decide) slices_S256x1024_o128_128_S128x128 inb_S256x1024_S128x128_128_128 inb_S8x128x128_S1x128x128_1_0_0,
        headV B 1 0 (by decide) slices_S256x1024_o128_0_S128x128 inb_S256x1024_S128x128_128_0 inb_S8x128x128_S1x128x128_0_0_0,
        headV B 0 7 (by decide) slices_S256x1024_o0_896_S128x128 inb_S256x1024_S128x128_0_896 inb_S8x128x128_S1x128x128_7_0_0,
        headV B 0 6 (by decide) slices_S256x1024_o0_768_S128x128 inb_S256x1024_S128x128_0_768 inb_S8x128x128_S1x128x128_6_0_0,
        headV B 0 5 (by decide) slices_S256x1024_o0_640_S128x128 inb_S256x1024_S128x128_0_640 inb_S8x128x128_S1x128x128_5_0_0,
        headV B 0 4 (by decide) slices_S256x1024_o0_512_S128x128 inb_S256x1024_S128x128_0_512 inb_S8x128x128_S1x128x128_4_0_0,
        headV B 0 3 (by decide) slices_S256x1024_o0_384_S128x128 inb_S256x1024_S128x128_0_384 inb_S8x128x128_S1x128x128_3_0_0,
        headV B 0 2 (by decide) slices_S256x1024_o0_256_S128x128 inb_S256x1024_S128x128_0_256 inb_S8x128x128_S1x128x128_2_0_0,
        headV B 0 1 (by decide) slices_S256x1024_o0_128_S128x128 inb_S256x1024_S128x128_0_128 inb_S8x128x128_S1x128x128_1_0_0,
        headV B 0 0 (by decide) slices_S256x1024_o0_0_S128x128 inb_S256x1024_S128x128_0_0 inb_S8x128x128_S1x128x128_0_0_0, trivial⟩
  · exact fun y => View.cover_of_tiledL (s := S256x1024) _ S128x128.size (by sl_kernel_rfl) y

/-- The gain's gradient, case B. -/
theorem out9_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : ¬cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (xo9 : Vec Ideal S1x1024 .f32) (xo10 : Vec Ideal S8x128x128 .f32) (xo11 : Vec Ideal S8x128x1 .f32) (I : Inp) (B : Blk I x0 x1 x2 x3 x4 x5 x6) (P : ℕ → ℝ) (hP : ∀ q, xo9 (ix2 0 q) = ((P q.val : ℝ) : EReal)) (q : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix2 0 q) = ((P q.val + ∑ r : Fin 256, I.dnvAt r.val q.val : ℝ) : EReal) := by
  unfold out0_B_9
  rw [View.read_writes_junk_eq_canon]
  unfold kernelRun0_B
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2, ldn xo9]
  rw [View.canon_cons_unit_lit _ _ _ (by decide)]
  refine dnv_apply I x2 _ _ B.zv (fun p q => scratch arg13.view I.DV _ ?_ ?_ p q) P hP q
  · exact ⟨headV B 1 7 (by decide) slices_S256x1024_o128_896_S128x128 inb_S256x1024_S128x128_128_896 inb_S8x128x128_S1x128x128_7_0_0,
        headV B 1 6 (by decide) slices_S256x1024_o128_768_S128x128 inb_S256x1024_S128x128_128_768 inb_S8x128x128_S1x128x128_6_0_0,
        headV B 1 5 (by decide) slices_S256x1024_o128_640_S128x128 inb_S256x1024_S128x128_128_640 inb_S8x128x128_S1x128x128_5_0_0,
        headV B 1 4 (by decide) slices_S256x1024_o128_512_S128x128 inb_S256x1024_S128x128_128_512 inb_S8x128x128_S1x128x128_4_0_0,
        headV B 1 3 (by decide) slices_S256x1024_o128_384_S128x128 inb_S256x1024_S128x128_128_384 inb_S8x128x128_S1x128x128_3_0_0,
        headV B 1 2 (by decide) slices_S256x1024_o128_256_S128x128 inb_S256x1024_S128x128_128_256 inb_S8x128x128_S1x128x128_2_0_0,
        headV B 1 1 (by decide) slices_S256x1024_o128_128_S128x128 inb_S256x1024_S128x128_128_128 inb_S8x128x128_S1x128x128_1_0_0,
        headV B 1 0 (by decide) slices_S256x1024_o128_0_S128x128 inb_S256x1024_S128x128_128_0 inb_S8x128x128_S1x128x128_0_0_0,
        headV B 0 7 (by decide) slices_S256x1024_o0_896_S128x128 inb_S256x1024_S128x128_0_896 inb_S8x128x128_S1x128x128_7_0_0,
        headV B 0 6 (by decide) slices_S256x1024_o0_768_S128x128 inb_S256x1024_S128x128_0_768 inb_S8x128x128_S1x128x128_6_0_0,
        headV B 0 5 (by decide) slices_S256x1024_o0_640_S128x128 inb_S256x1024_S128x128_0_640 inb_S8x128x128_S1x128x128_5_0_0,
        headV B 0 4 (by decide) slices_S256x1024_o0_512_S128x128 inb_S256x1024_S128x128_0_512 inb_S8x128x128_S1x128x128_4_0_0,
        headV B 0 3 (by decide) slices_S256x1024_o0_384_S128x128 inb_S256x1024_S128x128_0_384 inb_S8x128x128_S1x128x128_3_0_0,
        headV B 0 2 (by decide) slices_S256x1024_o0_256_S128x128 inb_S256x1024_S128x128_0_256 inb_S8x128x128_S1x128x128_2_0_0,
        headV B 0 1 (by decide) slices_S256x1024_o0_128_S128x128 inb_S256x1024_S128x128_0_128 inb_S8x128x128_S1x128x128_1_0_0,
        headV B 0 0 (by decide) slices_S256x1024_o0_0_S128x128 inb_S256x1024_S128x128_0_0 inb_S8x128x128_S1x128x128_0_0_0, trivial⟩
  · exact fun y => View.cover_of_tiledL (s := S256x1024) _ S128x128.size (by sl_kernel_rfl) y

/-- The mixing matrices' gradient, case B. -/
theorem out10_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : ¬cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (xo9 : Vec Ideal S1x1024 .f32) (xo10 : Vec Ideal S8x128x128 .f32) (xo11 : Vec Ideal S8x128x1 .f32) (I : Inp) (B : Blk I x0 x1 x2 x3 x4 x5 x6) (P : ℕ → ℕ → ℕ → ℝ) (hP : ∀ h i k, xo10 (ix3 h i k) = ((P h.val i.val k.val : ℝ) : EReal)) (h : Fin 8) (a b : Fin 128) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix3 h a b) = ((P h.val a.val b.val + I.dwmAt 0 h.val a.val b.val + I.dwmAt 1 h.val a.val b.val : ℝ) : EReal) := by
  unfold out0_B_10
  rw [View.read_writes_junk_eq_canon]
  unfold kernelRun0_B
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1, ld2 x2, ldn x3]
  refine View.canon_append_of_piecesOf (Val := Elt Ideal) (e := .f32) (s := S8x128x128) (G3 (fun h i k => P h i k + I.dwmAt 0 h i k + I.dwmAt 1 h i k)) _ [_, _, _, _, _, _, _, _] ?_ (ix3 h a b) ?_
  · exact ⟨head10 B 7 (by decide) slices_S256x1024_o0_896_S128x128 slices_S256x1024_o128_896_S128x128 inb_S8x128x128_S1x128x128_7_0_0 xo10 P hP,
    head10 B 6 (by decide) slices_S256x1024_o0_768_S128x128 slices_S256x1024_o128_768_S128x128 inb_S8x128x128_S1x128x128_6_0_0 xo10 P hP,
    head10 B 5 (by decide) slices_S256x1024_o0_640_S128x128 slices_S256x1024_o128_640_S128x128 inb_S8x128x128_S1x128x128_5_0_0 xo10 P hP,
    head10 B 4 (by decide) slices_S256x1024_o0_512_S128x128 slices_S256x1024_o128_512_S128x128 inb_S8x128x128_S1x128x128_4_0_0 xo10 P hP,
    head10 B 3 (by decide) slices_S256x1024_o0_384_S128x128 slices_S256x1024_o128_384_S128x128 inb_S8x128x128_S1x128x128_3_0_0 xo10 P hP,
    head10 B 2 (by decide) slices_S256x1024_o0_256_S128x128 slices_S256x1024_o128_256_S128x128 inb_S8x128x128_S1x128x128_2_0_0 xo10 P hP,
    head10 B 1 (by decide) slices_S256x1024_o0_128_S128x128 slices_S256x1024_o128_128_S128x128 inb_S8x128x128_S1x128x128_1_0_0 xo10 P hP,
    head10 B 0 (by decide) slices_S256x1024_o0_0_S128x128 slices_S256x1024_o128_0_S128x128 inb_S8x128x128_S1x128x128_0_0_0 xo10 P hP, trivial⟩
  · exact View.cover_of_tiledL (s := S8x128x128) _ S1x128x128.size (by sl_kernel_rfl) _

/-- The biases' gradient, case B. -/
theorem out11_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S8x128x128 .bf16) (harg5 : arg5.IsWhole) (arg6 : Memref sig .tc .vmem S8x128x128 .bf16) (harg6 : arg6.IsWhole) (arg7 : Memref sig .tc .vmem S8x128x1 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S8x128x128 .f32) (harg11 : arg11.IsWhole) (arg12 : Memref sig .tc .vmem S8x128x1 .f32) (harg12 : arg12.IsWhole) (arg13 : Memref sig .tc .vmem S256x1024 .f32) (harg13 : arg13.IsWhole) (hc0 : ¬cond0_0 i)
    (x0 : Vec Ideal S256x1024 .f32) (x1 : Vec Ideal S256x1024 .f32) (x2 : Vec Ideal S256x1024 .f32) (x3 : Vec Ideal S1x1024 .f32) (x4 : Vec Ideal S8x128x128 .bf16) (x5 : Vec Ideal S8x128x128 .bf16) (x6 : Vec Ideal S8x128x1 .f32) (xo9 : Vec Ideal S1x1024 .f32) (xo10 : Vec Ideal S8x128x128 .f32) (xo11 : Vec Ideal S8x128x1 .f32) (I : Inp) (B : Blk I x0 x1 x2 x3 x4 x5 x6) (P : ℕ → ℕ → ℝ) (hP : ∀ h i, xo11 (ix3 h i 0) = ((P h.val i.val : ℝ) : EReal)) (h : Fin 8) (a : Fin 128) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo9 xo10 xo11 (ix3 h a 0) = ((P h.val a.val + I.dbsAt 0 h.val a.val + I.dbsAt 1 h.val a.val : ℝ) : EReal) := by
  unfold out0_B_11
  rw [View.read_writes_junk_eq_canon]
  unfold kernelRun0_B
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg7.read_unread, harg10.read_unread, harg11.read_unread, harg12.read_unread]
  rw [ld2 x0, ld2 x1]
  refine View.canon_append_of_piecesOf (Val := Elt Ideal) (e := .f32) (s := S8x128x1) (G1 (fun h i => P h i + I.dbsAt 0 h i + I.dbsAt 1 h i)) _ [_, _, _, _, _, _, _, _] ?_ (ix3 h a 0) ?_
  · exact ⟨head11 B 7 (by decide) slices_S256x1024_o0_896_S128x128 slices_S256x1024_o128_896_S128x128 inb_S8x128x1_S1x128x1_7_0_0 xo11 P hP,
    head11 B 6 (by decide) slices_S256x1024_o0_768_S128x128 slices_S256x1024_o128_768_S128x128 inb_S8x128x1_S1x128x1_6_0_0 xo11 P hP,
    head11 B 5 (by decide) slices_S256x1024_o0_640_S128x128 slices_S256x1024_o128_640_S128x128 inb_S8x128x1_S1x128x1_5_0_0 xo11 P hP,
    head11 B 4 (by decide) slices_S256x1024_o0_512_S128x128 slices_S256x1024_o128_512_S128x128 inb_S8x128x1_S1x128x1_4_0_0 xo11 P hP,
    head11 B 3 (by decide) slices_S256x1024_o0_384_S128x128 slices_S256x1024_o128_384_S128x128 inb_S8x128x1_S1x128x1_3_0_0 xo11 P hP,
    head11 B 2 (by decide) slices_S256x1024_o0_256_S128x128 slices_S256x1024_o128_256_S128x128 inb_S8x128x1_S1x128x1_2_0_0 xo11 P hP,
    head11 B 1 (by decide) slices_S256x1024_o0_128_S128x128 slices_S256x1024_o128_128_S128x128 inb_S8x128x1_S1x128x1_1_0_0 xo11 P hP,
    head11 B 0 (by decide) slices_S256x1024_o0_0_S128x128 slices_S256x1024_o128_0_S128x128 inb_S8x128x1_S1x128x1_0_0_0 xo11 P hP, trivial⟩
  · exact View.cover_of_tiledL (s := S8x128x1) _ S1x128x1.size (by sl_kernel_rfl) _

end

end Gate.Body
-- ==== Proof.Input.lean ====
module
public import proofs.«01_k».proof.Proof.Spec
public import proofs.«01_k».proof.KernelIdeal
public import Idealize.ShloMosaic.Lib.Pointwise

/-! # The arguments as arrays of reals -/

@[expose] public section

set_option maxRecDepth 16384

namespace Gate

open Cert.KernelIdeal Idealize.ShloMosaic

noncomputable section

/-- The mask's comparison of two positions. -/
theorem causal_bit (i k : Fin 128) :
    Scalar.select (IntOp.cmpi .sge (IntOp.addi (BitVec.ofNat 32 i.val) 0#32) (BitVec.ofNat 32 k.val)) 1#1 0#1
      = if k.val ≤ i.val then 1#1 else 0#1 := by
  have e : (IntOp.cmpi .sge (IntOp.addi (BitVec.ofNat 32 i.val) 0#32) (BitVec.ofNat 32 k.val)) = if k.val ≤ i.val then 1#1 else 0#1 := by
    have := i.isLt; have := k.isLt
    have hi : (BitVec.ofNat 32 i.val).toInt = i.val := by
      rw [BitVec.toInt_eq_toNat_of_lt] <;> simp [BitVec.toNat_ofNat] <;> omega
    have hk : (BitVec.ofNat 32 k.val).toInt = k.val := by
      rw [BitVec.toInt_eq_toNat_of_lt] <;> simp [BitVec.toNat_ofNat] <;> omega
    simp only [IntOp.cmpi, IntOp.addi, BitVec.add_zero, BitVec.sle, hi, hk]
    by_cases h : k.val ≤ i.val <;> simp [h]
  rw [e]
  by_cases h : k.val ≤ i.val <;> simp [h, Scalar.select]

/-- The arguments hold the reals of `I`: the cotangent, the two pre-activations (columns 1024 and 2048 on of the second
argument), the gain, the mixing matrices with their causal mask, the biases. -/
structure Args (I : Inp) (a0 : FVec Ideal S4096x1024 .f32) (a1 : FVec Ideal S4096x3072 .f32) (a2 : FVec Ideal S1x1024 .f32)
    (a3 : FVec Ideal S1x8x128x128 .f32) (a4 : FVec Ideal S1x8x128 .f32) : Prop where
  dy : ∀ r q, a0 (ix2 r q) = ((I.dy r.val q.val : ℝ) : EReal)
  zu : ∀ (r : Fin 4096) (q : Fin 1024), a1 (ix2 r ⟨1024 + q.val, by omega⟩) = ((I.zu r.val q.val : ℝ) : EReal)
  zv : ∀ (r : Fin 4096) (q : Fin 1024), a1 (ix2 r ⟨2048 + q.val, by omega⟩) = ((I.zv r.val q.val : ℝ) : EReal)
  nv : ∀ q, a2 (ix2 0 q) = ((I.nv q.val : ℝ) : EReal)
  w : ∀ (h : Fin 8) (i k : Fin 128), (if k.val ≤ i.val then a3 (ix4 0 h i k) else 0) = ((I.w h.val i.val k.val : ℝ) : EReal)
  b : ∀ h i, a4 (ix3 0 h i) = ((I.b h.val i.val : ℝ) : EReal)

/-- Finite arguments are arrays of reals. -/
theorem exists_args (a0 : FVec Ideal S4096x1024 .f32) (a1 : FVec Ideal S4096x3072 .f32) (a2 : FVec Ideal S1x1024 .f32)
    (a3 : FVec Ideal S1x8x128x128 .f32) (a4 : FVec Ideal S1x8x128 .f32)
    (h0 : ∀ j, ∃ x : ℝ, a0 j = (x : EReal)) (h1 : ∀ j, ∃ x : ℝ, a1 j = (x : EReal)) (h2 : ∀ j, ∃ x : ℝ, a2 j = (x : EReal))
    (h3 : ∀ j, ∃ x : ℝ, a3 j = (x : EReal)) (h4 : ∀ j, ∃ x : ℝ, a4 j = (x : EReal)) : ∃ I, Args I a0 a1 a2 a3 a4 := by
  choose f0 e0 using h0
  choose f1 e1 using h1
  choose f2 e2 using h2
  choose f3 e3 using h3
  choose f4 e4 using h4
  refine ⟨{ dy := fun r q => f0 (ix2 (Fin.ofNat 4096 r) (Fin.ofNat 1024 q))
            zu := fun r q => f1 (ix2 (Fin.ofNat 4096 r) (Fin.ofNat 3072 (1024 + q)))
            zv := fun r q => f1 (ix2 (Fin.ofNat 4096 r) (Fin.ofNat 3072 (2048 + q)))
            nv := fun q => f2 (ix2 0 (Fin.ofNat 1024 q))
            w := fun h i k => if k ≤ i then f3 (ix4 0 (Fin.ofNat 8 h) (Fin.ofNat 128 i) (Fin.ofNat 128 k)) else 0
            b := fun h i => f4 (ix3 0 (Fin.ofNat 8 h) (Fin.ofNat 128 i)) }, ?_, ?_, ?_, ?_, ?_, ?_⟩
  · intro r q
    have hr : Fin.ofNat 4096 r.val = r := Fin.ext (Nat.mod_eq_of_lt r.isLt)
    have hq : Fin.ofNat 1024 q.val = q := Fin.ext (Nat.mod_eq_of_lt q.isLt)
    simp only [hr, hq, e0]
  · intro r q
    have hr : Fin.ofNat 4096 r.val = r := Fin.ext (Nat.mod_eq_of_lt r.isLt)
    have hq : Fin.ofNat 3072 (1024 + q.val) = ⟨1024 + q.val, by omega⟩ := Fin.ext (Nat.mod_eq_of_lt (by omega))
    simp only [hr, hq, e1]
  · intro r q
    have hr : Fin.ofNat 4096 r.val = r := Fin.ext (Nat.mod_eq_of_lt r.isLt)
    have hq : Fin.ofNat 3072 (2048 + q.val) = ⟨2048 + q.val, by omega⟩ := Fin.ext (Nat.mod_eq_of_lt (by omega))
    simp only [hr, hq, e1]
  · intro q
    have hq : Fin.ofNat 1024 q.val = q := Fin.ext (Nat.mod_eq_of_lt q.isLt)
    simp only [hq, e2]
  · intro h i k
    have hh : Fin.ofNat 8 h.val = h := Fin.ext (Nat.mod_eq_of_lt h.isLt)
    have hi : Fin.ofNat 128 i.val = i := Fin.ext (Nat.mod_eq_of_lt i.isLt)
    have hk : Fin.ofNat 128 k.val = k := Fin.ext (Nat.mod_eq_of_lt k.isLt)
    simp only [hh, hi, hk, e3]
    by_cases hle : k.val ≤ i.val
    · rw [if_pos hle, if_pos hle]
    · rw [if_neg hle, if_neg hle]; rfl
  · intro h i
    have hh : Fin.ofNat 8 h.val = h := Fin.ext (Nat.mod_eq_of_lt h.isLt)
    have hi : Fin.ofNat 128 i.val = i := Fin.ext (Nat.mod_eq_of_lt i.isLt)
    simp only [hh, hi, e4]

end

end Gate
-- ==== Proof.Host.lean ====
module
public import proofs.«01_k».proof.Proof.Body
public import proofs.«01_k».proof.Proof.Input
public import Idealize.ShloMosaic.Lib.Pipeline.ValueKit.Geometry
public import Idealize.ShloMosaic.Lib.StableHlo

/-! # The blocks a grid point fetches

The host masks the mixing matrices, transposes the stack and turns the biases to columns; a window's block at a point is
then rows 256 t … of an argument, or the whole of one of these. -/

@[expose] public section

set_option maxRecDepth 16384

namespace Gate

open Cert.KernelIdeal Cert.KernelIdeal.Gen Idealize.ShloMosaic Idealize.ShloMosaic.TcCoe Idealize.SL.Sem

noncomputable section

variable (m : (ℓ : Loc nD τ sig) → Buf (Elt Ideal) ℓ)

/-- The causal mask, as the host computes it. -/
def hostMask : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The masked mixing matrices, as the host computes them. -/
def hostW (a3 : FVec Ideal S1x8x128x128 .f32) : FVec Ideal S8x128x128 .bf16 :=
  truncf .bf16 (select (broadcastInDim S8x128x128 ![0, 1, 2] bcast_S1x128x128_S8x128x128_0_1_2
      (broadcastInDim S1x128x128 ![1, 2] bcast_S128x128_S1x128x128_1_2 hostMask))
    (shapeCast S8x128x128 a3 shapeCasts_S1x8x128x128_S8x128x128)
    (broadcastInDim S8x128x128 ![] bcast_S_S8x128x128 (constant S_ .f32 0x00000000#32))) bitsLt_bf16_f32

/-- What the region finds as its stack of mixing matrices. -/
theorem V_v5 (c : Dev nD) : V m c main_v5 = hostW (m ((c : Thread nD τ).loc main_arg3)) := by
  show StableHlo.after (List.flatten [hostOps0, hostOps0_1, hostOps0_2, hostOps0_3, hostOps0_4]) (fun b => m (c, b)) (Proc.devRef .tc main_v5) = _
  simp only [List.flatten_cons, List.flatten_nil, List.cons_append, List.nil_append, List.append_nil]
  after_results
  rfl

/-- What the region finds as the transposed stack. -/
theorem V_v6 (c : Dev nD) : V m c main_v6 = transpose S8x128x128 [0, 2, 1] (hostW (m ((c : Thread nD τ).loc main_arg3))) transposes_S8x128x128_S8x128x128_0_2_1 := by
  show StableHlo.after (List.flatten [hostOps0, hostOps0_1, hostOps0_2, hostOps0_3, hostOps0_4]) (fun b => m (c, b)) (Proc.devRef .tc main_v6) = _
  simp only [List.flatten_cons, List.flatten_nil, List.cons_append, List.nil_append, List.append_nil]
  after_results
  rfl

/-- What the region finds as the stack of biases. -/
theorem V_v8 (c : Dev nD) : V m c main_v8 = broadcastInDim S8x128x1 ![0, 1] bcast_S8x128_S8x128x1_0_1
    (shapeCast S8x128 (m ((c : Thread nD τ).loc main_arg4) : FVec Ideal S1x8x128 .f32) shapeCasts_S1x8x128_S8x128) := by
  show StableHlo.after (List.flatten [hostOps0, hostOps0_1, hostOps0_2, hostOps0_3, hostOps0_4]) (fun b => m (c, b)) (Proc.devRef .tc main_v8) = _
  simp only [List.flatten_cons, List.flatten_nil, List.cons_append, List.nil_append, List.append_nil]
  after_results
  rfl

theorem hostMask_apply (i k : Fin 128) : hostMask (ix2 i k) = if k.val ≤ i.val then 1#1 else 0#1 := by
  pointwise [hostMask]
  exact causal_bit i k

theorem hostW_apply (a3 : FVec Ideal S1x8x128x128 .f32) (h : Fin 8) (i k : Fin 128) :
    hostW a3 (ix3 h i k) = if k.val ≤ i.val then a3 (ix4 0 h i k) else 0 := by
  pointwise [hostW]
  rw [hostMask_apply]
  by_cases h : k.val ≤ i.val <;> simp [h, Scalar.select]

theorem transposed_apply (X : FVec Ideal S8x128x128 .bf16) (h : Fin 8) (i k : Fin 128) :
    transpose S8x128x128 [0, 2, 1] X transposes_S8x128x128_S8x128x128_0_2_1 (ix3 h i k) = X (ix3 h k i) := by
  pointwise

theorem column_apply (X : FVec Ideal S1x8x128 .f32) (h : Fin 8) (i : Fin 128) :
    broadcastInDim S8x128x1 ![0, 1] bcast_S8x128_S8x128x1_0_1 (shapeCast S8x128 X shapeCasts_S1x8x128_S8x128) (ix3 h i 0)
      = X (ix3 0 h i) := by
  pointwise

/-! ## Block indices -/

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0, 0] := (by decide +kernel : ∀ t : Fin grid0.N, _)

theorem row_lt (t : Fin cfg0.N) (p : Fin 256) : 128 * (2 * t.val) + p.val < 4096 := by
  have := t.isLt
  have := p.isLt
  have : cfg0.N = 16 := N_0
  omega

/-! ## The blocks -/

theorem iblk0 (c : Dev nD) (t : Fin cfg0.N) (p : Fin 256) (q : Fin 1024) :
    (iblk m c 0 t : S256x1024.Idx → EReal) (ix2 p q)
      = (m ((c : Thread nD τ).loc main_arg0) : S4096x1024.Idx → EReal) (ix2 ⟨128 * (2 * t.val) + p.val, row_lt t p⟩ q) := by
  blk_simp [iblk, idx0]
  rw [V_main_arg0]
  refine congrArg (m ((c : Thread nD τ).loc main_arg0)) ?_
  blk_ext [idx0]

theorem iblk1 (c : Dev nD) (t : Fin cfg0.N) (p : Fin 256) (q : Fin 1024) :
    (iblk m c 1 t : S256x1024.Idx → EReal) (ix2 p q)
      = (m ((c : Thread nD τ).loc main_arg1) : S4096x3072.Idx → EReal) (ix2 ⟨128 * (2 * t.val) + p.val, row_lt t p⟩ ⟨1024 + q.val, by omega⟩) := by
  blk_simp [iblk, idx1]
  rw [V_main_arg1]
  refine congrArg (m ((c : Thread nD τ).loc main_arg1)) ?_
  blk_ext [idx1]

theorem iblk2 (c : Dev nD) (t : Fin cfg0.N) (p : Fin 256) (q : Fin 1024) :
    (iblk m c 2 t : S256x1024.Idx → EReal) (ix2 p q)
      = (m ((c : Thread nD τ).loc main_arg1) : S4096x3072.Idx → EReal) (ix2 ⟨128 * (2 * t.val) + p.val, row_lt t p⟩ ⟨2048 + q.val, by omega⟩) := by
  blk_simp [iblk, idx2]
  rw [V_main_arg1]
  refine congrArg (m ((c : Thread nD τ).loc main_arg1)) ?_
  blk_ext [idx2]

theorem iblk3 (c : Dev nD) (t : Fin cfg0.N) (q : Fin 1024) :
    (iblk m c 3 t : S1x1024.Idx → EReal) (ix2 0 q) = (m ((c : Thread nD τ).loc main_arg2) : S1x1024.Idx → EReal) (ix2 0 q) := by
  blk_simp [iblk, idx3]
  rw [V_main_arg2]
  refine congrArg (m ((c : Thread nD τ).loc main_arg2)) ?_
  blk_ext [idx3]

theorem iblk4 (c : Dev nD) (t : Fin cfg0.N) (h : Fin 8) (i k : Fin 128) :
    (iblk m c 4 t : S8x128x128.Idx → EReal) (ix3 h i k) = hostW (m ((c : Thread nD τ).loc main_arg3)) (ix3 h i k) := by
  blk_simp [iblk, idx4]
  rw [V_v5]
  refine congrArg (hostW (m ((c : Thread nD τ).loc main_arg3))) ?_
  blk_ext [idx4]

theorem iblk5 (c : Dev nD) (t : Fin cfg0.N) (h : Fin 8) (i k : Fin 128) :
    (iblk m c 5 t : S8x128x128.Idx → EReal) (ix3 h i k) = hostW (m ((c : Thread nD τ).loc main_arg3)) (ix3 h k i) := by
  blk_simp [iblk, idx5]
  rw [V_v6]
  have e : (win0_5.blk t).view.emb (ix3 h i k) = (ix3 h i k : S8x128x128.Idx) := by blk_ext [idx5]
  rw [e]
  exact transposed_apply _ h i k

theorem iblk6 (c : Dev nD) (t : Fin cfg0.N) (h : Fin 8) (i : Fin 128) :
    (iblk m c 6 t : S8x128x1.Idx → EReal) (ix3 h i 0) = (m ((c : Thread nD τ).loc main_arg4) : S1x8x128.Idx → EReal) (ix3 0 h i) := by
  blk_simp [iblk, idx6]
  rw [V_v8]
  have e : (win0_6.blk t).view.emb (ix3 h i 0) = (ix3 h i 0 : S8x128x1.Idx) := by blk_ext [idx6]
  rw [e]
  exact column_apply _ h i

/-- The blocks of point `t` hold the arguments seen from row `256 t` on. -/
theorem blk_args {I : Inp} (c : Dev nD) (A : Args I (m ((c : Thread nD τ).loc main_arg0)) (m ((c : Thread nD τ).loc main_arg1))
      (m ((c : Thread nD τ).loc main_arg2)) (m ((c : Thread nD τ).loc main_arg3)) (m ((c : Thread nD τ).loc main_arg4)))
    (t : Fin cfg0.N) :
    Body.Blk (I.shift (128 * (2 * t.val))) (iblk m c 0 t) (iblk m c 1 t) (iblk m c 2 t) (iblk m c 3 t) (iblk m c 4 t) (iblk m c 5 t)
      (iblk m c 6 t) where
  dy p q := (iblk0 m c t p q).trans (A.dy _ _)
  zu p q := (iblk1 m c t p q).trans (A.zu _ _)
  zv p q := (iblk2 m c t p q).trans (A.zv _ _)
  nv q := (iblk3 m c t q).trans (A.nv _)
  w h i k := (iblk4 m c t h i k).trans ((hostW_apply _ h i k).trans (A.w h i k))
  wt h i k := (iblk5 m c t h i k).trans ((hostW_apply _ h k i).trans (A.w h k i))
  b h i := (iblk6 m c t h i).trans (A.b h i)

end

end Gate
-- ==== Proof.Arrays.lean ====
module
public import proofs.«01_k».proof.Proof.Host
public import proofs.«01_k».proof.Proof.Gen.KernelIdeal.Value

/-! # The kernel's five result arrays

The two pre-activation gradients are written a block of rows per point. The three parameter gradients are accumulated over
the sixteen points and written back once, at the last. -/

@[expose] public section

set_option maxRecDepth 16384

namespace Gate

open Cert.KernelIdeal Cert.KernelIdeal.Gen Idealize.ShloMosaic Idealize.ShloMosaic.TcCoe Idealize.SL.Sem
open Idealize.ShloMosaic.Pipeline (Dat)

noncomputable section

variable (m : (ℓ : Loc nD τ sig) → Buf (Elt Ideal) ℓ) {I : Inp} (c : Dev nD)
  (A : Args I (m ((c : Thread nD τ).loc main_arg0)) (m ((c : Thread nD τ).loc main_arg1))
      (m ((c : Thread nD τ).loc main_arg2)) (m ((c : Thread nD τ).loc main_arg3)) (m ((c : Thread nD τ).loc main_arg4)))

include A

/-! ## What a point leaves -/

theorem at7 (t : Fin cfg0.N) (p : Fin 256) (q : Fin 1024) :
    ((outsAt0 m c t.val t.isLt).1 : S256x1024.Idx → EReal) (ix2 p q) = ((I.dzu (128 * (2 * t.val) + p.val) q.val : ℝ) : EReal) := by
  rw [← I.dzu_shift]
  by_cases h0 : t.val % 16 = 0
  · rw [outsAt0_A m c t h0]
    dsimp only
    exact Body.out7_A _ _ _ _ _ _ _ _ _ _ _ _ _ _ _ _ _ _ _ _ _ _ _ _ _ _ _ _ _ _ _ _ _ _ _ _ _ (blk_args m c A t) p q
  · rw [outsAt0_B m c t h0]
    dsimp only
    exact Body.out7_B _ _ _ _ _ _ _ _ _ _ _ _ _ _ _ _ _ _ _ _ _ _ _ _ _ _ _ _ _ _ _ _ _ _ _ _ _ _ _ _ (blk_args m c A t) p q

theorem at8 (t : Fin cfg0.N) (p : Fin 256) (q : Fin 1024) :
    ((outsAt0 m c t.val t.isLt).2.1 : S256x1024.Idx → EReal) (ix2 p q) = ((I.dzv (128 * (2 * t.val) + p.val) q.val : ℝ) : EReal) := by
  rw [← I.dzv_shift]
  by_cases h0 : t.val % 16 = 0
  · rw [outsAt0_A m c t h0]
    dsimp only
    exact Body.out8_A _ _ _ _ _ _ _ _ _ _ _ _ _ _ _ _ _ _ _ _ _ _ _ _ _ _ _ _ _ _ _ _ _ _ _ _ _ (blk_args m c A t) p q
  · rw [outsAt0_B m c t h0]
    dsimp only
    exact Body.out8_B _ _ _ _ _ _ _ _ _ _ _ _ _ _ _ _ _ _ _ _ _ _ _ _ _ _ _ _ _ _ _ _ _ _ _ _ _ _ _ _ (blk_args m c A t) p q

theorem at9 : ∀ (n : ℕ) (hn : n < cfg0.N) (q : Fin 1024),
    ((outsAt0 m c n hn).2.2.1 : S1x1024.Idx → EReal) (ix2 0 q) = ((I.dnv (256 * (n + 1)) q.val : ℝ) : EReal) := by
  intro n
  induction n with
  | zero =>
    intro hn q
    have e := outsAt0_A m c ⟨0, hn⟩ rfl
    rw [show outsAt0 m c 0 hn = _ from e, I.dnv_step]
    dsimp only
    refine (Body.out9_A _ _ _ _ _ _ _ _ _ _ _ _ _ _ _ _ _ _ _ _ _ _ _ _ _ _ _ _ _ _ _ _ _ _ _ _ _ (blk_args m c A ⟨0, hn⟩) q).trans ?_
    simp only [I.dnv_zero, Nat.mul_zero]
  | succ n ih =>
    intro hn q
    have hN : cfg0.N = 16 := N_0
    have h0 : ¬ (n + 1) % 16 = 0 := by omega
    have e := outsAt0_B m c ⟨n + 1, hn⟩ h0
    rw [show outsAt0 m c (n + 1) hn = _ from e, I.dnv_step]
    dsimp only
    exact Body.out9_B _ _ _ _ _ _ _ _ _ _ _ _ _ _ _ _ _ _ _ _ _ _ _ _ _ _ _ _ _ _ _ _ _ _ _ _ _ _ _ _ (blk_args m c A ⟨n + 1, hn⟩) (fun q => I.dnv (256 * (n + 1)) q) (ih (Nat.lt_of_succ_lt hn)) q

theorem at10 : ∀ (n : ℕ) (hn : n < cfg0.N) (h : Fin 8) (i k : Fin 128),
    ((outsAt0 m c n hn).2.2.2.1 : S8x128x128.Idx → EReal) (ix3 h i k) = ((I.dwm (2 * (n + 1)) h.val i.val k.val : ℝ) : EReal) := by
  intro n
  induction n with
  | zero =>
    intro hn h i k
    have e := outsAt0_A m c ⟨0, hn⟩ rfl
    rw [show outsAt0 m c 0 hn = _ from e, I.dwm_step]
    dsimp only
    refine (Body.out10_A _ _ _ _ _ _ _ _ _ _ _ _ _ _ _ _ _ _ _ _ _ _ _ _ _ _ _ _ _ _ _ _ _ _ _ _ _ (blk_args m c A ⟨0, hn⟩) h i k).trans ?_
    simp only [I.dwm_zero, Nat.mul_zero]
  | succ n ih =>
    intro hn h i k
    have hN : cfg0.N = 16 := N_0
    have h0 : ¬ (n + 1) % 16 = 0 := by omega
    have e := outsAt0_B m c ⟨n + 1, hn⟩ h0
    rw [show outsAt0 m c (n + 1) hn = _ from e, I.dwm_step]
    dsimp only
    exact Body.out10_B _ _ _ _ _ _ _ _ _ _ _ _ _ _ _ _ _ _ _ _ _ _ _ _ _ _ _ _ _ _ _ _ _ _ _ _ _ _ _ _ (blk_args m c A ⟨n + 1, hn⟩) (fun h i k => I.dwm (2 * (n + 1)) h i k) (ih (Nat.lt_of_succ_lt hn)) h i k

theorem at11 : ∀ (n : ℕ) (hn : n < cfg0.N) (h : Fin 8) (i : Fin 128),
    ((outsAt0 m c n hn).2.2.2.2 : S8x128x1.Idx → EReal) (ix3 h i 0) = ((I.dbs (2 * (n + 1)) h.val i.val : ℝ) : EReal) := by
  intro n
  induction n with
  | zero =>
    intro hn h i
    have e := outsAt0_A m c ⟨0, hn⟩ rfl
    rw [show outsAt0 m c 0 hn = _ from e, I.dbs_step]
    dsimp only
    refine (Body.out11_A _ _ _ _ _ _ _ _ _ _ _ _ _ _ _ _ _ _ _ _ _ _ _ _ _ _ _ _ _ _ _ _ _ _ _ _ _ (blk_args m c A ⟨0, hn⟩) h i).trans ?_
    simp only [I.dbs_zero, Nat.mul_zero]
  | succ n ih =>
    intro hn h i
    have hN : cfg0.N = 16 := N_0
    have h0 : ¬ (n + 1) % 16 = 0 := by omega
    have e := outsAt0_B m c ⟨n + 1, hn⟩ h0
    rw [show outsAt0 m c (n + 1) hn = _ from e, I.dbs_step]
    dsimp only
    exact Body.out11_B _ _ _ _ _ _ _ _ _ _ _ _ _ _ _ _ _ _ _ _ _ _ _ _ _ _ _ _ _ _ _ _ _ _ _ _ _ _ _ _ (blk_args m c A ⟨n + 1, hn⟩) (fun h i => I.dbs (2 * (n + 1)) h i) (ih (Nat.lt_of_succ_lt hn)) h i

/-! ## The arrays -/

theorem arr7 (r : Fin 4096) (q : Fin 1024) :
    ((dats m 0 c).arrAt 7 cfg0.N : S4096x1024.Idx → EReal) (ix2 r q) = ((I.dzu r.val q.val : ℝ) : EReal) := by
  have e : (dats m 0 c).arrAt 7 cfg0.N = (fun y : S4096x1024.Idx => ((I.dzu (y 0).val (y 1).val : ℝ) : EReal)) := by
    refine (dats m 0 c).arrAt_eq_of_covers 7 _ (by decide +kernel) fun t hf y => ?_
    rw [after0_7]
    obtain ⟨p, q, rfl⟩ : ∃ (p : Fin 256) (q : Fin 1024), y = ix2 p q := ⟨y 0, y 1, eq_ix2 y⟩
    refine (at7 m c A t p q).trans ?_
    blk_simp [idx7]
    rw [show 128 * (2 * t.val) = t.val * 256 by omega]
  exact congrFun e (ix2 r q)

theorem arr8 (r : Fin 4096) (q : Fin 1024) :
    ((dats m 0 c).arrAt 8 cfg0.N : S4096x1024.Idx → EReal) (ix2 r q) = ((I.dzv r.val q.val : ℝ) : EReal) := by
  have e : (dats m 0 c).arrAt 8 cfg0.N = (fun y : S4096x1024.Idx => ((I.dzv (y 0).val (y 1).val : ℝ) : EReal)) := by
    refine (dats m 0 c).arrAt_eq_of_covers 8 _ (by decide +kernel) fun t hf y => ?_
    rw [after0_8]
    obtain ⟨p, q, rfl⟩ : ∃ (p : Fin 256) (q : Fin 1024), y = ix2 p q := ⟨y 0, y 1, eq_ix2 y⟩
    refine (at8 m c A t p q).trans ?_
    blk_simp [idx8]
    rw [show 128 * (2 * t.val) = t.val * 256 by omega]
  exact congrFun e (ix2 r q)

theorem arr9 (q : Fin 1024) :
    ((dats m 0 c).arrAt 9 cfg0.N : S1x1024.Idx → EReal) (ix2 0 q) = ((I.dnv 4096 q.val : ℝ) : EReal) := by
  refine ((dats m 0 c).arrAt_emb_eq_after_last 9 ⟨15, by decide⟩ (by decide +kernel) (ix2 0 q)).trans ?_
  rw [after0_9]
  exact at9 m c A 15 (by decide) q

theorem arr10 (h : Fin 8) (i k : Fin 128) :
    ((dats m 0 c).arrAt 10 cfg0.N : S8x128x128.Idx → EReal) (ix3 h i k) = ((I.dwm 32 h.val i.val k.val : ℝ) : EReal) := by
  refine ((dats m 0 c).arrAt_emb_eq_after_last 10 ⟨15, by decide⟩ (by decide +kernel) (ix3 h i k)).trans ?_
  rw [after0_10]
  exact at10 m c A 15 (by decide) h i k

theorem arr11 (h : Fin 8) (i : Fin 128) :
    ((dats m 0 c).arrAt 11 cfg0.N : S8x128x1.Idx → EReal) (ix3 h i 0) = ((I.dbs 32 h.val i.val : ℝ) : EReal) := by
  refine ((dats m 0 c).arrAt_emb_eq_after_last 11 ⟨15, by decide⟩ (by decide +kernel) (ix3 h i 0)).trans ?_
  rw [after0_11]
  exact at11 m c A 15 (by decide) h i

end

end Gate
-- ==== Proof.Sums.lean ====
module
public import Idealize.ShloMosaic.Lib.Pointwise
public import proofs.«01_k».proof.ReferenceIdeal

/-! # The reference's sums over several axes

A host sum over several axes at once, and a host product contracted over several axes, as sums over the
coordinates that run. -/

@[expose] public section

set_option maxRecDepth 16384

namespace Gate.Ref

open Cert.ReferenceIdeal Idealize.ShloMosaic

/-- A host sum at a result index, over any type of names `κ` for the source indices that reduce to it. -/
theorem hostReduceAdd_names {s t : Shape} {axes : List (Fin s.rank)} (h : s.ReducesTo axes t) (x : s.Idx → EReal)
    (init : EReal) (j : t.Idx) {κ : Type} [Fintype κ] (e : κ → s.Idx) (p : s.Idx → κ) (he : ∀ k, h.drop (e k) = j)
    (hp : ∀ k, p (e k) = k) (hi : ∀ i, h.drop i = j → e (p i) = i) :
    Ideal.hostReduceAdd h x init j = init + ∑ k, x (e k) := by
  unfold Ideal.hostReduceAdd
  congr 1
  refine Finset.sum_nbij' p e (fun i _ => Finset.mem_univ _) (fun k _ => ?_) (fun i hm => ?_) (fun k _ => hp k) (fun i hm => ?_)
  · simpa using he k
  · exact hi i (by simpa using hm)
  · rw [hi i (by simpa using hm)]

/-- The sum over the chunks and the columns of a head. -/
theorem sum_d1_4 (h : S1x32x128x8x128.ReducesTo [1, 4] S1x128x8) (x : S1x32x128x8x128.Idx → EReal) (init : EReal)
    (i : Fin 128) (n : Fin 8) :
    Ideal.hostReduceAdd h x init (ix3 0 i n) = init + ∑ c : Fin 32, ∑ p : Fin 128, x (ix5 0 c i n p) := by
  rw [hostReduceAdd_names h x init (ix3 0 i n) (κ := Fin 32 × Fin 128) (fun k => ix5 0 k.1 i n k.2) (fun a => (a 1, a 4))
    (fun k => ?_) (fun k => rfl) (fun a ha => ?_), Fintype.sum_prod_type]
  · funext b; apply Fin.ext; fin_cases b <;> rfl
  · have h1 : (a 2 : ℕ) = i.val := congrArg Fin.val (congrFun ha 1)
    have h2 : (a 3 : ℕ) = n.val := congrArg Fin.val (congrFun ha 2)
    funext b; apply Fin.ext
    fin_cases b
    · exact (Nat.lt_one_iff.1 (a 0).isLt).symm
    · rfl
    · exact h1.symm
    · exact h2.symm
    · rfl

/-- A sum over three unit axes. -/
theorem sum_d0_1_4 (h : S1x1x128x8x1.ReducesTo [0, 1, 4] S128x8) (x : S1x1x128x8x1.Idx → EReal) (init : EReal)
    (i : Fin 128) (n : Fin 8) : Ideal.hostReduceAdd h x init (ix2 i n) = init + x (ix5 0 0 i n 0) := by
  rw [hostReduceAdd_names h x init (ix2 i n) (κ := Unit) (fun _ => ix5 0 0 i n 0) (fun _ => ())
    (fun k => ?_) (fun k => rfl) (fun a ha => ?_), Fintype.sum_unique]
  · funext b; apply Fin.ext; fin_cases b <;> rfl
  · have h1 : (a 2 : ℕ) = i.val := congrArg Fin.val (congrFun ha 0)
    have h2 : (a 3 : ℕ) = n.val := congrArg Fin.val (congrFun ha 1)
    funext b; apply Fin.ext
    fin_cases b
    · exact (Nat.lt_one_iff.1 (a 0).isLt).symm
    · exact (Nat.lt_one_iff.1 (a 1).isLt).symm
    · exact h1.symm
    · exact h2.symm
    · exact (Nat.lt_one_iff.1 (a 4).isLt).symm

/-- A sum over two unit axes in front. -/
theorem sum_d0_1 (h : S1x1x1024.ReducesTo [0, 1] S1024) (x : S1x1x1024.Idx → EReal) (init : EReal)
    (q : Fin 1024) : Ideal.hostReduceAdd h x init (ix1 q) = init + x (ix3 0 0 q) := by
  rw [hostReduceAdd_names h x init (ix1 q) (κ := Unit) (fun _ => ix3 0 0 q) (fun _ => ())
    (fun k => ?_) (fun k => rfl) (fun a ha => ?_), Fintype.sum_unique]
  · funext b; apply Fin.ext; fin_cases b; rfl
  · have h1 : (a 2 : ℕ) = q.val := congrArg Fin.val (congrFun ha 0)
    funext b; apply Fin.ext
    fin_cases b
    · exact (Nat.lt_one_iff.1 (a 0).isLt).symm
    · exact (Nat.lt_one_iff.1 (a 1).isLt).symm
    · exact h1.symm

/-- A sum over a unit axis on either side. -/
theorem sum_d0_2 (h : S1x4096x1.ReducesTo [0, 2] S4096) (x : S1x4096x1.Idx → EReal) (init : EReal)
    (r : Fin 4096) : Ideal.hostReduceAdd h x init (ix1 r) = init + x (ix3 0 r 0) := by
  rw [hostReduceAdd_names h x init (ix1 r) (κ := Unit) (fun _ => ix3 0 r 0) (fun _ => ())
    (fun k => ?_) (fun k => rfl) (fun a ha => ?_), Fintype.sum_unique]
  · funext b; apply Fin.ext; fin_cases b; rfl
  · have h1 : (a 1 : ℕ) = r.val := congrArg Fin.val (congrFun ha 0)
    funext b; apply Fin.ext
    fin_cases b
    · exact (Nat.lt_one_iff.1 (a 0).isLt).symm
    · exact h1.symm
    · exact (Nat.lt_one_iff.1 (a 2).isLt).symm

section
variable [Facts₀]

/-- The product contracted over the unit batch, the chunks and the columns of a head. -/
theorem matmul_123_014 (x : S8x1x32x128x128.Idx → EReal) (y : S1x32x128x8x128.Idx → EReal) (acc : S8x128x128.Idx → EReal)
    (n : Fin 8) (i k : Fin 128) :
    Ideal.matmul dot_S8x1x32x128x128_S1x32x128x8x128_S8x128x128_123_014_4_2_0_3 x y acc (ix3 n i k)
      = acc (ix3 n i k) + ∑ c : Fin 32, ∑ p : Fin 128, x (ix5 n 0 c p i) * y (ix5 0 c k n p) := by
  unfold Ideal.matmul
  congr 1
  rw [← Fintype.sum_prod_type']
  refine Fintype.sum_equiv ⟨fun (a : Shape.Idx _) => ((⟨(a ⟨1, (by decide : 1 < 3)⟩).val, (a ⟨1, (by decide : 1 < 3)⟩).isLt⟩ : Fin 32), (⟨(a ⟨2, (by decide : 2 < 3)⟩).val, (a ⟨2, (by decide : 2 < 3)⟩).isLt⟩ : Fin 128)),
    fun k => (fun b => match b with
      | ⟨0, _⟩ => (0 : Fin 1)
      | ⟨1, _⟩ => k.1
      | ⟨2, _⟩ => k.2), fun a => ?_, fun k => rfl⟩ _ _ (fun a => ?_)
  · funext b; apply Fin.ext
    match b with
      | ⟨0, h⟩ => exact (Nat.lt_one_iff.1 (a ⟨0, h⟩).isLt).symm
      | ⟨1, _⟩ => rfl
      | ⟨2, _⟩ => rfl
  · congr 2
    · funext b; apply Fin.ext
      fin_cases b
      · rfl
      · exact (Nat.lt_one_iff.1 (a ⟨0, (by decide : 0 < 3)⟩).isLt)
      · rfl
      · rfl
      · rfl
    · funext b; apply Fin.ext
      fin_cases b
      · exact (Nat.lt_one_iff.1 (a ⟨0, (by decide : 0 < 3)⟩).isLt)
      · rfl
      · rfl
      · rfl
      · rfl

end

end Gate.Ref
-- ==== Proof.RefForward.lean ====
module
public import proofs.«01_k».proof.Proof.Real
public import proofs.«01_k».proof.Proof.Input
public import proofs.«01_k».proof.Proof.Sums
public import proofs.«01_k».proof.Proof.Gen.ReferenceIdeal.Read

/-! # The reference over the reals: the forward lines

Each array of the reference at an index is a real of the specification. -/

@[expose] public section

set_option maxRecDepth 16384

namespace Gate.Ref

open Cert.ReferenceIdeal Cert.ReferenceIdeal.Read Idealize.ShloMosaic

noncomputable section

variable {I : Inp} {x0 : FVec Ideal S4096x1024 .f32} {x1 : FVec Ideal S4096x3072 .f32} {x2 : FVec Ideal S1x1024 .f32}
  {x3 : FVec Ideal S1x8x128x128 .f32} {x4 : FVec Ideal S1x8x128 .f32} (A : Args I x0 x1 x2 x3 x4)

include A

theorem zu (r : Fin 4096) (q : Fin 1024) : val_main_v10 (F := Ideal) x1 (ix3 0 r q) = ((I.zu r.val q.val : ℝ) : EReal) := by
  pointwise [val_main_v10, val_main_v7]
  exact A.zu r q

theorem zv (r : Fin 4096) (q : Fin 1024) : val_main_v11 (F := Ideal) x1 (ix3 0 r q) = ((I.zv r.val q.val : ℝ) : EReal) := by
  pointwise [val_main_v11, val_main_v8]
  exact A.zv r q

/-- The masked mixing matrices. -/
theorem w (h : Fin 8) (i k : Fin 128) : val_main_v6 (F := Ideal) x3 (ix3 h i k) = ((I.w h.val i.val k.val : ℝ) : EReal) := by
  pointwise [val_main_v6, val_main_call1_v0, val_main_v3, val_main_v5, val_main_cst, val_main_v2, val_main_v1, val_main_call0_v4,
    val_main_v0, val_main_c, val_main_call0_v5, val_main_call0_c_0, val_main_call0_v2, val_main_call0_v0, val_main_call0_v1,
    val_main_call0_c, val_main_call0_v3]
  rw [causal_bit i k, ← A.w h i k]
  by_cases hle : k.val ≤ i.val <;> simp [hle, Scalar.select]

theorem th_u (r : Fin 4096) (q : Fin 1024) : val_main_v25 (F := Ideal) x1 (ix3 0 r q) = ((th (I.zu r.val q.val) : ℝ) : EReal) := by
  pointwise [val_main_v25, val_main_v24, val_main_v23, val_main_cst_3, val_main_v22, val_main_v21, val_main_v20, val_main_cst_2,
    val_main_v19, val_main_v18, val_main_cst_1, val_main_v14, val_main_v13]
  simp only [zu A, ofBits_gk, ofBits_44715, ofBits_million, ← EReal.coe_mul, ← EReal.coe_add, Ideal.tanh_coe, div_million]
  rw [th, gc]
  ring_nf

theorem th_v (r : Fin 4096) (q : Fin 1024) : val_main_v48 (F := Ideal) x1 (ix3 0 r q) = ((th (I.zv r.val q.val) : ℝ) : EReal) := by
  pointwise [val_main_v48, val_main_v47, val_main_v46, val_main_cst_11, val_main_v45, val_main_v44, val_main_v43, val_main_cst_10,
    val_main_v42, val_main_v41, val_main_cst_9, val_main_v37, val_main_v36]
  simp only [zv A, ofBits_gk, ofBits_44715, ofBits_million, ← EReal.coe_mul, ← EReal.coe_add, Ideal.tanh_coe, div_million]
  rw [th, gc]
  ring_nf

theorem gu (r : Fin 4096) (q : Fin 1024) : val_main_v35 (F := Ideal) x1 (ix3 0 r q) = ((gelu (I.zu r.val q.val) : ℝ) : EReal) := by
  pointwise [val_main_v35, val_main_v34, val_main_v33, val_main_cst_7, val_main_v32, val_main_v31, val_main_cst_6]
  simp only [zu A, th_u A, ofBits_half, ← EReal.coe_one, ← EReal.coe_mul, ← EReal.coe_add]
  rw [gelu]
  ring_nf

theorem gv (r : Fin 4096) (q : Fin 1024) : val_main_v58 (F := Ideal) x1 (ix3 0 r q) = ((gelu (I.zv r.val q.val) : ℝ) : EReal) := by
  pointwise [val_main_v58, val_main_v57, val_main_v56, val_main_cst_15, val_main_v55, val_main_v54, val_main_cst_14]
  simp only [zv A, th_v A, ofBits_half, ← EReal.coe_one, ← EReal.coe_mul, ← EReal.coe_add]
  rw [gelu]
  ring_nf

theorem mean (r : Fin 4096) : val_main_v62 (F := Ideal) x1 (ix3 0 r 0) = ((I.mean r.val : ℝ) : EReal) := by
  pointwise [val_main_v62, val_main_v61, val_main_cst_17, val_main_v60, val_main_v59, val_main_cst_16]
  simp only [gv A, ofBits_1024, coe_sum, zero_add, div_1024]
  rfl

theorem xc (r : Fin 4096) (q : Fin 1024) : val_main_v64 (F := Ideal) x1 (ix3 0 r q) = ((I.xc r.val q.val : ℝ) : EReal) := by
  pointwise [val_main_v64, val_main_v63]
  simp only [gv A, mean A, ← EReal.coe_sub]
  rfl

theorem var (r : Fin 4096) : val_main_v69 (F := Ideal) x1 (ix3 0 r 0) = ((I.var r.val : ℝ) : EReal) := by
  pointwise [val_main_v69, val_main_v68, val_main_cst_19, val_main_v67, val_main_v66, val_main_cst_18, val_main_v65]
  simp only [xc A, ofBits_1024, ← EReal.coe_mul, coe_sum, zero_add, div_1024]
  rfl

theorem var_eps (r : Fin 4096) : val_main_v71 (F := Ideal) x1 (ix3 0 r 0) = ((I.var r.val + eps : ℝ) : EReal) := by
  pointwise [val_main_v71, val_main_v70, val_main_cst_20]
  simp only [var A, ofBits_eps, ← EReal.coe_add]

theorem rs (r : Fin 4096) : val_main_v72 (F := Ideal) x1 (ix3 0 r 0) = ((I.rs r.val : ℝ) : EReal) := by
  pointwise [val_main_v72]
  simp only [var_eps A]
  rw [rsqrt_pos _ (I.var_eps_pos r.val)]
  rfl

theorem xh (r : Fin 4096) (q : Fin 1024) : val_main_v77 (F := Ideal) x1 (ix3 0 r q) = ((I.xh r.val q.val : ℝ) : EReal) := by
  pointwise [val_main_v77, val_main_v76]
  simp only [xc A, rs A, ← EReal.coe_mul]
  rfl

theorem nv (q : Fin 1024) : val_main_v78 (F := Ideal) x2 (ix3 0 0 q) = ((I.nv q.val : ℝ) : EReal) := by
  pointwise [val_main_v78, val_main_v12]
  exact A.nv q

theorem V (r : Fin 4096) (q : Fin 1024) : val_main_v80 (F := Ideal) x1 x2 (ix3 0 r q) = ((I.V r.val q.val : ℝ) : EReal) := by
  pointwise [val_main_v80, val_main_v79]
  simp only [xh A, nv A, ← EReal.coe_mul]
  rfl

theorem Vr (c : Fin 32) (i : Fin 128) (h : Fin 8) (p : Fin 128) :
    val_main_v81 (F := Ideal) x1 x2 (ix5 0 c i h p) = ((I.V (128 * c.val + i.val) (128 * h.val + p.val) : ℝ) : EReal) := by
  pointwise [val_main_v81]
  simp only [V A, Nat.mul_comm _ 128]

theorem S (c : Fin 32) (i : Fin 128) (h : Fin 8) (p : Fin 128) :
    val_main_v87 (F := Ideal) x1 x2 x3 x4 (ix5 0 c i h p) = ((I.S (128 * c.val + i.val) (128 * h.val + p.val) : ℝ) : EReal) := by
  pointwise [val_main_v87, val_main_v86, val_main_v85, val_main_v84, val_main_v9, val_main_v83, val_main_v82]
  have e1 : (128 * h.val + p.val) / 128 = h.val := by omega
  have e2 : (128 * c.val + i.val) % 128 = i.val := by omega
  have e3 : (128 * c.val + i.val) / 128 = c.val := by omega
  simp only [Vr A, w A, A.b, ← EReal.coe_mul, coe_sum, ← EReal.coe_add, Inp.S, e1, e2, e3, mul_comm (I.w _ _ _)]

/-- The gating half, chunk by chunk. -/
theorem gur (c : Fin 32) (i : Fin 128) (h : Fin 8) (p : Fin 128) :
    val_main_v88 (F := Ideal) x1 (ix5 0 c i h p) = ((gelu (I.zu (128 * c.val + i.val) (128 * h.val + p.val)) : ℝ) : EReal) := by
  pointwise [val_main_v88]
  simp only [gu A, Nat.mul_comm _ 128]

/-- The cotangent, chunk by chunk. -/
theorem dyr (c : Fin 32) (i : Fin 128) (h : Fin 8) (p : Fin 128) :
    val_main_v92 (F := Ideal) x0 (ix5 0 c i h p) = ((I.dy (128 * c.val + i.val) (128 * h.val + p.val) : ℝ) : EReal) := by
  pointwise [val_main_v92, val_main_v91]
  simp only [A.dy, Nat.mul_comm _ 128]

theorem ds (c : Fin 32) (i : Fin 128) (h : Fin 8) (p : Fin 128) :
    val_main_v93 (F := Ideal) x0 x1 (ix5 0 c i h p) = ((I.ds (128 * c.val + i.val) (128 * h.val + p.val) : ℝ) : EReal) := by
  pointwise [val_main_v93]
  simp only [gur A, dyr A, ← EReal.coe_mul, Inp.ds, mul_comm (gelu _)]

/-- The cotangent of the gating half's value. -/
theorem dyS (r : Fin 4096) (q : Fin 1024) :
    val_main_v95 (F := Ideal) x0 x1 x2 x3 x4 (ix3 0 r q) = ((I.dy r.val q.val * I.S r.val q.val : ℝ) : EReal) := by
  pointwise [val_main_v95, val_main_v94]
  simp only [dyr A, S A, ← EReal.coe_mul, Nat.div_add_mod]

end

end Gate.Ref
-- ==== Proof.RefBackward.lean ====
module
public import proofs.«01_k».proof.Proof.RefForward

/-! # The reference over the reals: the derivatives

The five results of the reference at an index are the specification's derivatives. -/

@[expose] public section

set_option maxRecDepth 16384

namespace Gate

/-- A centred row sums to zero. -/
theorem Inp.sum_xc (I : Inp) (r : ℕ) : ∑ k : Fin 1024, I.xc r k.val = 0 := by
  simp only [Inp.xc, Finset.sum_sub_distrib, Inp.mean]
  simp
  ring

/-- The square of the reciprocal deviation. -/
theorem Inp.rs_sq (I : Inp) (r : ℕ) : I.rs r / (I.var r + eps) = I.rs r * (I.rs r * I.rs r) := by
  have h := I.var_eps_pos r
  have e : I.rs r * I.rs r = (I.var r + eps)⁻¹ := by
    unfold Inp.rs
    rw [← mul_inv, Real.mul_self_sqrt h.le]
  rw [e, div_eq_mul_inv]

namespace Ref

open Cert.ReferenceIdeal Cert.ReferenceIdeal.Read Idealize.ShloMosaic

noncomputable section

variable {I : Inp} {x0 : FVec Ideal S4096x1024 .f32} {x1 : FVec Ideal S4096x3072 .f32} {x2 : FVec Ideal S1x1024 .f32}
  {x3 : FVec Ideal S1x8x128x128 .f32} {x4 : FVec Ideal S1x8x128 .f32} (A : Args I x0 x1 x2 x3 x4)

include A

/-! ## The biases and the mixing matrices -/

theorem dbs (h : Fin 8) (i : Fin 128) :
    val_main_v168 (F := Ideal) x0 x1 (ix3 h i 0) = ((I.dbs 32 h.val i.val : ℝ) : EReal) := by
  pointwise [val_main_v168, val_main_v99, val_main_v98]
  rw [sum_d0_1_4]
  pointwise [val_main_v97, val_main_v96, val_main_cst_22, val_main_cst_23]
  rw [sum_d1_4]
  pointwise []
  simp only [ds A, coe_sum, zero_add]
  rfl

theorem dwm (h : Fin 8) (i k : Fin 128) :
    val_main_v101 (F := Ideal) x0 x1 x2 (ix3 h i k) = ((I.dwm 32 h.val i.val k.val : ℝ) : EReal) := by
  pointwise [val_main_v101]
  rw [matmul_123_014]
  pointwise [val_main_v100]
  simp only [ds A, Vr A, ← EReal.coe_mul, coe_sum, zero_add]
  rfl

/-! ## The layer norm -/

theorem DVr (c : Fin 32) (i : Fin 128) (h : Fin 8) (p : Fin 128) :
    val_main_v103 (F := Ideal) x0 x1 x3 (ix5 0 c i h p) = ((I.DV (128 * c.val + i.val) (128 * h.val + p.val) : ℝ) : EReal) := by
  pointwise [val_main_v103, val_main_v102, val_main_v100]
  have e1 : (128 * h.val + p.val) / 128 = h.val := by omega
  have e2 : (128 * c.val + i.val) % 128 = i.val := by omega
  have e3 : (128 * c.val + i.val) / 128 = c.val := by omega
  simp only [ds A, w A, ← EReal.coe_mul, coe_sum, Inp.DV, e1, e2, e3, mul_comm (I.w _ _ _)]

theorem DV (r : Fin 4096) (q : Fin 1024) :
    val_main_v104 (F := Ideal) x0 x1 x3 (ix3 0 r q) = ((I.DV r.val q.val : ℝ) : EReal) := by
  pointwise [val_main_v104]
  simp only [DVr A, Nat.div_add_mod]

theorem dnv (q : Fin 1024) : val_main_v163 (F := Ideal) x0 x1 x3 (ix2 0 q) = ((I.dnv 4096 q.val : ℝ) : EReal) := by
  pointwise [val_main_v163, val_main_v110]
  rw [sum_d0_1]
  pointwise [val_main_v107, val_main_v106, val_main_v105, val_main_cst_24, val_main_cst_25]
  simp only [xh A, DV A, ← EReal.coe_mul, coe_sum, zero_add, Inp.dnv, Inp.dnvAt, mul_comm (I.xh _ _)]

theorem dxh (r : Fin 4096) (q : Fin 1024) :
    val_main_v109 (F := Ideal) x0 x1 x2 x3 (ix3 0 r q) = ((I.dxh r.val q.val : ℝ) : EReal) := by
  pointwise [val_main_v109, val_main_v108]
  simp only [DV A, nv A, ← EReal.coe_mul]
  rfl

/-- The cotangent of the sum of squares. -/
theorem dsq (r : Fin 4096) (q : Fin 1024) :
    val_main_v121 (F := Ideal) x0 x1 x2 x3 (ix3 0 r q)
      = (((∑ k : Fin 1024, I.xc r.val k.val * I.dxh r.val k.val)
          * (-(1 / 2) * (I.rs r.val / (I.var r.val + eps))) / 1024 : ℝ) : EReal) := by
  pointwise [val_main_v121, val_main_v120, val_main_v119]
  rw [sum_d0_2]
  pointwise [val_main_cst_28, val_main_v118, val_main_v117, val_main_cst_27, val_main_v116, val_main_v113, val_main_v112,
    val_main_cst_26, val_main_v111, val_main_v75, val_main_v74, val_main_cst_21, val_main_v73]
  simp only [xc A, dxh A, rs A, var_eps A, ← EReal.coe_mul, coe_sum, zero_add, ofBits_neg_half, ofBits_1024,
    div_real _ _ (I.var_eps_pos r.val).ne', div_1024]

/-- The cotangent of the centred row. -/
theorem dxc (r : Fin 4096) (q : Fin 1024) :
    val_main_v125 (F := Ideal) x0 x1 x2 x3 (ix3 0 r q)
      = ((I.dxh r.val q.val * I.rs r.val - I.xc r.val q.val * ((∑ k : Fin 1024, I.xc r.val k.val * I.dxh r.val k.val)
          * (I.rs r.val * (I.rs r.val * I.rs r.val)) / 1024) : ℝ) : EReal) := by
  pointwise [val_main_v125, val_main_v124, val_main_v123, val_main_v122, val_main_v115, val_main_v114]
  simp only [xc A, dxh A, rs A, dsq A, I.rs_sq, ← EReal.coe_mul, ← EReal.coe_add]
  ring_nf

/-- The cotangent of the mean. -/
theorem dmean (r : Fin 4096) (q : Fin 1024) :
    val_main_v133 (F := Ideal) x0 x1 x2 x3 (ix3 0 r q)
      = ((-(I.rs r.val * (∑ k : Fin 1024, I.dxh r.val k.val)) / 1024 : ℝ) : EReal) := by
  pointwise [val_main_v133, val_main_v132, val_main_v131]
  rw [sum_d0_2]
  pointwise [val_main_cst_31, val_main_v130, val_main_v129, val_main_cst_30, val_main_v128, val_main_v127, val_main_cst_29,
    val_main_v126]
  simp only [dxc A, ← EReal.coe_neg, coe_sum, zero_add, ofBits_1024, div_1024]
  rw [Finset.sum_neg_distrib, Finset.sum_sub_distrib, ← Finset.sum_mul, ← Finset.sum_mul, I.sum_xc]
  ring_nf

theorem dgv (r : Fin 4096) (q : Fin 1024) :
    val_main_v134 (F := Ideal) x0 x1 x2 x3 (ix3 0 r q) = ((I.dgv r.val q.val : ℝ) : EReal) := by
  pointwise [val_main_v134]
  simp only [dxc A, dmean A, ← EReal.coe_add]
  have e : ∑ k : Fin 1024, I.dxh r.val k.val * I.xh r.val k.val
      = (∑ k : Fin 1024, I.xc r.val k.val * I.dxh r.val k.val) * I.rs r.val := by
    rw [Finset.sum_mul]
    exact Finset.sum_congr rfl fun k _ => by rw [Inp.xh]; ring
  rw [Inp.dgv, e, Inp.xh]
  ring_nf

/-! ## gelu -/

theorem dzv (r : Fin 4096) (q : Fin 1024) :
    val_main_v167 (F := Ideal) x0 x1 x2 x3 (ix2 r q) = ((I.dzv r.val q.val : ℝ) : EReal) := by
  pointwise [val_main_v167, val_main_v164, val_main_cst_40]
  simp only [Finset.univ_unique, Finset.sum_singleton, Fin.default_eq_zero]
  pointwise [val_main_v148, val_main_v147, val_main_v146, val_main_v145, val_main_cst_35, val_main_v144, val_main_v143,
    val_main_cst_34, val_main_v142, val_main_v141, val_main_v140, val_main_cst_33, val_main_v139, val_main_v138, val_main_v137,
    val_main_cst_32, val_main_v136, val_main_v135, val_main_v57, val_main_v56, val_main_cst_15, val_main_v55, val_main_v54,
    val_main_cst_14, val_main_v53, val_main_v52, val_main_v51, val_main_cst_13, val_main_v50, val_main_v49, val_main_cst_12,
    val_main_v40, val_main_v39, val_main_cst_8, val_main_v38]
  simp only [zv A, th_v A, dgv A, ofBits_half, ofBits_gk, ofBits_44715, ofBits_million, ofBits_three, ← EReal.coe_one,
    ← EReal.coe_mul, ← EReal.coe_add, ← EReal.coe_sub, zero_add, div_million]
  rw [Inp.dzv, gelu', gc]
  ring_nf

theorem dzu (r : Fin 4096) (q : Fin 1024) :
    val_main_v166 (F := Ideal) x0 x1 x2 x3 x4 (ix2 r q) = ((I.dzu r.val q.val : ℝ) : EReal) := by
  pointwise [val_main_v166, val_main_v165, val_main_cst_41]
  simp only [Finset.univ_unique, Finset.sum_singleton, Fin.default_eq_zero]
  pointwise [val_main_v162, val_main_v161, val_main_v160, val_main_v159, val_main_cst_39, val_main_v158, val_main_v157,
    val_main_cst_38, val_main_v156, val_main_v155, val_main_v154, val_main_cst_37, val_main_v153, val_main_v152, val_main_v151,
    val_main_cst_36, val_main_v150, val_main_v149, val_main_v34, val_main_v33, val_main_cst_7, val_main_v32, val_main_v31,
    val_main_cst_6, val_main_v30, val_main_v29, val_main_v28, val_main_cst_5, val_main_v27, val_main_v26, val_main_cst_4,
    val_main_v17, val_main_v16, val_main_cst_0, val_main_v15]
  simp only [zu A, th_u A, dyS A, ofBits_half, ofBits_gk, ofBits_44715, ofBits_million, ofBits_three, ← EReal.coe_one,
    ← EReal.coe_mul, ← EReal.coe_add, ← EReal.coe_sub, zero_add, div_million]
  rw [Inp.dzu, gelu', gc]
  ring_nf

end

end Ref

end Gate
-- ==== Proof.Agree.lean ====
module
public import proofs.«01_k».proof.Proof.Finite
public import proofs.«01_k».proof.Proof.Arrays
public import proofs.«01_k».proof.Proof.RefBackward
public import proofs.«01_k».proof.Proof.Gen.KernelIdeal.Value
public import proofs.«01_k».proof.Proof.Gen.Pre_all_finite

/-! # Kernel and reference agree

Both programs' results are the specification's derivatives at every index. -/

@[expose] public section

namespace Gate

open Idealize.ShloMosaic Idealize.SL.Sem Idealize.ShloMosaic.StableHlo

/-- Two arrays with equal elements at every pair of coordinates are equal. -/
theorem ext2 {a b : ℕ} (f g : (⟨2, ![a, b]⟩ : Shape).Idx → EReal) (h : ∀ r q, f (ix2 r q) = g (ix2 r q)) : f = g :=
  funext fun j => by rw [eq_ix2 j]; exact h _ _

/-- Two arrays with equal elements at every triple of coordinates are equal. -/
theorem ext3 {a b c : ℕ} (f g : (⟨3, ![a, b, c]⟩ : Shape).Idx → EReal) (h : ∀ r q s, f (ix3 r q s) = g (ix3 r q s)) : f = g :=
  funext fun j => by rw [eq_ix3 j]; exact h _ _ _

theorem algebraic : Cert.algebraic_KernelIdeal_ReferenceIdeal_pre_all_finite := by
  intro m g m' g' hpre hargs
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, k0, k1, k2, k3, k4⟩ := h c
  obtain ⟨a0, a1, a2, a3, a4⟩ := hargs c
  obtain ⟨f0, f1, f2, f3, f4⟩ := reals_of_pre _ _ _ _ _ (hpre c)
  obtain ⟨I, A⟩ := exists_args _ _ _ _ _ f0 f1 f2 f3 f4
  refine ⟨h0.trans ?_, h1.trans ?_, h2.trans ?_, h3.trans ?_, h4.trans ?_, k0, k1, k2, k3, k4⟩
  · refine (Cert.ReferenceIdeal.Read.val_main_v166_eq (launchContents m' c)).trans ?_
    rw [launchContents_devRef, launchContents_devRef, launchContents_devRef, launchContents_devRef, launchContents_devRef,
      a0, a1, a2, a3, a4]
    exact ext2 _ _ fun r q => (Ref.dzu A r q).trans (arr7 m c A r q).symm
  · refine (Cert.ReferenceIdeal.Read.val_main_v167_eq (launchContents m' c)).trans ?_
    rw [launchContents_devRef, launchContents_devRef, launchContents_devRef, launchContents_devRef, a0, a1, a2, a3]
    exact ext2 _ _ fun r q => (Ref.dzv A r q).trans (arr8 m c A r q).symm
  · refine (Cert.ReferenceIdeal.Read.val_main_v163_eq (launchContents m' c)).trans ?_
    rw [launchContents_devRef, launchContents_devRef, launchContents_devRef, a0, a1, a3]
    refine ext2 _ _ fun r q => ?_
    obtain rfl : r = 0 := Subsingleton.elim _ _
    exact (Ref.dnv A q).trans (arr9 m c A q).symm
  · refine (Cert.ReferenceIdeal.Read.val_main_v101_eq (launchContents m' c)).trans ?_
    rw [launchContents_devRef, launchContents_devRef, launchContents_devRef, a0, a1, a2]
    exact ext3 _ _ fun n i k => (Ref.dwm A n i k).trans (arr10 m c A n i k).symm
  · refine (Cert.ReferenceIdeal.Read.val_main_v168_eq (launchContents m' c)).trans ?_
    rw [launchContents_devRef, launchContents_devRef, a0, a1]
    refine ext3 _ _ fun n i s => ?_
    obtain rfl : s = 0 := Subsingleton.elim _ _
    exact (Ref.dbs A n i).trans (arr11 m c A n i).symm

end Gate
-- ==== Proof.Silu.lean ====
module
public import proofs.«01_k».proof.Proof.Real
public import proofs.«01_k».proof.Proof.Consts
public import proofs.«01_k».proof.Proof.Finite

/-! # Sums and the logistic function over the extended reals -/

@[expose] public section

namespace Silu

open Idealize.ShloMosaic

/-- Halving a sum halves its terms, whatever the terms are. -/
theorem sum_half {n : ℕ} (f : Fin n → EReal) :
    (∑ k, f k) * ((1 / 2 : ℝ) : EReal) = ∑ k, f k * ((1 / 2 : ℝ) : EReal) := by
  have h0 : (0 : EReal) ≤ ((1 / 2 : ℝ) : EReal) := by exact_mod_cast (by norm_num : (0 : ℝ) ≤ 1 / 2)
  induction n with
  | zero => simp
  | succ n ih =>
    rw [Fin.sum_univ_castSucc, Fin.sum_univ_castSucc, ← ih]
    rw [EReal.right_distrib_of_nonneg_of_ne_top h0 (EReal.coe_ne_top _)]

/-- The logistic function, written with an exponential and with a hyperbolic tangent: at every extended real. -/
theorem logistic_coe (x : EReal) :
    Ideal.div ((1 : ℝ) : EReal) (((1 : ℝ) : EReal) + Ideal.exp (-x))
      = ((1 / 2 : ℝ) : EReal) * Ideal.tanh (((1 / 2 : ℝ) : EReal) * x) + ((1 / 2 : ℝ) : EReal) := by
  have hp : (0 : ℝ) < 1 / 2 := by norm_num
  induction x with
  | bot =>
    rw [EReal.coe_mul_bot_of_pos hp]
    show Ideal.div _ (_ + ⊤) = _ * (-1) + _
    rw [EReal.coe_add_top]
    simp only [Ideal.div, EReal.top_ne_zero, if_false, EReal.inv_top, mul_zero, mul_neg, mul_one]
    norm_cast
    norm_num
  | top =>
    rw [EReal.coe_mul_top_of_pos hp]
    show Ideal.div _ (_ + 0) = _ * 1 + _
    rw [add_zero, mul_one, Gate.div_real _ _ one_ne_zero]
    norm_cast
    norm_num
  | coe r =>
    have h1 : (-(r : EReal)) = ((-r : ℝ) : EReal) := by norm_cast
    have h2 : ((1 / 2 : ℝ) : EReal) * (r : EReal) = ((1 / 2 * r : ℝ) : EReal) := by norm_cast
    rw [h1, h2]
    show Ideal.div _ (_ + ((Real.exp (-r) : ℝ) : EReal)) = _ * ((Real.tanh (1 / 2 * r) : ℝ) : EReal) + _
    have hx := Real.exp_pos (-r)
    rw [← EReal.coe_add, Gate.div_real _ _ (by positivity), ← EReal.coe_mul, ← EReal.coe_add, EReal.coe_eq_coe_iff,
      Real.tanh_eq_sinh_div_cosh, Real.sinh_eq, Real.cosh_eq]
    have ha := Real.exp_pos (1 / 2 * r)
    have hb := Real.exp_pos (-(1 / 2 * r))
    have e : Real.exp (-r) = Real.exp (-(1 / 2 * r)) / Real.exp (1 / 2 * r) := by
      rw [← Real.exp_sub]; congr 1; ring
    rw [e]
    field_simp
    ring

theorem logistic (x : EReal) :
    Ideal.div 1 (1 + Ideal.exp (-x)) = ((1 / 2 : ℝ) : EReal) * Ideal.tanh (((1 / 2 : ℝ) : EReal) * x) + ((1 / 2 : ℝ) : EReal) := by
  rw [← EReal.coe_one]
  exact logistic_coe x

/-- The comparison of an absolute value with infinity, at one element of a half-width array. -/
theorem real_of_cmp {s : Shape} (h : (⟨0, ![]⟩ : Shape).BroadcastsInDim s ![]) (a : FVec Ideal s .bf16) (i : s.Idx)
    (e : cmpf .olt (Host.absf a) (broadcastInDim s ![] h (constant (F := Ideal) ⟨0, ![]⟩ .bf16 0x7F80#16)) i = 1#1) :
    ∃ r : ℝ, a i = (r : EReal) := by
  have e' : Ideal.cmp .olt (max (a i) (-(a i))) (Ideal.ofBits .bf16 0x7F80#16) = 1#1 := e
  have t : Ideal.ofBits .bf16 0x7F80#16 = ⊤ := by
    simp [Ideal.ofBits, Ideal.ieee]
  rw [t] at e'
  refine Gate.real_of_abs_lt _ ?_
  by_contra hn
  simp [Ideal.cmp, hn] at e'

end Silu
-- ==== Proof.ActBwd.lean ====
module
public import proofs.«01_k».proof.Proof.Silu
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The backward pass of SwiGLU

The cotangent against the down weight, then through the product of the up projection with SiLU of the gate. With finite
arguments both sides are reals, and the two forms of the derivative of SiLU agree. -/

@[expose] public section

set_option maxRecDepth 16384

namespace Ffn.ActBwd

open Cert.Kernel2Ideal Cert.Kernel2Ideal.Gen Idealize.ShloMosaic Idealize.ShloMosaic.TcCoe Idealize.SL.Sem
open Idealize.ShloMosaic.Pipeline (Dat)

noncomputable section

/-- One element of output block 4. -/
theorem pay4 (x0 : Vec Ideal S1024x2048 .bf16) (x1 : Vec Ideal S1024x2048 .bf16) (x2 : Vec Ideal S1024x1024 .bf16) (x3 : Vec Ideal S1024x1024 .bf16) (p : Fin 1024) (q : Fin 1024) :
    k0_pay5 x0 x1 x2 x3 (ix2 p q) = (((1 / 2 : ℝ) : EReal) * ∑ k : Fin 2048, x0 (ix2 p k) * x1 (ix2 q k)) * x3 (ix2 p q) * ((((1 / 2 : ℝ) : EReal) * Ideal.tanh (((1 / 2 : ℝ) : EReal) * x2 (ix2 p q)) + ((1 / 2 : ℝ) : EReal)) * (1 + x2 (ix2 p q) * (1 - (((1 / 2 : ℝ) : EReal) * Ideal.tanh (((1 / 2 : ℝ) : EReal) * x2 (ix2 p q)) + ((1 / 2 : ℝ) : EReal))))) := by
  pointwise [k0_pay5, k0_pay3, k0_pay2, k0_pay1]
  simp only [Gate.ofBits_half]

/-- What a grid point leaves in output block 4. -/
theorem out4 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x128 .f32) (harg9 : arg9.IsWhole)
    (x0 : Vec Ideal S1024x2048 .bf16) (x1 : Vec Ideal S1024x2048 .bf16) (x2 : Vec Ideal S1024x1024 .bf16) (x3 : Vec Ideal S1024x1024 .bf16) :
    out0_A_4 c i arg3 harg3 arg4 harg4 arg5 harg5 arg6 harg6 arg7 harg7 arg8 harg8 arg9 harg9 x0 x1 x2 x3 = k0_pay5 x0 x1 x2 x3 := by
  unfold out0_A_4
  rw [View.read_writes_junk_eq_canon]
  unfold kernelRun0_A
  dsimp only
  sl_unfold_words
  simp (disch := decide) only [View.readAt_eq_ld, harg3.read_unread, harg4.read_unread, harg5.read_unread, harg6.read_unread]
  rw [View.canon_cons_unit_lit _ _ _ (by decide), View.ld_unit_lit _ x0 (by decide), View.ld_unit_lit _ x1 (by decide), View.ld_unit_lit _ x2 (by decide), View.ld_unit_lit _ x3 (by decide)]

/-- One element of output block 5. -/
theorem pay5 (x0 : Vec Ideal S1024x2048 .bf16) (x1 : Vec Ideal S1024x2048 .bf16) (x2 : Vec Ideal S1024x1024 .bf16) (p : Fin 1024) (q : Fin 1024) :
    k0_pay4 x0 x1 x2 (ix2 p q) = (((1 / 2 : ℝ) : EReal) * ∑ k : Fin 2048, x0 (ix2 p k) * x1 (ix2 q k)) * (x2 (ix2 p q) * (((1 / 2 : ℝ) : EReal) * Ideal.tanh (((1 / 2 : ℝ) : EReal) * x2 (ix2 p q)) + ((1 / 2 : ℝ) : EReal))) := by
  pointwise [k0_pay4, k0_pay3, k0_pay2, k0_pay1]
  simp only [Gate.ofBits_half]

/-- What a grid point leaves in output block 5. -/
theorem out5 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x128 .f32) (harg9 : arg9.IsWhole)
    (x0 : Vec Ideal S1024x2048 .bf16) (x1 : Vec Ideal S1024x2048 .bf16) (x2 : Vec Ideal S1024x1024 .bf16) (x3 : Vec Ideal S1024x1024 .bf16) :
    out0_A_5 c i arg3 harg3 arg4 harg4 arg5 harg5 arg6 harg6 arg7 harg7 arg8 harg8 arg9 harg9 x0 x1 x2 x3 = k0_pay4 x0 x1 x2 := by
  unfold out0_A_5
  rw [View.read_writes_junk_eq_canon]
  unfold kernelRun0_A
  dsimp only
  sl_unfold_words
  simp (disch := decide) only [View.readAt_eq_ld, harg3.read_unread, harg4.read_unread, harg5.read_unread, harg6.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 6, 0] := (by decide +kernel : ∀ t : Fin grid0.N, _)
theorem idx1 : ∀ t : Fin cfg0.N, win0_1.index t = ![t.val % 6, 0] := (by decide +kernel : ∀ t : Fin grid0.N, _)
theorem idx2 : ∀ t : Fin cfg0.N, win0_2.index t = ![t.val / 6, t.val % 6] := (by decide +kernel : ∀ t : Fin grid0.N, _)
theorem idx3 : ∀ t : Fin cfg0.N, win0_3.index t = ![t.val / 6, t.val % 6] := (by decide +kernel : ∀ t : Fin grid0.N, _)
theorem idx4 : ∀ t : Fin cfg0.N, win0_4.index t = ![t.val / 6, t.val % 6] := (by decide +kernel : ∀ t : Fin grid0.N, _)
theorem idx5 : ∀ t : Fin cfg0.N, win0_5.index t = ![t.val / 6, t.val % 6] := (by decide +kernel : ∀ t : Fin grid0.N, _)

variable (m : (ℓ : Loc nD τ sig) → Buf (Elt Ideal) ℓ) (c : Dev nD)

theorem N_le (t : Fin cfg0.N) : t.val < 24 := by
  have := t.isLt
  have : cfg0.N = 24 := N_0
  omega

/-- The gate or up projection, as the host computes it. -/
def hostProd (a : FVec Ideal S4096x2048 .bf16) (b : FVec Ideal S6144x2048 .bf16) : FVec Ideal S4096x6144 .bf16 :=
  truncf .bf16 (Host.dotGeneral dot_S4096x2048_S2048x6144_S4096x6144_1_0_0_1_n_n none (extf .f32 a bitsLt_bf16_f32)
    (transpose S2048x6144 [1, 0] (extf .f32 b bitsLt_bf16_f32) transposes_S6144x2048_S2048x6144_1_0)) bitsLt_bf16_f32

theorem hostProd_apply (a : FVec Ideal S4096x2048 .bf16) (b : FVec Ideal S6144x2048 .bf16) (p : Fin 4096) (q : Fin 6144) :
    hostProd a b (ix2 p q) = ∑ k : Fin 2048, a (ix2 p k) * b (ix2 q k) := by
  pointwise [hostProd]

/-- What the region finds as the gate. -/
theorem V_v4 : V m c main_v4 = hostProd (m ((c : Thread nD τ).loc main_arg0)) (m ((c : Thread nD τ).loc main_arg1)) := by
  show StableHlo.after (List.flatten [hostOps0]) (fun b => m (c, b)) (Proc.devRef .tc main_v4) = _
  simp only [List.flatten_cons, List.flatten_nil, List.cons_append, List.nil_append, List.append_nil]
  after_results
  rfl

/-- What the region finds as the up projection. -/
theorem V_v9 : V m c main_v9 = hostProd (m ((c : Thread nD τ).loc main_arg0)) (m ((c : Thread nD τ).loc main_arg2)) := by
  show StableHlo.after (List.flatten [hostOps0]) (fun b => m (c, b)) (Proc.devRef .tc main_v9) = _
  simp only [List.flatten_cons, List.flatten_nil, List.cons_append, List.nil_append, List.append_nil]
  after_results
  rfl

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg4) : S4096x2048.Idx → EReal) (ix2 ⟨t.val / 6 * 1024 + p.val, by have := N_le t; omega⟩ q) := by
  blk_simp [iblk, idx0]
  rw [V_main_arg4]
  refine congrArg (m ((c : Thread nD τ).loc main_arg4)) ?_
  blk_ext [idx0]

/-- Input block 1 of point `t`, by the rows and columns of the argument. -/
theorem iblk1 (t : Fin cfg0.N) (p : Fin 1024) (q : Fin 2048) :
    (iblk m c 1 t : S1024x2048.Idx → EReal) (ix2 p q)
      = (m ((c : Thread nD τ).loc main_arg3) : S6144x2048.Idx → EReal) (ix2 ⟨t.val % 6 * 1024 + p.val, by have := N_le t; omega⟩ q) := by
  blk_simp [iblk, idx1]
  rw [V_main_arg3]
  refine congrArg (m ((c : Thread nD τ).loc main_arg3)) ?_
  blk_ext [idx1]

/-- Input block 2 of point `t`, by the rows and columns of the argument. -/
theorem iblk2 (t : Fin cfg0.N) (p : Fin 1024) (q : Fin 1024) :
    (iblk m c 2 t : S1024x1024.Idx → EReal) (ix2 p q)
      = (hostProd (m ((c : Thread nD τ).loc main_arg0)) (m ((c : Thread nD τ).loc main_arg1)) : S4096x6144.Idx → EReal) (ix2 ⟨t.val / 6 * 1024 + p.val, by have := N_le t; omega⟩ ⟨t.val % 6 * 1024 + q.val, by have := N_le t; omega⟩) := by
  blk_simp [iblk, idx2]
  rw [V_v4]
  refine congrArg (hostProd (m ((c : Thread nD τ).loc main_arg0)) (m ((c : Thread nD τ).loc main_arg1))) ?_
  blk_ext [idx2]

/-- Input block 3 of point `t`, by the rows and columns of the argument. -/
theorem iblk3 (t : Fin cfg0.N) (p : Fin 1024) (q : Fin 1024) :
    (iblk m c 3 t : S1024x1024.Idx → EReal) (ix2 p q)
      = (hostProd (m ((c : Thread nD τ).loc main_arg0)) (m ((c : Thread nD τ).loc main_arg2)) : S4096x6144.Idx → EReal) (ix2 ⟨t.val / 6 * 1024 + p.val, by have := N_le t; omega⟩ ⟨t.val % 6 * 1024 + q.val, by have := N_le t; omega⟩) := by
  blk_simp [iblk, idx3]
  rw [V_v9]
  refine congrArg (hostProd (m ((c : Thread nD τ).loc main_arg0)) (m ((c : Thread nD τ).loc main_arg2))) ?_
  blk_ext [idx3]

/-- Result 0, element by element. -/
def spec4 (a0 : S4096x2048.Idx → EReal) (a1 : S6144x2048.Idx → EReal) (a2 : S4096x6144.Idx → EReal) (a3 : S4096x6144.Idx → EReal) (y : S4096x6144.Idx) : EReal :=
  (((1 / 2 : ℝ) : EReal) * ∑ k : Fin 2048, a0 (ix2 (y 0) k) * a1 (ix2 (y 1) k)) * a3 (ix2 (y 0) (y 1)) * ((((1 / 2 : ℝ) : EReal) * Ideal.tanh (((1 / 2 : ℝ) : EReal) * a2 (ix2 (y 0) (y 1))) + ((1 / 2 : ℝ) : EReal)) * (1 + a2 (ix2 (y 0) (y 1)) * (1 - (((1 / 2 : ℝ) : EReal) * Ideal.tanh (((1 / 2 : ℝ) : EReal) * a2 (ix2 (y 0) (y 1))) + ((1 / 2 : ℝ) : EReal)))))

/-- What a point leaves in output block 4, by the rows and columns of the result. -/
theorem at4 (t : Fin cfg0.N) (p : Fin 1024) (q : Fin 1024) :
    ((outsAt0 m c t).1 : S1024x1024.Idx → EReal) (ix2 p q)
      = spec4 (m ((c : Thread nD τ).loc main_arg4)) (m ((c : Thread nD τ).loc main_arg3)) (hostProd (m ((c : Thread nD τ).loc main_arg0)) (m ((c : Thread nD τ).loc main_arg1))) (hostProd (m ((c : Thread nD τ).loc main_arg0)) (m ((c : Thread nD τ).loc main_arg2)))
          (ix2 ⟨t.val / 6 * 1024 + p.val, by have := N_le t; omega⟩ ⟨t.val % 6 * 1024 + q.val, by have := N_le t; omega⟩) := by
  unfold outsAt0
  dsimp only
  rw [out4]
  refine (pay4 _ _ _ _ p q).trans ?_
  simp only [iblk0, iblk1, iblk2, iblk3]
  rfl

/-- Result 0 after the region. -/
theorem arr4 : ((dats m 0 c).arrAt 4 cfg0.N : S4096x6144.Idx → EReal)
    = spec4 (m ((c : Thread nD τ).loc main_arg4)) (m ((c : Thread nD τ).loc main_arg3)) (hostProd (m ((c : Thread nD τ).loc main_arg0)) (m ((c : Thread nD τ).loc main_arg1))) (hostProd (m ((c : Thread nD τ).loc main_arg0)) (m ((c : Thread nD τ).loc main_arg2))) := by
  have e : (dats m 0 c).arrAt 4 cfg0.N
      = (fun y : S4096x6144.Idx => spec4 (m ((c : Thread nD τ).loc main_arg4)) (m ((c : Thread nD τ).loc main_arg3)) (hostProd (m ((c : Thread nD τ).loc main_arg0)) (m ((c : Thread nD τ).loc main_arg1))) (hostProd (m ((c : Thread nD τ).loc main_arg0)) (m ((c : Thread nD τ).loc main_arg2))) (ix2 (y 0) (y 1))) := by
    refine (dats m 0 c).arrAt_eq_of_covers 4 _ (by decide +kernel) fun t hf y => ?_
    rw [after0_4]
    obtain ⟨p, q, rfl⟩ : ∃ (p : Fin 1024) (q : Fin 1024), y = ix2 p q := ⟨y 0, y 1, eq_ix2 y⟩
    have h := at4 m c t
    generalize (outsAt0 m c t).1 = X at h ⊢
    refine (h p q).trans ?_
    generalize spec4 (m ((c : Thread nD τ).loc main_arg4)) (m ((c : Thread nD τ).loc main_arg3)) (hostProd (m ((c : Thread nD τ).loc main_arg0)) (m ((c : Thread nD τ).loc main_arg1))) (hostProd (m ((c : Thread nD τ).loc main_arg0)) (m ((c : Thread nD τ).loc main_arg2))) = G
    blk_simp [idx4]
    refine congrArg G ?_
    blk_ext [idx4]
  refine e.trans (funext fun y => ?_)
  rw [← eq_ix2 y]

/-- Result 1, element by element. -/
def spec5 (a0 : S4096x2048.Idx → EReal) (a1 : S6144x2048.Idx → EReal) (a2 : S4096x6144.Idx → EReal) (y : S4096x6144.Idx) : EReal :=
  (((1 / 2 : ℝ) : EReal) * ∑ k : Fin 2048, a0 (ix2 (y 0) k) * a1 (ix2 (y 1) k)) * (a2 (ix2 (y 0) (y 1)) * (((1 / 2 : ℝ) : EReal) * Ideal.tanh (((1 / 2 : ℝ) : EReal) * a2 (ix2 (y 0) (y 1))) + ((1 / 2 : ℝ) : EReal)))

/-- What a point leaves in output block 5, by the rows and columns of the result. -/
theorem at5 (t : Fin cfg0.N) (p : Fin 1024) (q : Fin 1024) :
    ((outsAt0 m c t).2 : S1024x1024.Idx → EReal) (ix2 p q)
      = spec5 (m ((c : Thread nD τ).loc main_arg4)) (m ((c : Thread nD τ).loc main_arg3)) (hostProd (m ((c : Thread nD τ).loc main_arg0)) (m ((c : Thread nD τ).loc main_arg1)))
          (ix2 ⟨t.val / 6 * 1024 + p.val, by have := N_le t; omega⟩ ⟨t.val % 6 * 1024 + q.val, by have := N_le t; omega⟩) := by
  unfold outsAt0
  dsimp only
  rw [out5]
  refine (pay5 _ _ _ p q).trans ?_
  simp only [iblk0, iblk1, iblk2]
  rfl

/-- Result 1 after the region. -/
theorem arr5 : ((dats m 0 c).arrAt 5 cfg0.N : S4096x6144.Idx → EReal)
    = spec5 (m ((c : Thread nD τ).loc main_arg4)) (m ((c : Thread nD τ).loc main_arg3)) (hostProd (m ((c : Thread nD τ).loc main_arg0)) (m ((c : Thread nD τ).loc main_arg1))) := by
  have e : (dats m 0 c).arrAt 5 cfg0.N
      = (fun y : S4096x6144.Idx => spec5 (m ((c : Thread nD τ).loc main_arg4)) (m ((c : Thread nD τ).loc main_arg3)) (hostProd (m ((c : Thread nD τ).loc main_arg0)) (m ((c : Thread nD τ).loc main_arg1))) (ix2 (y 0) (y 1))) := by
    refine (dats m 0 c).arrAt_eq_of_covers 5 _ (by decide +kernel) fun t hf y => ?_
    rw [after0_5]
    obtain ⟨p, q, rfl⟩ : ∃ (p : Fin 1024) (q : Fin 1024), y = ix2 p q := ⟨y 0, y 1, eq_ix2 y⟩
    have h := at5 m c t
    generalize (outsAt0 m c t).2 = X at h ⊢
    refine (h p q).trans ?_
    generalize spec5 (m ((c : Thread nD τ).loc main_arg4)) (m ((c : Thread nD τ).loc main_arg3)) (hostProd (m ((c : Thread nD τ).loc main_arg0)) (m ((c : Thread nD τ).loc main_arg1))) = G
    blk_simp [idx5]
    refine congrArg G ?_
    blk_ext [idx5]
  refine e.trans (funext fun y => ?_)
  rw [← eq_ix2 y]

/-- A sum of products of reals is a real. -/
theorem real_sum {n : ℕ} (f g : Fin n → EReal) (hf : ∀ k, ∃ r : ℝ, f k = (r : EReal)) (hg : ∀ k, ∃ r : ℝ, g k = (r : EReal)) :
    ∃ r : ℝ, ∑ k, f k * g k = (r : EReal) := by
  choose F hF using hf
  choose G hG using hg
  refine ⟨∑ k, F k * G k, ?_⟩
  rw [← Gate.coe_sum]
  exact Finset.sum_congr rfl fun k _ => by rw [hF, hG, EReal.coe_mul]

/-- Halving the cotangent before the product halves the product. -/
theorem half_sum {n : ℕ} (f g : Fin n → EReal) :
    ∑ k, ((1 / 2 : ℝ) : EReal) * f k * g k = ((1 / 2 : ℝ) : EReal) * ∑ k, f k * g k := by
  rw [mul_comm, Silu.sum_half]
  exact Finset.sum_congr rfl fun k _ => by rw [mul_assoc, mul_comm]

open Cert.Reference2Ideal.Read in
/-- The reference's gradient of the gate, at finite arguments. -/
theorem ref4 (a0 : FVec Ideal S4096x2048 .bf16) (a1 a2 a3 : FVec Ideal S6144x2048 .bf16) (a4 : FVec Ideal S4096x2048 .bf16)
    (h0 : ∀ j, ∃ r : ℝ, a0 j = (r : EReal)) (h1 : ∀ j, ∃ r : ℝ, a1 j = (r : EReal)) (h2 : ∀ j, ∃ r : ℝ, a2 j = (r : EReal))
    (h3 : ∀ j, ∃ r : ℝ, a3 j = (r : EReal)) (h4 : ∀ j, ∃ r : ℝ, a4 j = (r : EReal)) :
    val_main_v20 (F := Ideal) a0 a1 a2 a3 a4 = spec4 a4 a3 (hostProd a0 a1) (hostProd a0 a2) := by
  funext y
  obtain ⟨p, q, rfl⟩ : ∃ (p : Fin 4096) (q : Fin 6144), y = ix2 p q := ⟨y 0, y 1, eq_ix2 y⟩
  pointwise [val_main_v20, val_main_v19, val_main_call1_v2, val_main_call1_v1, val_main_call1_v0, val_main_v18, val_main_v16, val_main_v15,
    val_main_v14, val_main_cst_0, val_main_v9_1, val_main_v9_2, val_main_call0_v7, val_main_call0_v6, val_main_call0_cst_1, val_main_call0_v4,
    val_main_call0_cst_0, val_main_call0_v3, val_main_call0_v2, val_main_call0_cst, val_main_call0_v1, val_main_call0_v0, val_main_v8,
    val_main_v7, val_main_v6, val_main_v5, val_main_v4, val_main_v3, val_main_v2, val_main_v1, val_main_v0]
  show _ = _ * hostProd a0 a2 (ix2 p q) * ((_ * Ideal.tanh (_ * hostProd a0 a1 (ix2 p q)) + _)
    * (1 + hostProd a0 a1 (ix2 p q) * (1 - (_ * Ideal.tanh (_ * hostProd a0 a1 (ix2 p q)) + _))))
  simp only [Gate.ofBits_half, half_sum, Silu.logistic, hostProd_apply]
  obtain ⟨g, hg⟩ := real_sum (fun k => a0 (ix2 p k)) (fun k => a1 (ix2 q k)) (fun k => h0 _) (fun k => h1 _)
  obtain ⟨u, hu⟩ := real_sum (fun k => a0 (ix2 p k)) (fun k => a2 (ix2 q k)) (fun k => h0 _) (fun k => h2 _)
  obtain ⟨d, hd⟩ := real_sum (fun k => a4 (ix2 p k)) (fun k => a3 (ix2 q k)) (fun k => h4 _) (fun k => h3 _)
  simp only [hg, hu, hd]
  show _ = _ * (∑ k : Fin 2048, a4 (ix2 p k) * a3 (ix2 q k)) * _ * _
  rw [hd]
  simp only [← EReal.coe_mul, Ideal.tanh_coe, ← EReal.coe_add, ← EReal.coe_one, ← EReal.coe_sub]
  rw [EReal.coe_eq_coe_iff]
  ring

open Cert.Reference2Ideal.Read in
/-- The reference's gradient of the up projection. -/
theorem ref5 (a0 : FVec Ideal S4096x2048 .bf16) (a1 a3 : FVec Ideal S6144x2048 .bf16) (a4 : FVec Ideal S4096x2048 .bf16) :
    val_main_v21 (F := Ideal) a0 a1 a3 a4 = spec5 a4 a3 (hostProd a0 a1) := by
  funext y
  obtain ⟨p, q, rfl⟩ : ∃ (p : Fin 4096) (q : Fin 6144), y = ix2 p q := ⟨y 0, y 1, eq_ix2 y⟩
  pointwise [val_main_v21, val_main_v17, val_main_v16, val_main_v15, val_main_v14, val_main_cst_0, val_main_v9_0, val_main_v9_2,
    val_main_call0_v4, val_main_call0_cst_0, val_main_call0_v3, val_main_call0_v2, val_main_call0_cst, val_main_call0_v1, val_main_call0_v0,
    val_main_v6, val_main_v5, val_main_v4, val_main_v3, val_main_v1, val_main_v0]
  show _ = _ * (hostProd a0 a1 (ix2 p q) * (_ * Ideal.tanh (_ * hostProd a0 a1 (ix2 p q)) + _))
  simp only [Gate.ofBits_half, half_sum, Silu.logistic, hostProd_apply]
  rw [mul_comm]
  rfl

section

variable [Cert.Pre_ffn_finite.Facts]

open Cert.Pre_ffn_finite in
/-- The precondition makes every element of every argument a real. -/
theorem reals_of_pre (a0 : FVec Ideal Cert.Pre_ffn_finite.S4096x2048 .bf16) (a1 a2 a3 : FVec Ideal Cert.Pre_ffn_finite.S6144x2048 .bf16) (a4 : FVec Ideal Cert.Pre_ffn_finite.S4096x2048 .bf16)
    (h : fn (F := Ideal) a0 a1 a2 a3 a4 = fun _ => 1#1) :
    (∀ j, ∃ x : ℝ, a0 j = (x : EReal)) ∧ (∀ j, ∃ x : ℝ, a1 j = (x : EReal)) ∧ (∀ j, ∃ x : ℝ, a2 j = (x : EReal))
      ∧ (∀ j, ∃ x : ℝ, a3 j = (x : EReal)) ∧ (∀ j, ∃ x : ℝ, a4 j = (x : EReal)) := by
  have h' := congrFun h (fun a => a.elim0)
  unfold fn fn_part1 at h'
  dsimp only [andi] at h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  have : Subsingleton Cert.Pre_ffn_finite.S_.Idx := ⟨fun a b => funext fun i => i.elim0⟩
  exact ⟨fun j => Silu.real_of_cmp _ a0 j (Host.reduce_andi_all _ _ _ _ _ e0 j),
    fun j => Silu.real_of_cmp _ a1 j (Host.reduce_andi_all _ _ _ _ _ e1 j),
    fun j => Silu.real_of_cmp _ a2 j (Host.reduce_andi_all _ _ _ _ _ e2 j),
    fun j => Silu.real_of_cmp _ a3 j (Host.reduce_andi_all _ _ _ _ _ e3 j),
    fun j => Silu.real_of_cmp _ a4 j (Host.reduce_andi_all _ _ _ _ _ e4 j)⟩

end

/-- Kernel and reference leave the same results and keep their arguments, at finite arguments. -/
theorem algebraic [Cert.Pre_ffn_finite.Facts] : Cert.algebraic_Kernel2Ideal_Reference2Ideal_pre_ffn_finite := by
  intro m g m' g' hpre hargs
  refine ⟨fun c => (dats m 0 c).arrAt 4 cfg0.N, fun c => (dats m 0 c).arrAt 5 cfg0.N, Cert.Kernel2Ideal.Value.run_blocks m g, ?_⟩
  refine (θ_run Cert.Reference2Ideal.defs _ _).mono (fun r h c => ?_) (Cert.Reference2Ideal.Value.run (F := Ideal) m' g')
  obtain ⟨h0, h1, k⟩ := h c
  obtain ⟨e0, e1, e2, e3, e4⟩ := hargs c
  obtain ⟨r0, r1, r2, r3, r4⟩ := reals_of_pre _ _ _ _ _ (hpre c)
  refine ⟨h0.trans ?_, h1.trans ?_, k⟩
  · rw [e0, e1, e2, e3, e4]
    exact (Cert.Reference2Ideal.Read.val_main_v20_eq _ _ _ _ _).trans ((ref4 _ _ _ _ _ r0 r1 r2 r3 r4).trans (arr4 m c).symm)
  · rw [e0, e1, e3, e4]
    exact (Cert.Reference2Ideal.Read.val_main_v21_eq _ _ _ _).trans ((ref5 _ _ _ _).trans (arr5 m c).symm)

end

end Ffn.ActBwd
-- ==== Proof.GradGate.lean ====
module
public import proofs.«01_k».proof.Proof.Silu
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of an up or gate weight

The columns of the cotangent against the columns of the tokens, summed over the tokens. -/

@[expose] public section

set_option maxRecDepth 16384

namespace Ffn.GradGate

open Cert.Kernel3Ideal Cert.Kernel3Ideal.Gen Idealize.ShloMosaic Idealize.ShloMosaic.TcCoe Idealize.SL.Sem
open Idealize.ShloMosaic.Pipeline (Dat)

noncomputable section

/-- One element of the tile a grid point computes. -/
theorem pay (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

/-- What a grid point leaves in its block of the result. -/
theorem out (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec Ideal S4096x1024 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 12 := by
  have := t.isLt
  have : cfg0.N = 12 := N_0
  omega

/-- Input block 0 of point `t`, by the rows and columns of the argument. -/
theorem iblk0 (t : Fin cfg0.N) (p : Fin 4096) (q : Fin 1024) :
    (iblk m c 0 t : S4096x1024.Idx → EReal) (ix2 p q)
      = (m ((c : Thread nD τ).loc main_arg0) : S4096x6144.Idx → EReal) (ix2 p ⟨t.val / 2 * 1024 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x2048.Idx → EReal) (ix2 p ⟨t.val % 2 * 1024 + q.val, by have := N_le t; omega⟩) := by
  blk_simp [iblk, idx1]
  refine congrArg (m ((c : Thread nD τ).loc main_arg1)) ?_
  blk_ext [idx1]

/-- The result, element by element. -/
def spec (a0 : S4096x6144.Idx → EReal) (a1 : S4096x2048.Idx → EReal) (y : S6144x2048.Idx) : EReal :=
  ∑ k : Fin 4096, a0 (ix2 k (y 0)) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S6144x2048.Idx → EReal)
    = spec (m ((c : Thread nD τ).loc main_arg0)) (m ((c : Thread nD τ).loc main_arg1)) := by
  have e : (dats m 0 c).arrAt 2 cfg0.N
      = (fun y : S6144x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference3Ideal.Read in
/-- The reference's result, element by element. -/
theorem ref (a0 : FVec Ideal S4096x6144 .bf16) (a1 : FVec Ideal S4096x2048 .bf16) : val_main_v8 (F := Ideal) a0 a1 = spec a0 a1 := by
  funext y
  obtain ⟨p, q, rfl⟩ : ∃ (p : Fin 6144) (q : Fin 2048), y = ix2 p q := ⟨y 0, y 1, eq_ix2 y⟩
  pointwise [val_main_v8, val_main_v7, val_main_v6, val_main_v5, val_main_v4, val_main_v1]
  rfl

/-- Kernel and reference leave the same result and keep their arguments. -/
theorem algebraic : Cert.algebraic_Kernel3Ideal_Reference3Ideal := by
  intro m g m' g' hpre hargs
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run (F := Ideal) m' g')
  obtain ⟨h0, k⟩ := h c
  obtain ⟨e0, e1⟩ := hargs c
  refine ⟨h0.trans ?_, k⟩
  rw [e0, e1]
  exact (Cert.Reference3Ideal.Read.val_main_v8_eq _ _).trans ((ref _ _).trans (arr m c).symm)

end

end Ffn.GradGate
-- ==== Proof.GradDown.lean ====
module
public import proofs.«01_k».proof.Proof.Silu
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the down weight

The columns of the activation against the columns of the cotangent, summed over the tokens, halved. -/

@[expose] public section

set_option maxRecDepth 16384

namespace Ffn.GradDown

open Cert.Kernel4Ideal Cert.Kernel4Ideal.Gen Idealize.ShloMosaic Idealize.ShloMosaic.TcCoe Idealize.SL.Sem
open Idealize.ShloMosaic.Pipeline (Dat)

noncomputable section

/-- One element of the tile a grid point computes. -/
theorem pay (x0 : Vec Ideal S4096x1024 .bf16) (x1 : Vec Ideal S4096x1024 .bf16) (p : Fin 1024) (q : Fin 1024) :
    k0_pay1 x0 x1 (ix2 p q) = (∑ k : Fin 4096, x0 (ix2 k p) * x1 (ix2 k q)) * ((1 / 2 : ℝ) : EReal) := by
  pointwise [k0_pay1]
  simp only [Gate.ofBits_half]

/-- What a grid point leaves in its block of the result. -/
theorem out (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec Ideal S4096x1024 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 12 := by
  have := t.isLt
  have : cfg0.N = 12 := N_0
  omega

/-- Input block 0 of point `t`, by the rows and columns of the argument. -/
theorem iblk0 (t : Fin cfg0.N) (p : Fin 4096) (q : Fin 1024) :
    (iblk m c 0 t : S4096x1024.Idx → EReal) (ix2 p q)
      = (m ((c : Thread nD τ).loc main_arg0) : S4096x6144.Idx → EReal) (ix2 p ⟨t.val / 2 * 1024 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x2048.Idx → EReal) (ix2 p ⟨t.val % 2 * 1024 + q.val, by have := N_le t; omega⟩) := by
  blk_simp [iblk, idx1]
  refine congrArg (m ((c : Thread nD τ).loc main_arg1)) ?_
  blk_ext [idx1]

/-- The result, element by element. -/
def spec (a0 : S4096x6144.Idx → EReal) (a1 : S4096x2048.Idx → EReal) (y : S6144x2048.Idx) : EReal :=
  (∑ k : Fin 4096, a0 (ix2 k (y 0)) * a1 (ix2 k (y 1))) * ((1 / 2 : ℝ) : EReal)

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S6144x2048.Idx → EReal)
    = spec (m ((c : Thread nD τ).loc main_arg0)) (m ((c : Thread nD τ).loc main_arg1)) := by
  have e : (dats m 0 c).arrAt 2 cfg0.N
      = (fun y : S6144x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference4Ideal.Read in
/-- The reference's result, element by element. -/
theorem ref (a0 : FVec Ideal S4096x6144 .bf16) (a1 : FVec Ideal S4096x2048 .bf16) : val_main_v10 (F := Ideal) a0 a1 = spec a0 a1 := by
  funext y
  obtain ⟨p, q, rfl⟩ : ∃ (p : Fin 6144) (q : Fin 2048), y = ix2 p q := ⟨y 0, y 1, eq_ix2 y⟩
  pointwise [val_main_v10, val_main_v9, val_main_v8, val_main_v7, val_main_v6, val_main_v5, val_main_v1, val_main_cst_1]
  simp only [Gate.ofBits_half, spec]
  refine (Finset.sum_congr rfl fun k _ => ?_).trans (Silu.sum_half _).symm
  rw [mul_comm, mul_comm ((1 / 2 : ℝ) : EReal), mul_assoc]
  rfl

/-- Kernel and reference leave the same result and keep their arguments. -/
theorem algebraic : Cert.algebraic_Kernel4Ideal_Reference4Ideal := by
  intro m g m' g' hpre hargs
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run (F := Ideal) m' g')
  obtain ⟨h0, k⟩ := h c
  obtain ⟨e0, e1⟩ := hargs c
  refine ⟨h0.trans ?_, k⟩
  rw [e0, e1]
  exact (Cert.Reference4Ideal.Read.val_main_v10_eq _ _).trans ((ref _ _).trans (arr m c).symm)

end

end Ffn.GradDown
-- ==== Proof.GateBwd.lean ====
module
public import proofs.«01_k».proof.Proof.Silu
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gate weight's share of the cotangent of the tokens -/

@[expose] public section

set_option maxRecDepth 16384

namespace Ffn.GateBwd

open Cert.Kernel5Ideal Cert.Kernel5Ideal.Gen Idealize.ShloMosaic Idealize.ShloMosaic.TcCoe Idealize.SL.Sem
open Idealize.ShloMosaic.Pipeline (Dat)

noncomputable section

/-- One element of the tile a grid point computes. -/
theorem pay (x0 : Vec Ideal S1024x6144 .bf16) (x1 : Vec Ideal S6144x512 .bf16) (p : Fin 1024) (q : Fin 512) :
    k0_pay1 x0 x1 (ix2 p q) = ∑ k : Fin 6144, x0 (ix2 p k) * x1 (ix2 k q) := by
  pointwise [k0_pay1]

/-- What a grid point leaves in its block of the result. -/
theorem out (c : Dev nD) (i : grid0.Coords) (arg3 : Memref sig .tc .vmem S1024x6144 .bf16) (harg3 : arg3.IsWhole) (arg4 : Memref sig .tc .vmem S6144x512 .bf16) (harg4 : arg4.IsWhole) (arg5 : Memref sig .tc .vmem S1024x512 .f32) (harg5 : arg5.IsWhole) (arg6 : Memref sig .tc .vmem S8x128 .f32) (harg6 : arg6.IsWhole)
    (x0 : Vec Ideal S1024x6144 .bf16) (x1 : Vec Ideal S6144x512 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

variable (m : (ℓ : Loc nD τ sig) → Buf (Elt Ideal) ℓ) (c : Dev nD)

theorem N_le (t : Fin cfg0.N) : t.val < 16 := by
  have := t.isLt
  have : cfg0.N = 16 := N_0
  omega

/-- Input block 0 of point `t`, by the rows and columns of the argument. -/
theorem iblk0 (t : Fin cfg0.N) (p : Fin 1024) (q : Fin 6144) :
    (iblk m c 0 t : S1024x6144.Idx → EReal) (ix2 p q)
      = (m ((c : Thread nD τ).loc main_arg0) : S4096x6144.Idx → EReal) (ix2 ⟨t.val / 4 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 6144) (q : Fin 512) :
    (iblk m c 1 t : S6144x512.Idx → EReal) (ix2 p q)
      = (m ((c : Thread nD τ).loc main_arg1) : S6144x2048.Idx → EReal) (ix2 p ⟨t.val % 4 * 512 + q.val, by have := N_le t; omega⟩) := by
  blk_simp [iblk, idx1]
  refine congrArg (m ((c : Thread nD τ).loc main_arg1)) ?_
  blk_ext [idx1]

/-- The result, element by element. -/
def spec (a0 : S4096x6144.Idx → EReal) (a1 : S6144x2048.Idx → EReal) (y : S4096x2048.Idx) : EReal :=
  ∑ k : Fin 6144, a0 (ix2 (y 0) k) * a1 (ix2 k (y 1))

/-- What a point leaves, by its rows and columns of the result. -/
theorem at2 (t : Fin cfg0.N) (p : Fin 1024) (q : Fin 512) :
    (outsAt0 m c t : S1024x512.Idx → EReal) (ix2 p q)
      = spec (m ((c : Thread nD τ).loc main_arg0)) (m ((c : Thread nD τ).loc main_arg1))
          (ix2 ⟨t.val / 4 * 1024 + p.val, by have := N_le t; omega⟩ ⟨t.val % 4 * 512 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x2048.Idx → EReal)
    = spec (m ((c : Thread nD τ).loc main_arg0)) (m ((c : Thread nD τ).loc main_arg1)) := by
  have e : (dats m 0 c).arrAt 2 cfg0.N
      = (fun y : S4096x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 512), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference5Ideal.Read in
/-- The reference's result, element by element. -/
theorem ref (a0 : FVec Ideal S4096x6144 .bf16) (a1 : FVec Ideal S6144x2048 .bf16) : val_main_v5 (F := Ideal) a0 a1 = spec a0 a1 := by
  funext y
  obtain ⟨p, q, rfl⟩ : ∃ (p : Fin 4096) (q : Fin 2048), y = ix2 p q := ⟨y 0, y 1, eq_ix2 y⟩
  pointwise [val_main_v5, val_main_v4, val_main_v2, val_main_v1]
  rfl

/-- Kernel and reference leave the same result and keep their arguments. -/
theorem algebraic : Cert.algebraic_Kernel5Ideal_Reference5Ideal := by
  intro m g m' g' hpre hargs
  refine ⟨fun c => (dats m 0 c).arrAt 2 cfg0.N, Cert.Kernel5Ideal.Value.run_blocks m g, ?_⟩
  refine (θ_run Cert.Reference5Ideal.defs _ _).mono (fun r h c => ?_) (Cert.Reference5Ideal.Value.run (F := Ideal) m' g')
  obtain ⟨h0, k⟩ := h c
  obtain ⟨e0, e1⟩ := hargs c
  refine ⟨h0.trans ?_, k⟩
  rw [e0, e1]
  exact (Cert.Reference5Ideal.Read.val_main_v5_eq _ _).trans ((ref _ _).trans (arr m c).symm)

end

end Ffn.GateBwd
-- ==== Proof.UpBwd.lean ====
module
public import proofs.«01_k».proof.Proof.Silu
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The up weight's share of the cotangent of the tokens, added to the gate's -/

@[expose] public section

set_option maxRecDepth 16384

namespace Ffn.UpBwd

open Cert.Kernel6Ideal Cert.Kernel6Ideal.Gen Idealize.ShloMosaic Idealize.ShloMosaic.TcCoe Idealize.SL.Sem
open Idealize.ShloMosaic.Pipeline (Dat)

noncomputable section

/-- One element of the tile a grid point computes. -/
theorem pay (x0 : Vec Ideal S1024x6144 .bf16) (x1 : Vec Ideal S6144x512 .bf16) (x2 : Vec Ideal S1024x512 .f32) (p : Fin 1024) (q : Fin 512) :
    k0_pay1 x0 x1 x2 (ix2 p q) = x2 (ix2 p q) + ∑ k : Fin 6144, x0 (ix2 p k) * x1 (ix2 k q) := by
  pointwise [k0_pay1]

/-- What a grid point leaves in its block of the result. -/
theorem out (c : Dev nD) (i : grid0.Coords) (arg3 : Memref sig .tc .vmem S1024x6144 .bf16) (harg3 : arg3.IsWhole) (arg4 : Memref sig .tc .vmem S6144x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S8x128 .f32) (harg7 : arg7.IsWhole)
    (x0 : Vec Ideal S1024x6144 .bf16) (x1 : Vec Ideal S6144x512 .bf16) (x2 : Vec Ideal S1024x512 .f32) :
    out0_A_3 c i arg3 harg3 arg4 harg4 arg5 harg5 arg6 harg6 arg7 harg7 x0 x1 x2 = k0_pay1 x0 x1 x2 := by
  unfold out0_A_3
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

variable (m : (ℓ : Loc nD τ sig) → Buf (Elt Ideal) ℓ) (c : Dev nD)

theorem N_le (t : Fin cfg0.N) : t.val < 16 := by
  have := t.isLt
  have : cfg0.N = 16 := N_0
  omega

/-- Input block 0 of point `t`, by the rows and columns of the argument. -/
theorem iblk0 (t : Fin cfg0.N) (p : Fin 1024) (q : Fin 6144) :
    (iblk m c 0 t : S1024x6144.Idx → EReal) (ix2 p q)
      = (m ((c : Thread nD τ).loc main_arg0) : S4096x6144.Idx → EReal) (ix2 ⟨t.val / 4 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 6144) (q : Fin 512) :
    (iblk m c 1 t : S6144x512.Idx → EReal) (ix2 p q)
      = (m ((c : Thread nD τ).loc main_arg1) : S6144x2048.Idx → EReal) (ix2 p ⟨t.val % 4 * 512 + q.val, by have := N_le t; omega⟩) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 512) :
    (iblk m c 2 t : S1024x512.Idx → EReal) (ix2 p q)
      = (m ((c : Thread nD τ).loc main_arg2) : S4096x2048.Idx → EReal) (ix2 ⟨t.val / 4 * 1024 + p.val, by have := N_le t; omega⟩ ⟨t.val % 4 * 512 + q.val, by have := N_le t; omega⟩) := by
  blk_simp [iblk, idx2]
  refine congrArg (m ((c : Thread nD τ).loc main_arg2)) ?_
  blk_ext [idx2]

/-- The result, element by element. -/
def spec (a0 : S4096x6144.Idx → EReal) (a1 : S6144x2048.Idx → EReal) (a2 : S4096x2048.Idx → EReal) (y : S4096x2048.Idx) : EReal :=
  a2 (ix2 (y 0) (y 1)) + ∑ k : Fin 6144, a0 (ix2 (y 0) k) * a1 (ix2 k (y 1))

/-- What a point leaves, by its rows and columns of the result. -/
theorem at2 (t : Fin cfg0.N) (p : Fin 1024) (q : Fin 512) :
    (outsAt0 m c t : S1024x512.Idx → EReal) (ix2 p q)
      = spec (m ((c : Thread nD τ).loc main_arg0)) (m ((c : Thread nD τ).loc main_arg1)) (m ((c : Thread nD τ).loc main_arg2))
          (ix2 ⟨t.val / 4 * 1024 + p.val, by have := N_le t; omega⟩ ⟨t.val % 4 * 512 + q.val, by have := N_le t; omega⟩) := by
  unfold outsAt0
  rw [out]
  refine (pay _ _ _ p q).trans ?_
  simp only [iblk0, iblk1, iblk2]
  rfl

/-- The result array after the region. -/
theorem arr : ((dats m 0 c).arrAt 3 cfg0.N : S4096x2048.Idx → EReal)
    = spec (m ((c : Thread nD τ).loc main_arg0)) (m ((c : Thread nD τ).loc main_arg1)) (m ((c : Thread nD τ).loc main_arg2)) := by
  have e : (dats m 0 c).arrAt 3 cfg0.N
      = (fun y : S4096x2048.Idx => spec (m ((c : Thread nD τ).loc main_arg0)) (m ((c : Thread nD τ).loc main_arg1)) (m ((c : Thread nD τ).loc main_arg2)) (ix2 (y 0) (y 1))) := by
    refine (dats m 0 c).arrAt_eq_of_covers 3 _ (by decide +kernel) fun t hf y => ?_
    rw [after0_3]
    obtain ⟨p, q, rfl⟩ : ∃ (p : Fin 1024) (q : Fin 512), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) (m ((c : Thread nD τ).loc main_arg2)) = G
    blk_simp [idx3]
    refine congrArg G ?_
    blk_ext [idx3]
  refine e.trans (funext fun y => ?_)
  rw [← eq_ix2 y]

open Cert.Reference6Ideal.Read in
/-- The reference's result, element by element. -/
theorem ref (a0 : FVec Ideal S4096x6144 .bf16) (a1 : FVec Ideal S6144x2048 .bf16) (a2 : FVec Ideal S4096x2048 .f32) : val_main_v6 (F := Ideal) a0 a1 a2 = spec a0 a1 a2 := by
  funext y
  obtain ⟨p, q, rfl⟩ : ∃ (p : Fin 4096) (q : Fin 2048), y = ix2 p q := ⟨y 0, y 1, eq_ix2 y⟩
  pointwise [val_main_v6, val_main_v5, val_main_v4, val_main_v2, val_main_v1]
  rfl

/-- Kernel and reference leave the same result and keep their arguments. -/
theorem algebraic : Cert.algebraic_Kernel6Ideal_Reference6Ideal := by
  intro m g m' g' hpre hargs
  refine ⟨fun c => (dats m 0 c).arrAt 3 cfg0.N, Cert.Kernel6Ideal.Value.run_blocks m g, ?_⟩
  refine (θ_run Cert.Reference6Ideal.defs _ _).mono (fun r h c => ?_) (Cert.Reference6Ideal.Value.run (F := Ideal) m' g')
  obtain ⟨h0, k⟩ := h c
  obtain ⟨e0, e1, e2⟩ := hargs c
  refine ⟨h0.trans ?_, k⟩
  rw [e0, e1, e2]
  exact (Cert.Reference6Ideal.Read.val_main_v6_eq _ _ _).trans ((ref _ _ _).trans (arr m c).symm)

end

end Ffn.UpBwd
-- ==== Proof.GateFwd.lean ====
module
public import proofs.«01_k».proof.Proof.Silu
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gate projection -/

@[expose] public section

set_option maxRecDepth 16384

namespace Ffn.GateFwd

open Cert.Kernel7Ideal Cert.Kernel7Ideal.Gen Idealize.ShloMosaic Idealize.ShloMosaic.TcCoe Idealize.SL.Sem
open Idealize.ShloMosaic.Pipeline (Dat)

noncomputable section

/-- One element of the tile a grid point computes. -/
theorem pay (x0 : Vec Ideal S1024x2048 .bf16) (x1 : Vec Ideal S1024x2048 .bf16) (p : Fin 1024) (q : Fin 1024) :
    k0_pay1 x0 x1 (ix2 p q) = ∑ k : Fin 2048, x0 (ix2 p k) * x1 (ix2 q k) := by
  pointwise [k0_pay1]

/-- What a grid point leaves in its block of the result. -/
theorem out (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S8x128 .f32) (harg6 : arg6.IsWhole)
    (x0 : Vec Ideal S1024x2048 .bf16) (x1 : Vec Ideal S1024x2048 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 6, 0] := (by decide +kernel : ∀ t : Fin grid0.N, _)
theorem idx1 : ∀ t : Fin cfg0.N, win0_1.index t = ![t.val % 6, 0] := (by decide +kernel : ∀ t : Fin grid0.N, _)
theorem idx2 : ∀ t : Fin cfg0.N, win0_2.index t = ![t.val / 6, t.val % 6] := (by decide +kernel : ∀ t : Fin grid0.N, _)

variable (m : (ℓ : Loc nD τ sig) → Buf (Elt Ideal) ℓ) (c : Dev nD)

theorem N_le (t : Fin cfg0.N) : t.val < 24 := by
  have := t.isLt
  have : cfg0.N = 24 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 6 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 2048) :
    (iblk m c 1 t : S1024x2048.Idx → EReal) (ix2 p q)
      = (m ((c : Thread nD τ).loc main_arg1) : S6144x2048.Idx → EReal) (ix2 ⟨t.val % 6 * 1024 + p.val, by have := N_le t; omega⟩ q) := by
  blk_simp [iblk, idx1]
  refine congrArg (m ((c : Thread nD τ).loc main_arg1)) ?_
  blk_ext [idx1]

/-- The result, element by element. -/
def spec (a0 : S4096x2048.Idx → EReal) (a1 : S6144x2048.Idx → EReal) (y : S4096x6144.Idx) : EReal :=
  ∑ k : Fin 2048, a0 (ix2 (y 0) k) * a1 (ix2 (y 1) k)

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 6 * 1024 + p.val, by have := N_le t; omega⟩ ⟨t.val % 6 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x6144.Idx → EReal)
    = spec (m ((c : Thread nD τ).loc main_arg0)) (m ((c : Thread nD τ).loc main_arg1)) := by
  have e : (dats m 0 c).arrAt 2 cfg0.N
      = (fun y : S4096x6144.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference7Ideal.Read in
/-- The reference's result, element by element. -/
theorem ref (a0 : FVec Ideal S4096x2048 .bf16) (a1 : FVec Ideal S6144x2048 .bf16) : val_main_v3 (F := Ideal) a0 a1 = spec a0 a1 := by
  funext y
  obtain ⟨p, q, rfl⟩ : ∃ (p : Fin 4096) (q : Fin 6144), y = ix2 p q := ⟨y 0, y 1, eq_ix2 y⟩
  pointwise [val_main_v3, val_main_v2, val_main_v1, val_main_v0]
  rfl

/-- Kernel and reference leave the same result and keep their arguments. -/
theorem algebraic : Cert.algebraic_Kernel7Ideal_Reference7Ideal := by
  intro m g m' g' hpre hargs
  refine ⟨fun c => (dats m 0 c).arrAt 2 cfg0.N, Cert.Kernel7Ideal.Value.run_blocks m g, ?_⟩
  refine (θ_run Cert.Reference7Ideal.defs _ _).mono (fun r h c => ?_) (Cert.Reference7Ideal.Value.run (F := Ideal) m' g')
  obtain ⟨h0, k⟩ := h c
  obtain ⟨e0, e1⟩ := hargs c
  refine ⟨h0.trans ?_, k⟩
  rw [e0, e1]
  exact (Cert.Reference7Ideal.Read.val_main_v3_eq _ _).trans ((ref _ _).trans (arr m c).symm)

end

end Ffn.GateFwd
-- ==== Proof.ActFwd.lean ====
module
public import proofs.«01_k».proof.Proof.Silu
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The up projection and the activation

One tile of the up projection, and SiLU of the gate times it. -/

@[expose] public section

set_option maxRecDepth 16384

namespace Ffn.ActFwd

open Cert.Kernel8Ideal Cert.Kernel8Ideal.Gen Idealize.ShloMosaic Idealize.ShloMosaic.TcCoe Idealize.SL.Sem
open Idealize.ShloMosaic.Pipeline (Dat)

noncomputable section

/-- One element of output block 3. -/
theorem pay3 (x2 : Vec Ideal S1024x1024 .f32) (p : Fin 1024) (q : Fin 1024) :
    k0_pay2 x2 (ix2 p q) = x2 (ix2 p q) := by
  pointwise [k0_pay2]

/-- What a grid point leaves in output block 3. -/
theorem out3 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x128 .f32) (harg9 : arg9.IsWhole)
    (x0 : Vec Ideal S1024x2048 .bf16) (x1 : Vec Ideal S1024x2048 .bf16) (x2 : Vec Ideal S1024x1024 .f32) :
    out0_A_3 c i arg3 harg3 arg4 harg4 arg5 harg5 arg6 harg6 arg7 harg7 arg8 harg8 arg9 harg9 x0 x1 x2 = k0_pay2 x2 := by
  unfold out0_A_3
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x2 (by decide)]

/-- One element of output block 4. -/
theorem pay4 (x0 : Vec Ideal S1024x2048 .bf16) (x1 : Vec Ideal S1024x2048 .bf16) (p : Fin 1024) (q : Fin 1024) :
    k0_pay3 x0 x1 (ix2 p q) = ∑ k : Fin 2048, x0 (ix2 p k) * x1 (ix2 q k) := by
  pointwise [k0_pay3, k0_pay1]

/-- What a grid point leaves in output block 4. -/
theorem out4 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x128 .f32) (harg9 : arg9.IsWhole)
    (x0 : Vec Ideal S1024x2048 .bf16) (x1 : Vec Ideal S1024x2048 .bf16) (x2 : Vec Ideal S1024x1024 .f32) :
    out0_A_4 c i arg3 harg3 arg4 harg4 arg5 harg5 arg6 harg6 arg7 harg7 arg8 harg8 arg9 harg9 x0 x1 x2 = k0_pay3 x0 x1 := by
  unfold out0_A_4
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide)]

/-- One element of output block 5. -/
theorem pay5 (x0 : Vec Ideal S1024x2048 .bf16) (x1 : Vec Ideal S1024x2048 .bf16) (x2 : Vec Ideal S1024x1024 .f32) (p : Fin 1024) (q : Fin 1024) :
    k0_pay4 x0 x1 x2 (ix2 p q) = x2 (ix2 p q) * (((1 / 2 : ℝ) : EReal) * Ideal.tanh (((1 / 2 : ℝ) : EReal) * x2 (ix2 p q)) + ((1 / 2 : ℝ) : EReal)) * (∑ k : Fin 2048, x0 (ix2 p k) * x1 (ix2 q k)) := by
  pointwise [k0_pay4, k0_pay1]
  simp only [Gate.ofBits_half]

/-- What a grid point leaves in output block 5. -/
theorem out5 (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S8x128 .f32) (harg9 : arg9.IsWhole)
    (x0 : Vec Ideal S1024x2048 .bf16) (x1 : Vec Ideal S1024x2048 .bf16) (x2 : Vec Ideal S1024x1024 .f32) :
    out0_A_5 c i arg3 harg3 arg4 harg4 arg5 harg5 arg6 harg6 arg7 harg7 arg8 harg8 arg9 harg9 x0 x1 x2 = k0_pay4 x0 x1 x2 := by
  unfold out0_A_5
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 6, 0] := (by decide +kernel : ∀ t : Fin grid0.N, _)
theorem idx1 : ∀ t : Fin cfg0.N, win0_1.index t = ![t.val % 6, 0] := (by decide +kernel : ∀ t : Fin grid0.N, _)
theorem idx2 : ∀ t : Fin cfg0.N, win0_2.index t = ![t.val / 6, t.val % 6] := (by decide +kernel : ∀ t : Fin grid0.N, _)
theorem idx3 : ∀ t : Fin cfg0.N, win0_3.index t = ![t.val / 6, t.val % 6] := (by decide +kernel : ∀ t : Fin grid0.N, _)
theorem idx4 : ∀ t : Fin cfg0.N, win0_4.index t = ![t.val / 6, t.val % 6] := (by decide +kernel : ∀ t : Fin grid0.N, _)
theorem idx5 : ∀ t : Fin cfg0.N, win0_5.index t = ![t.val / 6, t.val % 6] := (by decide +kernel : ∀ t : Fin grid0.N, _)

variable (m : (ℓ : Loc nD τ sig) → Buf (Elt Ideal) ℓ) (c : Dev nD)

theorem N_le (t : Fin cfg0.N) : t.val < 24 := by
  have := t.isLt
  have : cfg0.N = 24 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 6 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 2048) :
    (iblk m c 1 t : S1024x2048.Idx → EReal) (ix2 p q)
      = (m ((c : Thread nD τ).loc main_arg1) : S6144x2048.Idx → EReal) (ix2 ⟨t.val % 6 * 1024 + p.val, by have := N_le t; omega⟩ q) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 1024) :
    (iblk m c 2 t : S1024x1024.Idx → EReal) (ix2 p q)
      = (m ((c : Thread nD τ).loc main_arg2) : S4096x6144.Idx → EReal) (ix2 ⟨t.val / 6 * 1024 + p.val, by have := N_le t; omega⟩ ⟨t.val % 6 * 1024 + q.val, by have := N_le t; omega⟩) := by
  blk_simp [iblk, idx2]
  refine congrArg (m ((c : Thread nD τ).loc main_arg2)) ?_
  blk_ext [idx2]

/-- Result 0, element by element. -/
def spec3 (a2 : S4096x6144.Idx → EReal) (y : S4096x6144.Idx) : EReal :=
  a2 (ix2 (y 0) (y 1))

/-- What a point leaves in output block 3, by the rows and columns of the result. -/
theorem at3 (t : Fin cfg0.N) (p : Fin 1024) (q : Fin 1024) :
    ((outsAt0 m c t).1 : S1024x1024.Idx → EReal) (ix2 p q)
      = spec3 (m ((c : Thread nD τ).loc main_arg2))
          (ix2 ⟨t.val / 6 * 1024 + p.val, by have := N_le t; omega⟩ ⟨t.val % 6 * 1024 + q.val, by have := N_le t; omega⟩) := by
  unfold outsAt0
  dsimp only
  rw [out3]
  refine (pay3 _ p q).trans ?_
  simp only [iblk2]
  rfl

/-- Result 0 after the region. -/
theorem arr3 : ((dats m 0 c).arrAt 3 cfg0.N : S4096x6144.Idx → EReal)
    = spec3 (m ((c : Thread nD τ).loc main_arg2)) := by
  have e : (dats m 0 c).arrAt 3 cfg0.N
      = (fun y : S4096x6144.Idx => spec3 (m ((c : Thread nD τ).loc main_arg2)) (ix2 (y 0) (y 1))) := by
    refine (dats m 0 c).arrAt_eq_of_covers 3 _ (by decide +kernel) fun t hf y => ?_
    rw [after0_3]
    obtain ⟨p, q, rfl⟩ : ∃ (p : Fin 1024) (q : Fin 1024), y = ix2 p q := ⟨y 0, y 1, eq_ix2 y⟩
    have h := at3 m c t
    generalize (outsAt0 m c t).1 = X at h ⊢
    refine (h p q).trans ?_
    generalize spec3 (m ((c : Thread nD τ).loc main_arg2)) = G
    blk_simp [idx3]
    refine congrArg G ?_
    blk_ext [idx3]
  refine e.trans (funext fun y => ?_)
  rw [← eq_ix2 y]

open Cert.Reference8Ideal.Read in
/-- The reference's result 0, element by element. -/
theorem ref3 (a2 : FVec Ideal S4096x6144 .f32) : val_main_v4 (F := Ideal) a2 = spec3 a2 := by
  funext y
  obtain ⟨p, q, rfl⟩ : ∃ (p : Fin 4096) (q : Fin 6144), y = ix2 p q := ⟨y 0, y 1, eq_ix2 y⟩
  pointwise [val_main_v4]
  rfl

/-- Result 1, element by element. -/
def spec4 (a0 : S4096x2048.Idx → EReal) (a1 : S6144x2048.Idx → EReal) (y : S4096x6144.Idx) : EReal :=
  ∑ k : Fin 2048, a0 (ix2 (y 0) k) * a1 (ix2 (y 1) k)

/-- What a point leaves in output block 4, by the rows and columns of the result. -/
theorem at4 (t : Fin cfg0.N) (p : Fin 1024) (q : Fin 1024) :
    ((outsAt0 m c t).2.1 : S1024x1024.Idx → EReal) (ix2 p q)
      = spec4 (m ((c : Thread nD τ).loc main_arg0)) (m ((c : Thread nD τ).loc main_arg1))
          (ix2 ⟨t.val / 6 * 1024 + p.val, by have := N_le t; omega⟩ ⟨t.val % 6 * 1024 + q.val, by have := N_le t; omega⟩) := by
  unfold outsAt0
  dsimp only
  rw [out4]
  refine (pay4 _ _ p q).trans ?_
  simp only [iblk0, iblk1]
  rfl

/-- Result 1 after the region. -/
theorem arr4 : ((dats m 0 c).arrAt 4 cfg0.N : S4096x6144.Idx → EReal)
    = spec4 (m ((c : Thread nD τ).loc main_arg0)) (m ((c : Thread nD τ).loc main_arg1)) := by
  have e : (dats m 0 c).arrAt 4 cfg0.N
      = (fun y : S4096x6144.Idx => spec4 (m ((c : Thread nD τ).loc main_arg0)) (m ((c : Thread nD τ).loc main_arg1)) (ix2 (y 0) (y 1))) := by
    refine (dats m 0 c).arrAt_eq_of_covers 4 _ (by decide +kernel) fun t hf y => ?_
    rw [after0_4]
    obtain ⟨p, q, rfl⟩ : ∃ (p : Fin 1024) (q : Fin 1024), y = ix2 p q := ⟨y 0, y 1, eq_ix2 y⟩
    have h := at4 m c t
    generalize (outsAt0 m c t).2.1 = X at h ⊢
    refine (h p q).trans ?_
    generalize spec4 (m ((c : Thread nD τ).loc main_arg0)) (m ((c : Thread nD τ).loc main_arg1)) = G
    blk_simp [idx4]
    refine congrArg G ?_
    blk_ext [idx4]
  refine e.trans (funext fun y => ?_)
  rw [← eq_ix2 y]

open Cert.Reference8Ideal.Read in
/-- The reference's result 1, element by element. -/
theorem ref4 (a0 : FVec Ideal S4096x2048 .bf16) (a1 : FVec Ideal S6144x2048 .bf16) : val_main_v5 (F := Ideal) a0 a1 = spec4 a0 a1 := by
  funext y
  obtain ⟨p, q, rfl⟩ : ∃ (p : Fin 4096) (q : Fin 6144), y = ix2 p q := ⟨y 0, y 1, eq_ix2 y⟩
  pointwise [val_main_v5, val_main_v3, val_main_v2, val_main_v1, val_main_v0]
  rfl

/-- Result 2, element by element. -/
def spec5 (a0 : S4096x2048.Idx → EReal) (a1 : S6144x2048.Idx → EReal) (a2 : S4096x6144.Idx → EReal) (y : S4096x6144.Idx) : EReal :=
  a2 (ix2 (y 0) (y 1)) * (((1 / 2 : ℝ) : EReal) * Ideal.tanh (((1 / 2 : ℝ) : EReal) * a2 (ix2 (y 0) (y 1))) + ((1 / 2 : ℝ) : EReal)) * (∑ k : Fin 2048, a0 (ix2 (y 0) k) * a1 (ix2 (y 1) k))

/-- What a point leaves in output block 5, by the rows and columns of the result. -/
theorem at5 (t : Fin cfg0.N) (p : Fin 1024) (q : Fin 1024) :
    ((outsAt0 m c t).2.2 : S1024x1024.Idx → EReal) (ix2 p q)
      = spec5 (m ((c : Thread nD τ).loc main_arg0)) (m ((c : Thread nD τ).loc main_arg1)) (m ((c : Thread nD τ).loc main_arg2))
          (ix2 ⟨t.val / 6 * 1024 + p.val, by have := N_le t; omega⟩ ⟨t.val % 6 * 1024 + q.val, by have := N_le t; omega⟩) := by
  unfold outsAt0
  dsimp only
  rw [out5]
  refine (pay5 _ _ _ p q).trans ?_
  simp only [iblk0, iblk1, iblk2]
  rfl

/-- Result 2 after the region. -/
theorem arr5 : ((dats m 0 c).arrAt 5 cfg0.N : S4096x6144.Idx → EReal)
    = spec5 (m ((c : Thread nD τ).loc main_arg0)) (m ((c : Thread nD τ).loc main_arg1)) (m ((c : Thread nD τ).loc main_arg2)) := by
  have e : (dats m 0 c).arrAt 5 cfg0.N
      = (fun y : S4096x6144.Idx => spec5 (m ((c : Thread nD τ).loc main_arg0)) (m ((c : Thread nD τ).loc main_arg1)) (m ((c : Thread nD τ).loc main_arg2)) (ix2 (y 0) (y 1))) := by
    refine (dats m 0 c).arrAt_eq_of_covers 5 _ (by decide +kernel) fun t hf y => ?_
    rw [after0_5]
    obtain ⟨p, q, rfl⟩ : ∃ (p : Fin 1024) (q : Fin 1024), y = ix2 p q := ⟨y 0, y 1, eq_ix2 y⟩
    have h := at5 m c t
    generalize (outsAt0 m c t).2.2 = X at h ⊢
    refine (h p q).trans ?_
    generalize spec5 (m ((c : Thread nD τ).loc main_arg0)) (m ((c : Thread nD τ).loc main_arg1)) (m ((c : Thread nD τ).loc main_arg2)) = G
    blk_simp [idx5]
    refine congrArg G ?_
    blk_ext [idx5]
  refine e.trans (funext fun y => ?_)
  rw [← eq_ix2 y]

open Cert.Reference8Ideal.Read in
/-- The reference's result 2, element by element. -/
theorem ref5 (a0 : FVec Ideal S4096x2048 .bf16) (a1 : FVec Ideal S6144x2048 .bf16) (a2 : FVec Ideal S4096x6144 .f32) : val_main_v8 (F := Ideal) a0 a1 a2 = spec5 a0 a1 a2 := by
  funext y
  obtain ⟨p, q, rfl⟩ : ∃ (p : Fin 4096) (q : Fin 6144), y = ix2 p q := ⟨y 0, y 1, eq_ix2 y⟩
  pointwise [val_main_v8, val_main_v7, val_main_v6, val_main_call0_v5, val_main_call0_v4, val_main_call0_cst_0, val_main_call0_v3, val_main_call0_v2, val_main_call0_cst, val_main_call0_v1, val_main_call0_v0, val_main_v3, val_main_v2, val_main_v1, val_main_v0]
  simp only [Silu.logistic]
  rfl

/-- Kernel and reference leave the same results and keep their arguments. -/
theorem algebraic : Cert.algebraic_Kernel8Ideal_Reference8Ideal := by
  intro m g m' g' hpre hargs
  refine ⟨fun c => (dats m 0 c).arrAt 3 cfg0.N, fun c => (dats m 0 c).arrAt 4 cfg0.N, fun c => (dats m 0 c).arrAt 5 cfg0.N, Cert.Kernel8Ideal.Value.run_blocks m g, ?_⟩
  refine (θ_run Cert.Reference8Ideal.defs _ _).mono (fun r h c => ?_) (Cert.Reference8Ideal.Value.run (F := Ideal) m' g')
  obtain ⟨h0, h1, h2, k⟩ := h c
  obtain ⟨e0, e1, e2⟩ := hargs c
  refine ⟨h0.trans ?_, h1.trans ?_, h2.trans ?_, k⟩
  · rw [e2]
    exact (Cert.Reference8Ideal.Read.val_main_v4_eq _).trans ((ref3 _).trans (arr3 m c).symm)
  · rw [e0, e1]
    exact (Cert.Reference8Ideal.Read.val_main_v5_eq _ _).trans ((ref4 _ _).trans (arr4 m c).symm)
  · rw [e0, e1, e2]
    exact (Cert.Reference8Ideal.Read.val_main_v8_eq _ _ _).trans ((ref5 _ _ _).trans (arr5 m c).symm)

end

end Ffn.ActFwd
-- ==== Proof.Down.lean ====
module
public import proofs.«01_k».proof.Proof.Silu
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The down projection

The activation against the down weight, halved and added to the residual. -/

@[expose] public section

set_option maxRecDepth 16384

namespace Ffn.Down

open Cert.Kernel9Ideal Cert.Kernel9Ideal.Gen Idealize.ShloMosaic Idealize.ShloMosaic.TcCoe Idealize.SL.Sem
open Idealize.ShloMosaic.Pipeline (Dat)

noncomputable section

/-- One element of the tile a grid point computes. -/
theorem pay (x0 : Vec Ideal S1024x6144 .bf16) (x1 : Vec Ideal S6144x512 .bf16) (x2 : Vec Ideal S1024x512 .f32) (p : Fin 1024) (q : Fin 512) :
    k0_pay1 x0 x1 x2 (ix2 p q) = x2 (ix2 p q) + (∑ k : Fin 6144, x0 (ix2 p k) * x1 (ix2 k q)) * ((1 / 2 : ℝ) : EReal) := by
  pointwise [k0_pay1]
  simp only [Gate.ofBits_half]

/-- What a grid point leaves in its block of the result. -/
theorem out (c : Dev nD) (i : grid0.Coords) (arg3 : Memref sig .tc .vmem S1024x6144 .bf16) (harg3 : arg3.IsWhole) (arg4 : Memref sig .tc .vmem S6144x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S8x128 .f32) (harg7 : arg7.IsWhole)
    (x0 : Vec Ideal S1024x6144 .bf16) (x1 : Vec Ideal S6144x512 .bf16) (x2 : Vec Ideal S1024x512 .f32) :
    out0_A_3 c i arg3 harg3 arg4 harg4 arg5 harg5 arg6 harg6 arg7 harg7 x0 x1 x2 = k0_pay1 x0 x1 x2 := by
  unfold out0_A_3
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

variable (m : (ℓ : Loc nD τ sig) → Buf (Elt Ideal) ℓ) (c : Dev nD)

theorem N_le (t : Fin cfg0.N) : t.val < 16 := by
  have := t.isLt
  have : cfg0.N = 16 := N_0
  omega

/-- Input block 0 of point `t`, by the rows and columns of the argument. -/
theorem iblk0 (t : Fin cfg0.N) (p : Fin 1024) (q : Fin 6144) :
    (iblk m c 0 t : S1024x6144.Idx → EReal) (ix2 p q)
      = (m ((c : Thread nD τ).loc main_arg0) : S4096x6144.Idx → EReal) (ix2 ⟨t.val / 4 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 6144) (q : Fin 512) :
    (iblk m c 1 t : S6144x512.Idx → EReal) (ix2 p q)
      = (m ((c : Thread nD τ).loc main_arg1) : S6144x2048.Idx → EReal) (ix2 p ⟨t.val % 4 * 512 + q.val, by have := N_le t; omega⟩) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 512) :
    (iblk m c 2 t : S1024x512.Idx → EReal) (ix2 p q)
      = (m ((c : Thread nD τ).loc main_arg2) : S4096x2048.Idx → EReal) (ix2 ⟨t.val / 4 * 1024 + p.val, by have := N_le t; omega⟩ ⟨t.val % 4 * 512 + q.val, by have := N_le t; omega⟩) := by
  blk_simp [iblk, idx2]
  refine congrArg (m ((c : Thread nD τ).loc main_arg2)) ?_
  blk_ext [idx2]

/-- The result, element by element. -/
def spec (a0 : S4096x6144.Idx → EReal) (a1 : S6144x2048.Idx → EReal) (a2 : S4096x2048.Idx → EReal) (y : S4096x2048.Idx) : EReal :=
  a2 (ix2 (y 0) (y 1)) + (∑ k : Fin 6144, a0 (ix2 (y 0) k) * a1 (ix2 k (y 1))) * ((1 / 2 : ℝ) : EReal)

/-- What a point leaves, by its rows and columns of the result. -/
theorem at2 (t : Fin cfg0.N) (p : Fin 1024) (q : Fin 512) :
    (outsAt0 m c t : S1024x512.Idx → EReal) (ix2 p q)
      = spec (m ((c : Thread nD τ).loc main_arg0)) (m ((c : Thread nD τ).loc main_arg1)) (m ((c : Thread nD τ).loc main_arg2))
          (ix2 ⟨t.val / 4 * 1024 + p.val, by have := N_le t; omega⟩ ⟨t.val % 4 * 512 + q.val, by have := N_le t; omega⟩) := by
  unfold outsAt0
  rw [out]
  refine (pay _ _ _ p q).trans ?_
  simp only [iblk0, iblk1, iblk2]
  rfl

/-- The result array after the region. -/
theorem arr : ((dats m 0 c).arrAt 3 cfg0.N : S4096x2048.Idx → EReal)
    = spec (m ((c : Thread nD τ).loc main_arg0)) (m ((c : Thread nD τ).loc main_arg1)) (m ((c : Thread nD τ).loc main_arg2)) := by
  have e : (dats m 0 c).arrAt 3 cfg0.N
      = (fun y : S4096x2048.Idx => spec (m ((c : Thread nD τ).loc main_arg0)) (m ((c : Thread nD τ).loc main_arg1)) (m ((c : Thread nD τ).loc main_arg2)) (ix2 (y 0) (y 1))) := by
    refine (dats m 0 c).arrAt_eq_of_covers 3 _ (by decide +kernel) fun t hf y => ?_
    rw [after0_3]
    obtain ⟨p, q, rfl⟩ : ∃ (p : Fin 1024) (q : Fin 512), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) (m ((c : Thread nD τ).loc main_arg2)) = G
    blk_simp [idx3]
    refine congrArg G ?_
    blk_ext [idx3]
  refine e.trans (funext fun y => ?_)
  rw [← eq_ix2 y]

open Cert.Reference9Ideal.Read in
/-- The reference's result, element by element. -/
theorem ref (a0 : FVec Ideal S4096x6144 .bf16) (a1 : FVec Ideal S6144x2048 .bf16) (a2 : FVec Ideal S4096x2048 .f32) : val_main_v5 (F := Ideal) a0 a1 a2 = spec a0 a1 a2 := by
  funext y
  obtain ⟨p, q, rfl⟩ : ∃ (p : Fin 4096) (q : Fin 2048), y = ix2 p q := ⟨y 0, y 1, eq_ix2 y⟩
  pointwise [val_main_v5, val_main_v4, val_main_v3, val_main_cst, val_main_v2, val_main_v1, val_main_v0]
  simp only [Gate.ofBits_half, spec]
  rw [mul_comm ((1 / 2 : ℝ) : EReal)]
  rfl

/-- Kernel and reference leave the same result and keep their arguments. -/
theorem algebraic : Cert.algebraic_Kernel9Ideal_Reference9Ideal := by
  intro m g m' g' hpre hargs
  refine ⟨fun c => (dats m 0 c).arrAt 3 cfg0.N, Cert.Kernel9Ideal.Value.run_blocks m g, ?_⟩
  refine (θ_run Cert.Reference9Ideal.defs _ _).mono (fun r h c => ?_) (Cert.Reference9Ideal.Value.run (F := Ideal) m' g')
  obtain ⟨h0, k⟩ := h c
  obtain ⟨e0, e1, e2⟩ := hargs c
  refine ⟨h0.trans ?_, k⟩
  rw [e0, e1, e2]
  exact (Cert.Reference9Ideal.Read.val_main_v5_eq _ _ _).trans ((ref _ _ _).trans (arr m c).symm)

end

end Ffn.Down
-- ==== Proof.ActWhole.lean ====
module
public import proofs.«01_k».proof.Proof.Silu
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # Gate, up and activation in one call -/

@[expose] public section

set_option maxRecDepth 16384

namespace Ffn.ActWhole

open Cert.Kernel10Ideal Cert.Kernel10Ideal.Gen Idealize.ShloMosaic Idealize.ShloMosaic.TcCoe Idealize.SL.Sem
open Idealize.ShloMosaic.Pipeline (Dat)

noncomputable section

/-- One element of output block 3. -/
theorem pay3 (x0 : Vec Ideal S1024x2048 .bf16) (x1 : Vec Ideal S1024x2048 .bf16) (p : Fin 1024) (q : Fin 1024) :
    k0_pay3 x0 x1 (ix2 p q) = ∑ k : Fin 2048, x0 (ix2 p k) * x1 (ix2 q k) := by
  pointwise [k0_pay3, k0_pay1]

/-- What a grid point leaves in output block 3. -/
theorem out3 (x0 : Vec Ideal S1024x2048 .bf16) (x1 : Vec Ideal S1024x2048 .bf16) (x2 : Vec Ideal S1024x2048 .bf16) : out0_3 x0 x1 x2 = k0_pay3 x0 x1 := by
  unfold out0_3
  rw [View.canon_cons_unit_lit _ _ _ (by decide), View.ld_unit_lit _ x0 (by decide), View.ld_unit_lit _ x1 (by decide)]

/-- One element of output block 4. -/
theorem pay4 (x0 : Vec Ideal S1024x2048 .bf16) (x2 : Vec Ideal S1024x2048 .bf16) (p : Fin 1024) (q : Fin 1024) :
    k0_pay4 x0 x2 (ix2 p q) = ∑ k : Fin 2048, x0 (ix2 p k) * x2 (ix2 q k) := by
  pointwise [k0_pay4, k0_pay2]

/-- What a grid point leaves in output block 4. -/
theorem out4 (x0 : Vec Ideal S1024x2048 .bf16) (x1 : Vec Ideal S1024x2048 .bf16) (x2 : Vec Ideal S1024x2048 .bf16) : out0_4 x0 x1 x2 = k0_pay4 x0 x2 := by
  unfold out0_4
  rw [View.canon_cons_unit_lit _ _ _ (by decide), View.ld_unit_lit _ x0 (by decide), View.ld_unit_lit _ x2 (by decide)]

/-- One element of output block 5. -/
theorem pay5 (x0 : Vec Ideal S1024x2048 .bf16) (x1 : Vec Ideal S1024x2048 .bf16) (x2 : Vec Ideal S1024x2048 .bf16) (p : Fin 1024) (q : Fin 1024) :
    k0_pay5 x0 x1 x2 (ix2 p q) = (∑ k : Fin 2048, x0 (ix2 p k) * x1 (ix2 q k)) * (((1 / 2 : ℝ) : EReal) * Ideal.tanh (((1 / 2 : ℝ) : EReal) * (∑ k : Fin 2048, x0 (ix2 p k) * x1 (ix2 q k))) + ((1 / 2 : ℝ) : EReal)) * (∑ k : Fin 2048, x0 (ix2 p k) * x2 (ix2 q k)) := by
  pointwise [k0_pay5, k0_pay1, k0_pay2]
  simp only [Gate.ofBits_half]

/-- What a grid point leaves in output block 5. -/
theorem out5 (x0 : Vec Ideal S1024x2048 .bf16) (x1 : Vec Ideal S1024x2048 .bf16) (x2 : Vec Ideal S1024x2048 .bf16) : out0_5 x0 x1 x2 = k0_pay5 x0 x1 x2 := by
  unfold out0_5
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 6, 0] := (by decide +kernel : ∀ t : Fin grid0.N, _)
theorem idx1 : ∀ t : Fin cfg0.N, win0_1.index t = ![t.val % 6, 0] := (by decide +kernel : ∀ t : Fin grid0.N, _)
theorem idx2 : ∀ t : Fin cfg0.N, win0_2.index t = ![t.val % 6, 0] := (by decide +kernel : ∀ t : Fin grid0.N, _)
theorem idx3 : ∀ t : Fin cfg0.N, win0_3.index t = ![t.val / 6, t.val % 6] := (by decide +kernel : ∀ t : Fin grid0.N, _)
theorem idx4 : ∀ t : Fin cfg0.N, win0_4.index t = ![t.val / 6, t.val % 6] := (by decide +kernel : ∀ t : Fin grid0.N, _)
theorem idx5 : ∀ t : Fin cfg0.N, win0_5.index t = ![t.val / 6, t.val % 6] := (by decide +kernel : ∀ t : Fin grid0.N, _)

variable (m : (ℓ : Loc nD τ sig) → Buf (Elt Ideal) ℓ) (c : Dev nD)

theorem N_le (t : Fin cfg0.N) : t.val < 24 := by
  have := t.isLt
  have : cfg0.N = 24 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 6 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 2048) :
    (iblk m c 1 t : S1024x2048.Idx → EReal) (ix2 p q)
      = (m ((c : Thread nD τ).loc main_arg1) : S6144x2048.Idx → EReal) (ix2 ⟨t.val % 6 * 1024 + p.val, by have := N_le t; omega⟩ q) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 2048) :
    (iblk m c 2 t : S1024x2048.Idx → EReal) (ix2 p q)
      = (m ((c : Thread nD τ).loc main_arg2) : S6144x2048.Idx → EReal) (ix2 ⟨t.val % 6 * 1024 + p.val, by have := N_le t; omega⟩ q) := by
  blk_simp [iblk, idx2]
  refine congrArg (m ((c : Thread nD τ).loc main_arg2)) ?_
  blk_ext [idx2]

/-- Result 0, element by element. -/
def spec3 (a0 : S4096x2048.Idx → EReal) (a1 : S6144x2048.Idx → EReal) (y : S4096x6144.Idx) : EReal :=
  ∑ k : Fin 2048, a0 (ix2 (y 0) k) * a1 (ix2 (y 1) k)

/-- What a point leaves in output block 3, by the rows and columns of the result. -/
theorem at3 (t : Fin cfg0.N) (p : Fin 1024) (q : Fin 1024) :
    (out0_3 (iblk m c 0 t) (iblk m c 1 t) (iblk m c 2 t) : S1024x1024.Idx → EReal) (ix2 p q)
      = spec3 (m ((c : Thread nD τ).loc main_arg0)) (m ((c : Thread nD τ).loc main_arg1))
          (ix2 ⟨t.val / 6 * 1024 + p.val, by have := N_le t; omega⟩ ⟨t.val % 6 * 1024 + q.val, by have := N_le t; omega⟩) := by
  rw [out3]
  refine (pay3 _ _ p q).trans ?_
  simp only [iblk0, iblk1]
  rfl

/-- Result 0 after the region. -/
theorem arr3 : ((dats m 0 c).arrAt 3 cfg0.N : S4096x6144.Idx → EReal)
    = spec3 (m ((c : Thread nD τ).loc main_arg0)) (m ((c : Thread nD τ).loc main_arg1)) := by
  have e : (dats m 0 c).arrAt 3 cfg0.N
      = (fun y : S4096x6144.Idx => spec3 (m ((c : Thread nD τ).loc main_arg0)) (m ((c : Thread nD τ).loc main_arg1)) (ix2 (y 0) (y 1))) := by
    refine (dats m 0 c).arrAt_eq_of_covers 3 _ (by decide +kernel) fun t hf y => ?_
    rw [after0_3]
    obtain ⟨p, q, rfl⟩ : ∃ (p : Fin 1024) (q : Fin 1024), y = ix2 p q := ⟨y 0, y 1, eq_ix2 y⟩
    have h := at3 m c t
    generalize out0_3 (iblk m c 0 t) (iblk m c 1 t) (iblk m c 2 t) = X at h ⊢
    refine (h p q).trans ?_
    generalize spec3 (m ((c : Thread nD τ).loc main_arg0)) (m ((c : Thread nD τ).loc main_arg1)) = G
    blk_simp [idx3]
    refine congrArg G ?_
    blk_ext [idx3]
  refine e.trans (funext fun y => ?_)
  rw [← eq_ix2 y]

open Cert.Reference10Ideal.Read in
/-- The reference's result 0, element by element. -/
theorem ref3 (a0 : FVec Ideal S4096x2048 .bf16) (a1 : FVec Ideal S6144x2048 .bf16) : val_main_v8 (F := Ideal) a0 a1 = spec3 a0 a1 := by
  funext y
  obtain ⟨p, q, rfl⟩ : ∃ (p : Fin 4096) (q : Fin 6144), y = ix2 p q := ⟨y 0, y 1, eq_ix2 y⟩
  pointwise [val_main_v8, val_main_v3, val_main_v2, val_main_v1, val_main_v0]
  rfl

/-- Result 1, element by element. -/
def spec4 (a0 : S4096x2048.Idx → EReal) (a2 : S6144x2048.Idx → EReal) (y : S4096x6144.Idx) : EReal :=
  ∑ k : Fin 2048, a0 (ix2 (y 0) k) * a2 (ix2 (y 1) k)

/-- What a point leaves in output block 4, by the rows and columns of the result. -/
theorem at4 (t : Fin cfg0.N) (p : Fin 1024) (q : Fin 1024) :
    (out0_4 (iblk m c 0 t) (iblk m c 1 t) (iblk m c 2 t) : S1024x1024.Idx → EReal) (ix2 p q)
      = spec4 (m ((c : Thread nD τ).loc main_arg0)) (m ((c : Thread nD τ).loc main_arg2))
          (ix2 ⟨t.val / 6 * 1024 + p.val, by have := N_le t; omega⟩ ⟨t.val % 6 * 1024 + q.val, by have := N_le t; omega⟩) := by
  rw [out4]
  refine (pay4 _ _ p q).trans ?_
  simp only [iblk0, iblk2]
  rfl

/-- Result 1 after the region. -/
theorem arr4 : ((dats m 0 c).arrAt 4 cfg0.N : S4096x6144.Idx → EReal)
    = spec4 (m ((c : Thread nD τ).loc main_arg0)) (m ((c : Thread nD τ).loc main_arg2)) := by
  have e : (dats m 0 c).arrAt 4 cfg0.N
      = (fun y : S4096x6144.Idx => spec4 (m ((c : Thread nD τ).loc main_arg0)) (m ((c : Thread nD τ).loc main_arg2)) (ix2 (y 0) (y 1))) := by
    refine (dats m 0 c).arrAt_eq_of_covers 4 _ (by decide +kernel) fun t hf y => ?_
    rw [after0_4]
    obtain ⟨p, q, rfl⟩ : ∃ (p : Fin 1024) (q : Fin 1024), y = ix2 p q := ⟨y 0, y 1, eq_ix2 y⟩
    have h := at4 m c t
    generalize out0_4 (iblk m c 0 t) (iblk m c 1 t) (iblk m c 2 t) = X at h ⊢
    refine (h p q).trans ?_
    generalize spec4 (m ((c : Thread nD τ).loc main_arg0)) (m ((c : Thread nD τ).loc main_arg2)) = G
    blk_simp [idx4]
    refine congrArg G ?_
    blk_ext [idx4]
  refine e.trans (funext fun y => ?_)
  rw [← eq_ix2 y]

open Cert.Reference10Ideal.Read in
/-- The reference's result 1, element by element. -/
theorem ref4 (a0 : FVec Ideal S4096x2048 .bf16) (a2 : FVec Ideal S6144x2048 .bf16) : val_main_v9 (F := Ideal) a0 a2 = spec4 a0 a2 := by
  funext y
  obtain ⟨p, q, rfl⟩ : ∃ (p : Fin 4096) (q : Fin 6144), y = ix2 p q := ⟨y 0, y 1, eq_ix2 y⟩
  pointwise [val_main_v9, val_main_v7, val_main_v6, val_main_v5, val_main_v4]
  rfl

/-- Result 2, element by element. -/
def spec5 (a0 : S4096x2048.Idx → EReal) (a1 : S6144x2048.Idx → EReal) (a2 : S6144x2048.Idx → EReal) (y : S4096x6144.Idx) : EReal :=
  (∑ k : Fin 2048, a0 (ix2 (y 0) k) * a1 (ix2 (y 1) k)) * (((1 / 2 : ℝ) : EReal) * Ideal.tanh (((1 / 2 : ℝ) : EReal) * (∑ k : Fin 2048, a0 (ix2 (y 0) k) * a1 (ix2 (y 1) k))) + ((1 / 2 : ℝ) : EReal)) * (∑ k : Fin 2048, a0 (ix2 (y 0) k) * a2 (ix2 (y 1) k))

/-- What a point leaves in output block 5, by the rows and columns of the result. -/
theorem at5 (t : Fin cfg0.N) (p : Fin 1024) (q : Fin 1024) :
    (out0_5 (iblk m c 0 t) (iblk m c 1 t) (iblk m c 2 t) : S1024x1024.Idx → EReal) (ix2 p q)
      = spec5 (m ((c : Thread nD τ).loc main_arg0)) (m ((c : Thread nD τ).loc main_arg1)) (m ((c : Thread nD τ).loc main_arg2))
          (ix2 ⟨t.val / 6 * 1024 + p.val, by have := N_le t; omega⟩ ⟨t.val % 6 * 1024 + q.val, by have := N_le t; omega⟩) := by
  rw [out5]
  refine (pay5 _ _ _ p q).trans ?_
  simp only [iblk0, iblk1, iblk2]
  rfl

/-- Result 2 after the region. -/
theorem arr5 : ((dats m 0 c).arrAt 5 cfg0.N : S4096x6144.Idx → EReal)
    = spec5 (m ((c : Thread nD τ).loc main_arg0)) (m ((c : Thread nD τ).loc main_arg1)) (m ((c : Thread nD τ).loc main_arg2)) := by
  have e : (dats m 0 c).arrAt 5 cfg0.N
      = (fun y : S4096x6144.Idx => spec5 (m ((c : Thread nD τ).loc main_arg0)) (m ((c : Thread nD τ).loc main_arg1)) (m ((c : Thread nD τ).loc main_arg2)) (ix2 (y 0) (y 1))) := by
    refine (dats m 0 c).arrAt_eq_of_covers 5 _ (by decide +kernel) fun t hf y => ?_
    rw [after0_5]
    obtain ⟨p, q, rfl⟩ : ∃ (p : Fin 1024) (q : Fin 1024), y = ix2 p q := ⟨y 0, y 1, eq_ix2 y⟩
    have h := at5 m c t
    generalize out0_5 (iblk m c 0 t) (iblk m c 1 t) (iblk m c 2 t) = X at h ⊢
    refine (h p q).trans ?_
    generalize spec5 (m ((c : Thread nD τ).loc main_arg0)) (m ((c : Thread nD τ).loc main_arg1)) (m ((c : Thread nD τ).loc main_arg2)) = G
    blk_simp [idx5]
    refine congrArg G ?_
    blk_ext [idx5]
  refine e.trans (funext fun y => ?_)
  rw [← eq_ix2 y]

open Cert.Reference10Ideal.Read in
/-- The reference's result 2, element by element. -/
theorem ref5 (a0 : FVec Ideal S4096x2048 .bf16) (a1 : FVec Ideal S6144x2048 .bf16) (a2 : FVec Ideal S6144x2048 .bf16) : val_main_v12 (F := Ideal) a0 a1 a2 = spec5 a0 a1 a2 := by
  funext y
  obtain ⟨p, q, rfl⟩ : ∃ (p : Fin 4096) (q : Fin 6144), y = ix2 p q := ⟨y 0, y 1, eq_ix2 y⟩
  pointwise [val_main_v12, val_main_v11, val_main_v10, val_main_call0_v5, val_main_call0_v4, val_main_call0_cst_0, val_main_call0_v3, val_main_call0_v2, val_main_call0_cst, val_main_call0_v1, val_main_call0_v0, val_main_v7, val_main_v6, val_main_v5, val_main_v4, val_main_v3, val_main_v2, val_main_v1, val_main_v0]
  simp only [Silu.logistic]
  rfl

/-- Kernel and reference leave the same results and keep their arguments. -/
theorem algebraic : Cert.algebraic_Kernel10Ideal_Reference10Ideal := by
  intro m g m' g' hpre hargs
  refine ⟨fun c => (dats m 0 c).arrAt 3 cfg0.N, fun c => (dats m 0 c).arrAt 4 cfg0.N, fun c => (dats m 0 c).arrAt 5 cfg0.N, Cert.Kernel10Ideal.Value.run_blocks m g, ?_⟩
  refine (θ_run Cert.Reference10Ideal.defs _ _).mono (fun r h c => ?_) (Cert.Reference10Ideal.Value.run (F := Ideal) m' g')
  obtain ⟨h0, h1, h2, k⟩ := h c
  obtain ⟨e0, e1, e2⟩ := hargs c
  refine ⟨h0.trans ?_, h1.trans ?_, h2.trans ?_, k⟩
  · rw [e0, e1]
    exact (Cert.Reference10Ideal.Read.val_main_v8_eq _ _).trans ((ref3 _ _).trans (arr3 m c).symm)
  · rw [e0, e2]
    exact (Cert.Reference10Ideal.Read.val_main_v9_eq _ _).trans ((ref4 _ _).trans (arr4 m c).symm)
  · rw [e0, e1, e2]
    exact (Cert.Reference10Ideal.Read.val_main_v12_eq _ _ _).trans ((ref5 _ _ _).trans (arr5 m c).symm)

end

end Ffn.ActWhole
-- ==== Proof.ProjIn.lean ====
module
public import proofs.«01_k».proof.Proof.Silu
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The input projection of the mixer -/

@[expose] public section

set_option maxRecDepth 16384

namespace Ffn.ProjIn

open Cert.Kernel11Ideal Cert.Kernel11Ideal.Gen Idealize.ShloMosaic Idealize.ShloMosaic.TcCoe Idealize.SL.Sem
open Idealize.ShloMosaic.Pipeline (Dat)

noncomputable section

/-- One element of the tile a grid point computes. -/
theorem pay (x0 : Vec Ideal S1024x2048 .bf16) (x1 : Vec Ideal S2048x1024 .bf16) (p : Fin 1024) (q : Fin 1024) :
    k0_pay1 x0 x1 (ix2 p q) = ∑ k : Fin 2048, x0 (ix2 p k) * x1 (ix2 k q) := by
  pointwise [k0_pay1]

/-- What a grid point leaves in its block of the result. -/
theorem out (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S8x128 .f32) (harg6 : arg6.IsWhole)
    (x0 : Vec Ideal S1024x2048 .bf16) (x1 : Vec Ideal S2048x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

variable (m : (ℓ : Loc nD τ sig) → Buf (Elt Ideal) ℓ) (c : Dev nD)

theorem N_le (t : Fin cfg0.N) : t.val < 12 := by
  have := t.isLt
  have : cfg0.N = 12 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 3 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 2048) (q : Fin 1024) :
    (iblk m c 1 t : S2048x1024.Idx → EReal) (ix2 p q)
      = (m ((c : Thread nD τ).loc main_arg1) : S2048x3072.Idx → EReal) (ix2 p ⟨t.val % 3 * 1024 + q.val, by have := N_le t; omega⟩) := by
  blk_simp [iblk, idx1]
  refine congrArg (m ((c : Thread nD τ).loc main_arg1)) ?_
  blk_ext [idx1]

/-- The result, element by element. -/
def spec (a0 : S4096x2048.Idx → EReal) (a1 : S2048x3072.Idx → EReal) (y : S4096x3072.Idx) : EReal :=
  ∑ k : Fin 2048, a0 (ix2 (y 0) k) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 3 * 1024 + p.val, by have := N_le t; omega⟩ ⟨t.val % 3 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x3072.Idx → EReal)
    = spec (m ((c : Thread nD τ).loc main_arg0)) (m ((c : Thread nD τ).loc main_arg1)) := by
  have e : (dats m 0 c).arrAt 2 cfg0.N
      = (fun y : S4096x3072.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference11Ideal.Read in
/-- The reference's result, element by element. -/
theorem ref (a0 : FVec Ideal S4096x2048 .bf16) (a1 : FVec Ideal S2048x3072 .bf16) : val_main_v2 (F := Ideal) a0 a1 = spec a0 a1 := by
  funext y
  obtain ⟨p, q, rfl⟩ : ∃ (p : Fin 4096) (q : Fin 3072), y = ix2 p q := ⟨y 0, y 1, eq_ix2 y⟩
  pointwise [val_main_v2, val_main_v1, val_main_v0]
  rfl

/-- Kernel and reference leave the same result and keep their arguments. -/
theorem algebraic : Cert.algebraic_Kernel11Ideal_Reference11Ideal := by
  intro m g m' g' hpre hargs
  refine ⟨fun c => (dats m 0 c).arrAt 2 cfg0.N, Cert.Kernel11Ideal.Value.run_blocks m g, ?_⟩
  refine (θ_run Cert.Reference11Ideal.defs _ _).mono (fun r h c => ?_) (Cert.Reference11Ideal.Value.run (F := Ideal) m' g')
  obtain ⟨h0, k⟩ := h c
  obtain ⟨e0, e1⟩ := hargs c
  refine ⟨h0.trans ?_, k⟩
  rw [e0, e1]
  exact (Cert.Reference11Ideal.Read.val_main_v2_eq _ _).trans ((ref _ _).trans (arr m c).symm)

end

end Ffn.ProjIn
-- ==== Proof.GradIn.lean ====
module
public import proofs.«01_k».proof.Proof.Silu
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the input projection's weights -/

@[expose] public section

set_option maxRecDepth 16384

namespace Ffn.GradIn

open Cert.Kernel12Ideal Cert.Kernel12Ideal.Gen Idealize.ShloMosaic Idealize.ShloMosaic.TcCoe Idealize.SL.Sem
open Idealize.ShloMosaic.Pipeline (Dat)

noncomputable section

/-- One element of the tile a grid point computes. -/
theorem pay (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

/-- What a grid point leaves in its block of the result. -/
theorem out (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec Ideal S4096x1024 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

variable (m : (ℓ : Loc nD τ sig) → Buf (Elt Ideal) ℓ) (c : Dev nD)

theorem N_le (t : Fin cfg0.N) : t.val < 6 := by
  have := t.isLt
  have : cfg0.N = 6 := N_0
  omega

/-- Input block 0 of point `t`, by the rows and columns of the argument. -/
theorem iblk0 (t : Fin cfg0.N) (p : Fin 4096) (q : Fin 1024) :
    (iblk m c 0 t : S4096x1024.Idx → EReal) (ix2 p q)
      = (m ((c : Thread nD τ).loc main_arg0) : S4096x2048.Idx → EReal) (ix2 p ⟨t.val / 3 * 1024 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x3072.Idx → EReal) (ix2 p ⟨t.val % 3 * 1024 + q.val, by have := N_le t; omega⟩) := by
  blk_simp [iblk, idx1]
  refine congrArg (m ((c : Thread nD τ).loc main_arg1)) ?_
  blk_ext [idx1]

/-- The result, element by element. -/
def spec (a0 : S4096x2048.Idx → EReal) (a1 : S4096x3072.Idx → EReal) (y : S2048x3072.Idx) : EReal :=
  ∑ k : Fin 4096, a0 (ix2 k (y 0)) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 3 * 1024 + p.val, by have := N_le t; omega⟩ ⟨t.val % 3 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S2048x3072.Idx → EReal)
    = spec (m ((c : Thread nD τ).loc main_arg0)) (m ((c : Thread nD τ).loc main_arg1)) := by
  have e : (dats m 0 c).arrAt 2 cfg0.N
      = (fun y : S2048x3072.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference12Ideal.Read in
/-- The reference's result, element by element. -/
theorem ref (a0 : FVec Ideal S4096x2048 .bf16) (a1 : FVec Ideal S4096x3072 .bf16) : val_main_v6 (F := Ideal) a0 a1 = spec a0 a1 := by
  funext y
  obtain ⟨p, q, rfl⟩ : ∃ (p : Fin 2048) (q : Fin 3072), y = ix2 p q := ⟨y 0, y 1, eq_ix2 y⟩
  pointwise [val_main_v6, val_main_v5, val_main_v4, val_main_v3, val_main_v1]
  refine Finset.sum_congr rfl fun k _ => ?_
  exact mul_comm _ _

/-- Kernel and reference leave the same result and keep their arguments. -/
theorem algebraic : Cert.algebraic_Kernel12Ideal_Reference12Ideal := by
  intro m g m' g' hpre hargs
  refine ⟨fun c => (dats m 0 c).arrAt 2 cfg0.N, Cert.Kernel12Ideal.Value.run_blocks m g, ?_⟩
  refine (θ_run Cert.Reference12Ideal.defs _ _).mono (fun r h c => ?_) (Cert.Reference12Ideal.Value.run (F := Ideal) m' g')
  obtain ⟨h0, k⟩ := h c
  obtain ⟨e0, e1⟩ := hargs c
  refine ⟨h0.trans ?_, k⟩
  rw [e0, e1]
  exact (Cert.Reference12Ideal.Read.val_main_v6_eq _ _).trans ((ref _ _).trans (arr m c).symm)

end

end Ffn.GradIn
-- ==== Proof.ProjInBwd.lean ====
module
public import proofs.«01_k».proof.Proof.Silu
public import proofs.«01_k».proof.Proof.Gen.Kernel13Ideal.Value
public import proofs.«01_k».proof.Proof.Gen.Reference13Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the input projection's argument -/

@[expose] public section

set_option maxRecDepth 16384

namespace Ffn.ProjInBwd

open Cert.Kernel13Ideal Cert.Kernel13Ideal.Gen Idealize.ShloMosaic Idealize.ShloMosaic.TcCoe Idealize.SL.Sem
open Idealize.ShloMosaic.Pipeline (Dat)

noncomputable section

/-- One element of the tile a grid point computes. -/
theorem pay (x0 : Vec Ideal S1024x3072 .bf16) (x1 : Vec Ideal S1024x3072 .bf16) (p : Fin 1024) (q : Fin 1024) :
    k0_pay1 x0 x1 (ix2 p q) = ∑ k : Fin 3072, x0 (ix2 p k) * x1 (ix2 q k) := by
  pointwise [k0_pay1]

/-- What a grid point leaves in its block of the result. -/
theorem out (c : Dev nD) (i : grid0.Coords) (arg3 : Memref sig .tc .vmem S1024x3072 .bf16) (harg3 : arg3.IsWhole) (arg4 : Memref sig .tc .vmem S1024x3072 .bf16) (harg4 : arg4.IsWhole) (arg5 : Memref sig .tc .vmem S1024x1024 .f32) (harg5 : arg5.IsWhole) (arg6 : Memref sig .tc .vmem S8x128 .f32) (harg6 : arg6.IsWhole)
    (x0 : Vec Ideal S1024x3072 .bf16) (x1 : Vec Ideal S1024x3072 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 8 := by
  have := t.isLt
  have : cfg0.N = 8 := N_0
  omega

/-- Input block 0 of point `t`, by the rows and columns of the argument. -/
theorem iblk0 (t : Fin cfg0.N) (p : Fin 1024) (q : Fin 3072) :
    (iblk m c 0 t : S1024x3072.Idx → EReal) (ix2 p q)
      = (m ((c : Thread nD τ).loc main_arg0) : S4096x3072.Idx → EReal) (ix2 ⟨t.val / 2 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 3072) :
    (iblk m c 1 t : S1024x3072.Idx → EReal) (ix2 p q)
      = (m ((c : Thread nD τ).loc main_arg1) : S2048x3072.Idx → EReal) (ix2 ⟨t.val % 2 * 1024 + p.val, by have := N_le t; omega⟩ q) := by
  blk_simp [iblk, idx1]
  refine congrArg (m ((c : Thread nD τ).loc main_arg1)) ?_
  blk_ext [idx1]

/-- The result, element by element. -/
def spec (a0 : S4096x3072.Idx → EReal) (a1 : S2048x3072.Idx → EReal) (y : S4096x2048.Idx) : EReal :=
  ∑ k : Fin 3072, a0 (ix2 (y 0) k) * a1 (ix2 (y 1) k)

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x2048.Idx → EReal)
    = spec (m ((c : Thread nD τ).loc main_arg0)) (m ((c : Thread nD τ).loc main_arg1)) := by
  have e : (dats m 0 c).arrAt 2 cfg0.N
      = (fun y : S4096x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference13Ideal.Read in
/-- The reference's result, element by element. -/
theorem ref (a0 : FVec Ideal S4096x3072 .bf16) (a1 : FVec Ideal S2048x3072 .bf16) : val_main_v4 (F := Ideal) a0 a1 = spec a0 a1 := by
  funext y
  obtain ⟨p, q, rfl⟩ : ∃ (p : Fin 4096) (q : Fin 2048), y = ix2 p q := ⟨y 0, y 1, eq_ix2 y⟩
  pointwise [val_main_v4, val_main_v3, val_main_v1]
  rfl

/-- Kernel and reference leave the same result and keep their arguments. -/
theorem algebraic : Cert.algebraic_Kernel13Ideal_Reference13Ideal := by
  intro m g m' g' hpre hargs
  refine ⟨fun c => (dats m 0 c).arrAt 2 cfg0.N, Cert.Kernel13Ideal.Value.run_blocks m g, ?_⟩
  refine (θ_run Cert.Reference13Ideal.defs _ _).mono (fun r h c => ?_) (Cert.Reference13Ideal.Value.run (F := Ideal) m' g')
  obtain ⟨h0, k⟩ := h c
  obtain ⟨e0, e1⟩ := hargs c
  refine ⟨h0.trans ?_, k⟩
  rw [e0, e1]
  exact (Cert.Reference13Ideal.Read.val_main_v4_eq _ _).trans ((ref _ _).trans (arr m c).symm)

end

end Ffn.ProjInBwd
-- ==== Proof.ProjOut.lean ====
module
public import proofs.«01_k».proof.Proof.Silu
public import proofs.«01_k».proof.Proof.Gen.Kernel14Ideal.Value
public import proofs.«01_k».proof.Proof.Gen.Reference14Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The output projection of the mixer, added to the residual -/

@[expose] public section

set_option maxRecDepth 16384

namespace Ffn.ProjOut

open Cert.Kernel14Ideal Cert.Kernel14Ideal.Gen Idealize.ShloMosaic Idealize.ShloMosaic.TcCoe Idealize.SL.Sem
open Idealize.ShloMosaic.Pipeline (Dat)

noncomputable section

/-- One element of the tile a grid point computes. -/
theorem pay (x0 : Vec Ideal S1024x2048 .bf16) (x1 : Vec Ideal S2048x1024 .bf16) (x2 : Vec Ideal S1024x1024 .f32) (p : Fin 1024) (q : Fin 1024) :
    k0_pay1 x0 x1 x2 (ix2 p q) = x2 (ix2 p q) + ∑ k : Fin 2048, x0 (ix2 p k) * x1 (ix2 k q) := by
  pointwise [k0_pay1]

/-- What a grid point leaves in its block of the result. -/
theorem out (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128 .f32) (harg7 : arg7.IsWhole)
    (x0 : Vec Ideal S1024x2048 .bf16) (x1 : Vec Ideal S2048x1024 .bf16) (x2 : Vec Ideal S1024x1024 .f32) :
    out0_A_3 c i arg3 harg3 arg4 harg4 arg5 harg5 arg6 harg6 arg7 harg7 x0 x1 x2 = k0_pay1 x0 x1 x2 := by
  unfold out0_A_3
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

variable (m : (ℓ : Loc nD τ sig) → Buf (Elt Ideal) ℓ) (c : Dev nD)

theorem N_le (t : Fin cfg0.N) : t.val < 8 := by
  have := t.isLt
  have : cfg0.N = 8 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 2 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 2048) (q : Fin 1024) :
    (iblk m c 1 t : S2048x1024.Idx → EReal) (ix2 p q)
      = (m ((c : Thread nD τ).loc main_arg1) : S2048x2048.Idx → EReal) (ix2 p ⟨t.val % 2 * 1024 + q.val, by have := N_le t; omega⟩) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 1024) :
    (iblk m c 2 t : S1024x1024.Idx → EReal) (ix2 p q)
      = (m ((c : Thread nD τ).loc main_arg2) : S4096x2048.Idx → EReal) (ix2 ⟨t.val / 2 * 1024 + p.val, by have := N_le t; omega⟩ ⟨t.val % 2 * 1024 + q.val, by have := N_le t; omega⟩) := by
  blk_simp [iblk, idx2]
  refine congrArg (m ((c : Thread nD τ).loc main_arg2)) ?_
  blk_ext [idx2]

/-- The result, element by element. -/
def spec (a0 : S4096x2048.Idx → EReal) (a1 : S2048x2048.Idx → EReal) (a2 : S4096x2048.Idx → EReal) (y : S4096x2048.Idx) : EReal :=
  a2 (ix2 (y 0) (y 1)) + ∑ k : Fin 2048, a0 (ix2 (y 0) k) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1)) (m ((c : Thread nD τ).loc main_arg2))
          (ix2 ⟨t.val / 2 * 1024 + p.val, by have := N_le t; omega⟩ ⟨t.val % 2 * 1024 + q.val, by have := N_le t; omega⟩) := by
  unfold outsAt0
  rw [out]
  refine (pay _ _ _ p q).trans ?_
  simp only [iblk0, iblk1, iblk2]
  rfl

/-- The result array after the region. -/
theorem arr : ((dats m 0 c).arrAt 3 cfg0.N : S4096x2048.Idx → EReal)
    = spec (m ((c : Thread nD τ).loc main_arg0)) (m ((c : Thread nD τ).loc main_arg1)) (m ((c : Thread nD τ).loc main_arg2)) := by
  have e : (dats m 0 c).arrAt 3 cfg0.N
      = (fun y : S4096x2048.Idx => spec (m ((c : Thread nD τ).loc main_arg0)) (m ((c : Thread nD τ).loc main_arg1)) (m ((c : Thread nD τ).loc main_arg2)) (ix2 (y 0) (y 1))) := by
    refine (dats m 0 c).arrAt_eq_of_covers 3 _ (by decide +kernel) fun t hf y => ?_
    rw [after0_3]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) (m ((c : Thread nD τ).loc main_arg2)) = G
    blk_simp [idx3]
    refine congrArg G ?_
    blk_ext [idx3]
  refine e.trans (funext fun y => ?_)
  rw [← eq_ix2 y]

open Cert.Reference14Ideal.Read in
/-- The reference's result, element by element. -/
theorem ref (a0 : FVec Ideal S4096x2048 .bf16) (a1 : FVec Ideal S2048x2048 .bf16) (a2 : FVec Ideal S4096x2048 .f32) : val_main_v3 (F := Ideal) a0 a1 a2 = spec a0 a1 a2 := by
  funext y
  obtain ⟨p, q, rfl⟩ : ∃ (p : Fin 4096) (q : Fin 2048), y = ix2 p q := ⟨y 0, y 1, eq_ix2 y⟩
  pointwise [val_main_v3, val_main_v2, val_main_v1, val_main_v0]
  rfl

/-- Kernel and reference leave the same result and keep their arguments. -/
theorem algebraic : Cert.algebraic_Kernel14Ideal_Reference14Ideal := by
  intro m g m' g' hpre hargs
  refine ⟨fun c => (dats m 0 c).arrAt 3 cfg0.N, Cert.Kernel14Ideal.Value.run_blocks m g, ?_⟩
  refine (θ_run Cert.Reference14Ideal.defs _ _).mono (fun r h c => ?_) (Cert.Reference14Ideal.Value.run (F := Ideal) m' g')
  obtain ⟨h0, k⟩ := h c
  obtain ⟨e0, e1, e2⟩ := hargs c
  refine ⟨h0.trans ?_, k⟩
  rw [e0, e1, e2]
  exact (Cert.Reference14Ideal.Read.val_main_v3_eq _ _ _).trans ((ref _ _ _).trans (arr m c).symm)

end

end Ffn.ProjOut
-- ==== Proof.GradOut.lean ====
module
public import proofs.«01_k».proof.Proof.Silu
public import proofs.«01_k».proof.Proof.Gen.Kernel15Ideal.Value
public import proofs.«01_k».proof.Proof.Gen.Reference15Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of a square projection's weights: the mixer's output, and the gate of the per-layer embedding -/

@[expose] public section

set_option maxRecDepth 16384

namespace Ffn.GradOut

open Cert.Kernel15Ideal Cert.Kernel15Ideal.Gen Idealize.ShloMosaic Idealize.ShloMosaic.TcCoe Idealize.SL.Sem
open Idealize.ShloMosaic.Pipeline (Dat)

noncomputable section

/-- One element of the tile a grid point computes. -/
theorem pay (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

/-- What a grid point leaves in its block of the result. -/
theorem out (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec Ideal S4096x1024 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 4 := by
  have := t.isLt
  have : cfg0.N = 4 := N_0
  omega

/-- Input block 0 of point `t`, by the rows and columns of the argument. -/
theorem iblk0 (t : Fin cfg0.N) (p : Fin 4096) (q : Fin 1024) :
    (iblk m c 0 t : S4096x1024.Idx → EReal) (ix2 p q)
      = (m ((c : Thread nD τ).loc main_arg0) : S4096x2048.Idx → EReal) (ix2 p ⟨t.val / 2 * 1024 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x2048.Idx → EReal) (ix2 p ⟨t.val % 2 * 1024 + q.val, by have := N_le t; omega⟩) := by
  blk_simp [iblk, idx1]
  refine congrArg (m ((c : Thread nD τ).loc main_arg1)) ?_
  blk_ext [idx1]

/-- The result, element by element. -/
def spec (a0 : S4096x2048.Idx → EReal) (a1 : S4096x2048.Idx → EReal) (y : S2048x2048.Idx) : EReal :=
  ∑ k : Fin 4096, a0 (ix2 k (y 0)) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S2048x2048.Idx → EReal)
    = spec (m ((c : Thread nD τ).loc main_arg0)) (m ((c : Thread nD τ).loc main_arg1)) := by
  have e : (dats m 0 c).arrAt 2 cfg0.N
      = (fun y : S2048x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference15Ideal.Read in
/-- The reference's result, element by element. -/
theorem ref (a0 : FVec Ideal S4096x2048 .bf16) (a1 : FVec Ideal S4096x2048 .bf16) : val_main_v6 (F := Ideal) a0 a1 = spec a0 a1 := by
  funext y
  obtain ⟨p, q, rfl⟩ : ∃ (p : Fin 2048) (q : Fin 2048), y = ix2 p q := ⟨y 0, y 1, eq_ix2 y⟩
  pointwise [val_main_v6, val_main_v5, val_main_v4, val_main_v3, val_main_v1]
  refine Finset.sum_congr rfl fun k _ => ?_
  exact mul_comm _ _

/-- Kernel and reference leave the same result and keep their arguments. -/
theorem algebraic : Cert.algebraic_Kernel15Ideal_Reference15Ideal := by
  intro m g m' g' hpre hargs
  refine ⟨fun c => (dats m 0 c).arrAt 2 cfg0.N, Cert.Kernel15Ideal.Value.run_blocks m g, ?_⟩
  refine (θ_run Cert.Reference15Ideal.defs _ _).mono (fun r h c => ?_) (Cert.Reference15Ideal.Value.run (F := Ideal) m' g')
  obtain ⟨h0, k⟩ := h c
  obtain ⟨e0, e1⟩ := hargs c
  refine ⟨h0.trans ?_, k⟩
  rw [e0, e1]
  exact (Cert.Reference15Ideal.Read.val_main_v6_eq _ _).trans ((ref _ _).trans (arr m c).symm)

end

end Ffn.GradOut
-- ==== Proof.ProjOutBwd.lean ====
module
public import proofs.«01_k».proof.Proof.Silu
public import proofs.«01_k».proof.Proof.Gen.Kernel16Ideal.Value
public import proofs.«01_k».proof.Proof.Gen.Reference16Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of a square projection's argument: the mixer's output, and the gate of the per-layer embedding -/

@[expose] public section

set_option maxRecDepth 16384

namespace Ffn.ProjOutBwd

open Cert.Kernel16Ideal Cert.Kernel16Ideal.Gen Idealize.ShloMosaic Idealize.ShloMosaic.TcCoe Idealize.SL.Sem
open Idealize.ShloMosaic.Pipeline (Dat)

noncomputable section

/-- One element of the tile a grid point computes. -/
theorem pay (x0 : Vec Ideal S1024x2048 .bf16) (x1 : Vec Ideal S1024x2048 .bf16) (p : Fin 1024) (q : Fin 1024) :
    k0_pay1 x0 x1 (ix2 p q) = ∑ k : Fin 2048, x0 (ix2 p k) * x1 (ix2 q k) := by
  pointwise [k0_pay1]

/-- What a grid point leaves in its block of the result. -/
theorem out (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S8x128 .f32) (harg6 : arg6.IsWhole)
    (x0 : Vec Ideal S1024x2048 .bf16) (x1 : Vec Ideal S1024x2048 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 8 := by
  have := t.isLt
  have : cfg0.N = 8 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 2 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 2048) :
    (iblk m c 1 t : S1024x2048.Idx → EReal) (ix2 p q)
      = (m ((c : Thread nD τ).loc main_arg1) : S2048x2048.Idx → EReal) (ix2 ⟨t.val % 2 * 1024 + p.val, by have := N_le t; omega⟩ q) := by
  blk_simp [iblk, idx1]
  refine congrArg (m ((c : Thread nD τ).loc main_arg1)) ?_
  blk_ext [idx1]

/-- The result, element by element. -/
def spec (a0 : S4096x2048.Idx → EReal) (a1 : S2048x2048.Idx → EReal) (y : S4096x2048.Idx) : EReal :=
  ∑ k : Fin 2048, a0 (ix2 (y 0) k) * a1 (ix2 (y 1) k)

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x2048.Idx → EReal)
    = spec (m ((c : Thread nD τ).loc main_arg0)) (m ((c : Thread nD τ).loc main_arg1)) := by
  have e : (dats m 0 c).arrAt 2 cfg0.N
      = (fun y : S4096x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference16Ideal.Read in
/-- The reference's result, element by element. -/
theorem ref (a0 : FVec Ideal S4096x2048 .bf16) (a1 : FVec Ideal S2048x2048 .bf16) : val_main_v4 (F := Ideal) a0 a1 = spec a0 a1 := by
  funext y
  obtain ⟨p, q, rfl⟩ : ∃ (p : Fin 4096) (q : Fin 2048), y = ix2 p q := ⟨y 0, y 1, eq_ix2 y⟩
  pointwise [val_main_v4, val_main_v3, val_main_v1]
  rfl

/-- Kernel and reference leave the same result and keep their arguments. -/
theorem algebraic : Cert.algebraic_Kernel16Ideal_Reference16Ideal := by
  intro m g m' g' hpre hargs
  refine ⟨fun c => (dats m 0 c).arrAt 2 cfg0.N, Cert.Kernel16Ideal.Value.run_blocks m g, ?_⟩
  refine (θ_run Cert.Reference16Ideal.defs _ _).mono (fun r h c => ?_) (Cert.Reference16Ideal.Value.run (F := Ideal) m' g')
  obtain ⟨h0, k⟩ := h c
  obtain ⟨e0, e1⟩ := hargs c
  refine ⟨h0.trans ?_, k⟩
  rw [e0, e1]
  exact (Cert.Reference16Ideal.Read.val_main_v4_eq _ _).trans ((ref _ _).trans (arr m c).symm)

end

end Ffn.ProjOutBwd
-- ==== Proof.Glu.lean ====
module
public import proofs.«01_k».proof.Proof.Silu
public import proofs.«01_k».proof.Proof.Gen.Kernel17Ideal.Value
public import proofs.«01_k».proof.Proof.Gen.Reference17Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gate projection of the state-space half -/

@[expose] public section

set_option maxRecDepth 16384

namespace Ffn.Glu

open Cert.Kernel17Ideal Cert.Kernel17Ideal.Gen Idealize.ShloMosaic Idealize.ShloMosaic.TcCoe Idealize.SL.Sem
open Idealize.ShloMosaic.Pipeline (Dat)

noncomputable section

/-- One element of the tile a grid point computes. -/
theorem pay (x0 : Vec Ideal S1024x1024 .bf16) (x1 : Vec Ideal S1024x1024 .bf16) (p : Fin 1024) (q : Fin 1024) :
    k0_pay1 x0 x1 (ix2 p q) = ∑ k : Fin 1024, x0 (ix2 p k) * x1 (ix2 k q) := by
  pointwise [k0_pay1]

/-- What a grid point leaves in its block of the result. -/
theorem out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S8x128 .f32) (harg6 : arg6.IsWhole)
    (x0 : Vec Ideal S1024x1024 .bf16) (x1 : Vec Ideal S1024x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![t.val / 1, 0] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

variable (m : (ℓ : Loc nD τ sig) → Buf (Elt Ideal) ℓ) (c : Dev nD)

theorem N_le (t : Fin cfg0.N) : t.val < 4 := by
  have := t.isLt
  have : cfg0.N = 4 := N_0
  omega

/-- Input block 0 of point `t`, by the rows and columns of the argument. -/
theorem iblk0 (t : Fin cfg0.N) (p : Fin 1024) (q : Fin 1024) :
    (iblk m c 0 t : S1024x1024.Idx → EReal) (ix2 p q)
      = (m ((c : Thread nD τ).loc main_arg0) : S4096x1024.Idx → EReal) (ix2 ⟨t.val / 1 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 1024) :
    (iblk m c 1 t : S1024x1024.Idx → EReal) (ix2 p q)
      = (m ((c : Thread nD τ).loc main_arg1) : S1024x1024.Idx → EReal) (ix2 p ⟨t.val % 1 * 1024 + q.val, by have := N_le t; omega⟩) := by
  blk_simp [iblk, idx1]
  refine congrArg (m ((c : Thread nD τ).loc main_arg1)) ?_
  blk_ext [idx1]

/-- The result, element by element. -/
def spec (a0 : S4096x1024.Idx → EReal) (a1 : S1024x1024.Idx → EReal) (y : S4096x1024.Idx) : EReal :=
  ∑ k : Fin 1024, a0 (ix2 (y 0) k) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 1 * 1024 + p.val, by have := N_le t; omega⟩ ⟨t.val % 1 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S4096x1024.Idx → EReal)
    = spec (m ((c : Thread nD τ).loc main_arg0)) (m ((c : Thread nD τ).loc main_arg1)) := by
  have e : (dats m 0 c).arrAt 2 cfg0.N
      = (fun y : S4096x1024.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference17Ideal.Read in
/-- The reference's result, element by element. -/
theorem ref (a0 : FVec Ideal S4096x1024 .bf16) (a1 : FVec Ideal S1024x1024 .bf16) : val_main_v2 (F := Ideal) a0 a1 = spec a0 a1 := by
  funext y
  obtain ⟨p, q, rfl⟩ : ∃ (p : Fin 4096) (q : Fin 1024), y = ix2 p q := ⟨y 0, y 1, eq_ix2 y⟩
  pointwise [val_main_v2, val_main_v1, val_main_v0]
  rfl

/-- Kernel and reference leave the same result and keep their arguments. -/
theorem algebraic : Cert.algebraic_Kernel17Ideal_Reference17Ideal := by
  intro m g m' g' hpre hargs
  refine ⟨fun c => (dats m 0 c).arrAt 2 cfg0.N, Cert.Kernel17Ideal.Value.run_blocks m g, ?_⟩
  refine (θ_run Cert.Reference17Ideal.defs _ _).mono (fun r h c => ?_) (Cert.Reference17Ideal.Value.run (F := Ideal) m' g')
  obtain ⟨h0, k⟩ := h c
  obtain ⟨e0, e1⟩ := hargs c
  refine ⟨h0.trans ?_, k⟩
  rw [e0, e1]
  exact (Cert.Reference17Ideal.Read.val_main_v2_eq _ _).trans ((ref _ _).trans (arr m c).symm)

end

end Ffn.Glu
-- ==== Proof.GradGlu.lean ====
module
public import proofs.«01_k».proof.Proof.Silu
public import proofs.«01_k».proof.Proof.Gen.Kernel18Ideal.Value
public import proofs.«01_k».proof.Proof.Gen.Reference18Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the state-space half's gate weights -/

@[expose] public section

set_option maxRecDepth 16384

namespace Ffn.GradGlu

open Cert.Kernel18Ideal Cert.Kernel18Ideal.Gen Idealize.ShloMosaic Idealize.ShloMosaic.TcCoe Idealize.SL.Sem
open Idealize.ShloMosaic.Pipeline (Dat)

noncomputable section

/-- One element of the tile a grid point computes. -/
theorem pay (x0 : Vec Ideal S4096x1024 .bf16) (x1 : Vec Ideal S4096x1024 .bf16) (p : Fin 1024) (q : Fin 1024) :
    k0_pay1 x0 x1 (ix2 p q) = ∑ k : Fin 4096, x0 (ix2 k p) * x1 (ix2 k q) := by
  pointwise [k0_pay1]

/-- What a grid point leaves in its block of the result. -/
theorem out (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S8x128 .f32) (harg6 : arg6.IsWhole)
    (x0 : Vec Ideal S4096x1024 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 1] := (by decide +kernel : ∀ t : Fin grid0.N, _)
theorem idx1 : ∀ t : Fin cfg0.N, win0_1.index t = ![0, t.val % 1] := (by decide +kernel : ∀ t : Fin grid0.N, _)
theorem idx2 : ∀ t : Fin cfg0.N, win0_2.index t = ![t.val / 1, t.val % 1] := (by decide +kernel : ∀ t : Fin grid0.N, _)

variable (m : (ℓ : Loc nD τ sig) → Buf (Elt Ideal) ℓ) (c : Dev nD)

theorem N_le (t : Fin cfg0.N) : t.val < 1 := by
  have := t.isLt
  have : cfg0.N = 1 := N_0
  omega

/-- Input block 0 of point `t`, by the rows and columns of the argument. -/
theorem iblk0 (t : Fin cfg0.N) (p : Fin 4096) (q : Fin 1024) :
    (iblk m c 0 t : S4096x1024.Idx → EReal) (ix2 p q)
      = (m ((c : Thread nD τ).loc main_arg0) : S4096x1024.Idx → EReal) (ix2 p ⟨t.val / 1 * 1024 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x1024.Idx → EReal) (ix2 p ⟨t.val % 1 * 1024 + q.val, by have := N_le t; omega⟩) := by
  blk_simp [iblk, idx1]
  refine congrArg (m ((c : Thread nD τ).loc main_arg1)) ?_
  blk_ext [idx1]

/-- The result, element by element. -/
def spec (a0 : S4096x1024.Idx → EReal) (a1 : S4096x1024.Idx → EReal) (y : S1024x1024.Idx) : EReal :=
  ∑ k : Fin 4096, a0 (ix2 k (y 0)) * a1 (ix2 k (y 1))

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1))
          (ix2 ⟨t.val / 1 * 1024 + p.val, by have := N_le t; omega⟩ ⟨t.val % 1 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S1024x1024.Idx → EReal)
    = spec (m ((c : Thread nD τ).loc main_arg0)) (m ((c : Thread nD τ).loc main_arg1)) := by
  have e : (dats m 0 c).arrAt 2 cfg0.N
      = (fun y : S1024x1024.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference18Ideal.Read in
/-- The reference's result, element by element. -/
theorem ref (a0 : FVec Ideal S4096x1024 .bf16) (a1 : FVec Ideal S4096x1024 .bf16) : val_main_v6 (F := Ideal) a0 a1 = spec a0 a1 := by
  funext y
  obtain ⟨p, q, rfl⟩ : ∃ (p : Fin 1024) (q : Fin 1024), y = ix2 p q := ⟨y 0, y 1, eq_ix2 y⟩
  pointwise [val_main_v6, val_main_v5, val_main_v4, val_main_v3, val_main_v1]
  refine Finset.sum_congr rfl fun k _ => ?_
  exact mul_comm _ _

/-- Kernel and reference leave the same result and keep their arguments. -/
theorem algebraic : Cert.algebraic_Kernel18Ideal_Reference18Ideal := by
  intro m g m' g' hpre hargs
  refine ⟨fun c => (dats m 0 c).arrAt 2 cfg0.N, Cert.Kernel18Ideal.Value.run_blocks m g, ?_⟩
  refine (θ_run Cert.Reference18Ideal.defs _ _).mono (fun r h c => ?_) (Cert.Reference18Ideal.Value.run (F := Ideal) m' g')
  obtain ⟨h0, k⟩ := h c
  obtain ⟨e0, e1⟩ := hargs c
  refine ⟨h0.trans ?_, k⟩
  rw [e0, e1]
  exact (Cert.Reference18Ideal.Read.val_main_v6_eq _ _).trans ((ref _ _).trans (arr m c).symm)

end

end Ffn.GradGlu
-- ==== Proof.GluBwd.lean ====
module
public import proofs.«01_k».proof.Proof.Silu
public import proofs.«01_k».proof.Proof.Gen.Kernel19Ideal.Value
public import proofs.«01_k».proof.Proof.Gen.Reference19Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the state-space half's gate argument, added to the direct one -/

@[expose] public section

set_option maxRecDepth 16384

namespace Ffn.GluBwd

open Cert.Kernel19Ideal Cert.Kernel19Ideal.Gen Idealize.ShloMosaic Idealize.ShloMosaic.TcCoe Idealize.SL.Sem
open Idealize.ShloMosaic.Pipeline (Dat)

noncomputable section

/-- One element of the tile a grid point computes. -/
theorem pay (x0 : Vec Ideal S1024x1024 .bf16) (x1 : Vec Ideal S1024x1024 .bf16) (x2 : Vec Ideal S1024x1024 .f32) (p : Fin 1024) (q : Fin 1024) :
    k0_pay1 x0 x1 x2 (ix2 p q) = x2 (ix2 p q) + ∑ k : Fin 1024, x0 (ix2 p k) * x1 (ix2 q k) := by
  pointwise [k0_pay1]

/-- What a grid point leaves in its block of the result. -/
theorem out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128 .f32) (harg7 : arg7.IsWhole)
    (x0 : Vec Ideal S1024x1024 .bf16) (x1 : Vec Ideal S1024x1024 .bf16) (x2 : Vec Ideal S1024x1024 .f32) :
    out0_A_3 c i arg3 harg3 arg4 harg4 arg5 harg5 arg6 harg6 arg7 harg7 x0 x1 x2 = k0_pay1 x0 x1 x2 := by
  unfold out0_A_3
  rw [View.read_writes_junk_eq_canon]
  unfold kernelRun0_A
  dsimp only
  sl_unfold_words
  simp (disch := decide) only [View.readAt_eq_ld, harg3.read_unread, harg4.read_unread, harg5.read_unread]
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 1, 0] := (by decide +kernel : ∀ t : Fin grid0.N, _)
theorem idx1 : ∀ t : Fin cfg0.N, win0_1.index t = ![t.val % 1, 0] := (by decide +kernel : ∀ t : Fin grid0.N, _)
theorem idx2 : ∀ t : Fin cfg0.N, win0_2.index t = ![t.val / 1, t.val % 1] := (by decide +kernel : ∀ t : Fin grid0.N, _)
theorem idx3 : ∀ t : Fin cfg0.N, win0_3.index t = ![t.val / 1, t.val % 1] := (by decide +kernel : ∀ t : Fin grid0.N, _)

variable (m : (ℓ : Loc nD τ sig) → Buf (Elt Ideal) ℓ) (c : Dev nD)

theorem N_le (t : Fin cfg0.N) : t.val < 4 := by
  have := t.isLt
  have : cfg0.N = 4 := N_0
  omega

/-- Input block 0 of point `t`, by the rows and columns of the argument. -/
theorem iblk0 (t : Fin cfg0.N) (p : Fin 1024) (q : Fin 1024) :
    (iblk m c 0 t : S1024x1024.Idx → EReal) (ix2 p q)
      = (m ((c : Thread nD τ).loc main_arg0) : S4096x1024.Idx → EReal) (ix2 ⟨t.val / 1 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 1024) (q : Fin 1024) :
    (iblk m c 1 t : S1024x1024.Idx → EReal) (ix2 p q)
      = (m ((c : Thread nD τ).loc main_arg1) : S1024x1024.Idx → EReal) (ix2 ⟨t.val % 1 * 1024 + p.val, by have := N_le t; omega⟩ q) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 1024) :
    (iblk m c 2 t : S1024x1024.Idx → EReal) (ix2 p q)
      = (m ((c : Thread nD τ).loc main_arg2) : S4096x1024.Idx → EReal) (ix2 ⟨t.val / 1 * 1024 + p.val, by have := N_le t; omega⟩ ⟨t.val % 1 * 1024 + q.val, by have := N_le t; omega⟩) := by
  blk_simp [iblk, idx2]
  refine congrArg (m ((c : Thread nD τ).loc main_arg2)) ?_
  blk_ext [idx2]

/-- The result, element by element. -/
def spec (a0 : S4096x1024.Idx → EReal) (a1 : S1024x1024.Idx → EReal) (a2 : S4096x1024.Idx → EReal) (y : S4096x1024.Idx) : EReal :=
  a2 (ix2 (y 0) (y 1)) + ∑ k : Fin 1024, a0 (ix2 (y 0) k) * a1 (ix2 (y 1) k)

/-- What a point leaves, by its rows and columns of the result. -/
theorem at2 (t : Fin cfg0.N) (p : Fin 1024) (q : Fin 1024) :
    (outsAt0 m c t : S1024x1024.Idx → EReal) (ix2 p q)
      = spec (m ((c : Thread nD τ).loc main_arg0)) (m ((c : Thread nD τ).loc main_arg1)) (m ((c : Thread nD τ).loc main_arg2))
          (ix2 ⟨t.val / 1 * 1024 + p.val, by have := N_le t; omega⟩ ⟨t.val % 1 * 1024 + q.val, by have := N_le t; omega⟩) := by
  unfold outsAt0
  rw [out]
  refine (pay _ _ _ p q).trans ?_
  simp only [iblk0, iblk1, iblk2]
  rfl

/-- The result array after the region. -/
theorem arr : ((dats m 0 c).arrAt 3 cfg0.N : S4096x1024.Idx → EReal)
    = spec (m ((c : Thread nD τ).loc main_arg0)) (m ((c : Thread nD τ).loc main_arg1)) (m ((c : Thread nD τ).loc main_arg2)) := by
  have e : (dats m 0 c).arrAt 3 cfg0.N
      = (fun y : S4096x1024.Idx => spec (m ((c : Thread nD τ).loc main_arg0)) (m ((c : Thread nD τ).loc main_arg1)) (m ((c : Thread nD τ).loc main_arg2)) (ix2 (y 0) (y 1))) := by
    refine (dats m 0 c).arrAt_eq_of_covers 3 _ (by decide +kernel) fun t hf y => ?_
    rw [after0_3]
    obtain ⟨p, q, rfl⟩ : ∃ (p : Fin 1024) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) (m ((c : Thread nD τ).loc main_arg2)) = G
    blk_simp [idx3]
    refine congrArg G ?_
    blk_ext [idx3]
  refine e.trans (funext fun y => ?_)
  rw [← eq_ix2 y]

open Cert.Reference19Ideal.Read in
/-- The reference's result, element by element. -/
theorem ref (a0 : FVec Ideal S4096x1024 .bf16) (a1 : FVec Ideal S1024x1024 .bf16) (a2 : FVec Ideal S4096x1024 .f32) : val_main_v5 (F := Ideal) a0 a1 a2 = spec a0 a1 a2 := by
  funext y
  obtain ⟨p, q, rfl⟩ : ∃ (p : Fin 4096) (q : Fin 1024), y = ix2 p q := ⟨y 0, y 1, eq_ix2 y⟩
  pointwise [val_main_v5, val_main_v4, val_main_v3, val_main_v1]
  rfl

/-- Kernel and reference leave the same result and keep their arguments. -/
theorem algebraic : Cert.algebraic_Kernel19Ideal_Reference19Ideal := by
  intro m g m' g' hpre hargs
  refine ⟨fun c => (dats m 0 c).arrAt 3 cfg0.N, Cert.Kernel19Ideal.Value.run_blocks m g, ?_⟩
  refine (θ_run Cert.Reference19Ideal.defs _ _).mono (fun r h c => ?_) (Cert.Reference19Ideal.Value.run (F := Ideal) m' g')
  obtain ⟨h0, k⟩ := h c
  obtain ⟨e0, e1, e2⟩ := hargs c
  refine ⟨h0.trans ?_, k⟩
  rw [e0, e1, e2]
  exact (Cert.Reference19Ideal.Read.val_main_v5_eq _ _ _).trans ((ref _ _ _).trans (arr m c).symm)

end

end Ffn.GluBwd
-- ==== Proof.Ple.lean ====
module
public import proofs.«01_k».proof.Proof.Silu
public import proofs.«01_k».proof.Proof.Gen.Kernel20Ideal.Value
public import proofs.«01_k».proof.Proof.Gen.Reference20Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The per-layer embedding

Its gate and its projection, and the residual with the gated projection added. -/

@[expose] public section

set_option maxRecDepth 16384

namespace Ffn.Ple

open Cert.Kernel20Ideal Cert.Kernel20Ideal.Gen Idealize.ShloMosaic Idealize.ShloMosaic.TcCoe Idealize.SL.Sem
open Idealize.ShloMosaic.Pipeline (Dat)

noncomputable section

/-- One element of output block 5. -/
theorem pay5 (x0 : Vec Ideal S1024x2048 .bf16) (x1 : Vec Ideal S2048x1024 .bf16) (p : Fin 1024) (q : Fin 1024) :
    k0_pay1 x0 x1 (ix2 p q) = ∑ k : Fin 2048, x0 (ix2 p k) * x1 (ix2 k q) := by
  pointwise [k0_pay1]

/-- What a grid point leaves in output block 5. -/
theorem out5 (x0 : Vec Ideal S1024x2048 .bf16) (x1 : Vec Ideal S2048x1024 .bf16) (x2 : Vec Ideal S1024x256 .bf16) (x3 : Vec Ideal S256x1024 .bf16) (x4 : Vec Ideal S1024x1024 .f32) : out0_5 x0 x1 x2 x3 x4 = k0_pay1 x0 x1 := by
  unfold out0_5
  rw [View.canon_cons_unit_lit _ _ _ (by decide), View.ld_unit_lit _ x0 (by decide), View.ld_unit_lit _ x1 (by decide)]

/-- One element of output block 6. -/
theorem pay6 (x2 : Vec Ideal S1024x256 .bf16) (x3 : Vec Ideal S256x1024 .bf16) (p : Fin 1024) (q : Fin 1024) :
    k0_pay2 x2 x3 (ix2 p q) = ∑ k : Fin 256, x2 (ix2 p k) * x3 (ix2 k q) := by
  pointwise [k0_pay2]

/-- What a grid point leaves in output block 6. -/
theorem out6 (x0 : Vec Ideal S1024x2048 .bf16) (x1 : Vec Ideal S2048x1024 .bf16) (x2 : Vec Ideal S1024x256 .bf16) (x3 : Vec Ideal S256x1024 .bf16) (x4 : Vec Ideal S1024x1024 .f32) : out0_6 x0 x1 x2 x3 x4 = k0_pay2 x2 x3 := by
  unfold out0_6
  rw [View.canon_cons_unit_lit _ _ _ (by decide), View.ld_unit_lit _ x2 (by decide), View.ld_unit_lit _ x3 (by decide)]

/-- One element of output block 7. -/
theorem pay7 (x0 : Vec Ideal S1024x2048 .bf16) (x1 : Vec Ideal S2048x1024 .bf16) (x2 : Vec Ideal S1024x256 .bf16) (x3 : Vec Ideal S256x1024 .bf16) (x4 : Vec Ideal S1024x1024 .f32) (p : Fin 1024) (q : Fin 1024) :
    k0_pay3 x0 x1 x2 x3 x4 (ix2 p q) = x4 (ix2 p q) + (((1 / 2 : ℝ) : EReal) * Ideal.tanh (((1 / 2 : ℝ) : EReal) * (∑ k : Fin 2048, x0 (ix2 p k) * x1 (ix2 k q))) + ((1 / 2 : ℝ) : EReal)) * (∑ k : Fin 256, x2 (ix2 p k) * x3 (ix2 k q)) := by
  pointwise [k0_pay3, k0_pay1, k0_pay2]
  simp only [Gate.ofBits_half]

/-- What a grid point leaves in output block 7. -/
theorem out7 (x0 : Vec Ideal S1024x2048 .bf16) (x1 : Vec Ideal S2048x1024 .bf16) (x2 : Vec Ideal S1024x256 .bf16) (x3 : Vec Ideal S256x1024 .bf16) (x4 : Vec Ideal S1024x1024 .f32) : out0_7 x0 x1 x2 x3 x4 = k0_pay3 x0 x1 x2 x3 x4 := by
  unfold out0_7
  rw [View.canon_cons_unit_lit _ _ _ (by decide), View.ld_unit_lit _ x0 (by decide), View.ld_unit_lit _ x1 (by decide), View.ld_unit_lit _ x2 (by decide), View.ld_unit_lit _ x3 (by decide), View.ld_unit_lit _ x4 (by decide)]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)
theorem idx6 : ∀ t : Fin cfg0.N, win0_6.index t = ![t.val / 2, t.val % 2] := (by decide +kernel : ∀ t : Fin grid0.N, _)
theorem idx7 : ∀ t : Fin cfg0.N, win0_7.index t = ![t.val / 2, t.val % 2] := (by decide +kernel : ∀ t : Fin grid0.N, _)

variable (m : (ℓ : Loc nD τ sig) → Buf (Elt Ideal) ℓ) (c : Dev nD)

theorem N_le (t : Fin cfg0.N) : t.val < 8 := by
  have := t.isLt
  have : cfg0.N = 8 := N_0
  omega

/-- Input block 0 of point `t`, by the rows and columns of the argument. -/
theorem iblk0 (t : Fin cfg0.N) (p : Fin 1024) (q : Fin 2048) :
    (iblk m c 0 t : S1024x2048.Idx → EReal) (ix2 p q)
      = (m ((c : Thread nD τ).loc main_arg0) : S4096x2048.Idx → EReal) (ix2 ⟨t.val / 2 * 1024 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 2048) (q : Fin 1024) :
    (iblk m c 1 t : S2048x1024.Idx → EReal) (ix2 p q)
      = (m ((c : Thread nD τ).loc main_arg1) : S2048x2048.Idx → EReal) (ix2 p ⟨t.val % 2 * 1024 + q.val, by have := N_le t; omega⟩) := by
  blk_simp [iblk, idx1]
  refine congrArg (m ((c : Thread nD τ).loc main_arg1)) ?_
  blk_ext [idx1]

/-- Input block 2 of point `t`, by the rows and columns of the argument. -/
theorem iblk2 (t : Fin cfg0.N) (p : Fin 1024) (q : Fin 256) :
    (iblk m c 2 t : S1024x256.Idx → EReal) (ix2 p q)
      = (m ((c : Thread nD τ).loc main_arg2) : S4096x256.Idx → EReal) (ix2 ⟨t.val / 2 * 1024 + p.val, by have := N_le t; omega⟩ q) := by
  blk_simp [iblk, idx2]
  refine congrArg (m ((c : Thread nD τ).loc main_arg2)) ?_
  blk_ext [idx2]

/-- Input block 3 of point `t`, by the rows and columns of the argument. -/
theorem iblk3 (t : Fin cfg0.N) (p : Fin 256) (q : Fin 1024) :
    (iblk m c 3 t : S256x1024.Idx → EReal) (ix2 p q)
      = (m ((c : Thread nD τ).loc main_arg3) : S256x2048.Idx → EReal) (ix2 p ⟨t.val % 2 * 1024 + q.val, by have := N_le t; omega⟩) := by
  blk_simp [iblk, idx3]
  refine congrArg (m ((c : Thread nD τ).loc main_arg3)) ?_
  blk_ext [idx3]

/-- Input block 4 of point `t`, by the rows and columns of the argument. -/
theorem iblk4 (t : Fin cfg0.N) (p : Fin 1024) (q : Fin 1024) :
    (iblk m c 4 t : S1024x1024.Idx → EReal) (ix2 p q)
      = (m ((c : Thread nD τ).loc main_arg4) : S4096x2048.Idx → EReal) (ix2 ⟨t.val / 2 * 1024 + p.val, by have := N_le t; omega⟩ ⟨t.val % 2 * 1024 + q.val, by have := N_le t; omega⟩) := by
  blk_simp [iblk, idx4]
  refine congrArg (m ((c : Thread nD τ).loc main_arg4)) ?_
  blk_ext [idx4]

/-- Result 0, element by element. -/
def spec5 (a0 : S4096x2048.Idx → EReal) (a1 : S2048x2048.Idx → EReal) (y : S4096x2048.Idx) : EReal :=
  ∑ k : Fin 2048, a0 (ix2 (y 0) k) * a1 (ix2 k (y 1))

/-- What a point leaves in output block 5, by the rows and columns of the result. -/
theorem at5 (t : Fin cfg0.N) (p : Fin 1024) (q : Fin 1024) :
    (out0_5 (iblk m c 0 t) (iblk m c 1 t) (iblk m c 2 t) (iblk m c 3 t) (iblk m c 4 t) : S1024x1024.Idx → EReal) (ix2 p q)
      = spec5 (m ((c : Thread nD τ).loc main_arg0)) (m ((c : Thread nD τ).loc main_arg1))
          (ix2 ⟨t.val / 2 * 1024 + p.val, by have := N_le t; omega⟩ ⟨t.val % 2 * 1024 + q.val, by have := N_le t; omega⟩) := by
  rw [out5]
  refine (pay5 _ _ p q).trans ?_
  simp only [iblk0, iblk1]
  rfl

/-- Result 0 after the region. -/
theorem arr5 : ((dats m 0 c).arrAt 5 cfg0.N : S4096x2048.Idx → EReal)
    = spec5 (m ((c : Thread nD τ).loc main_arg0)) (m ((c : Thread nD τ).loc main_arg1)) := by
  have e : (dats m 0 c).arrAt 5 cfg0.N
      = (fun y : S4096x2048.Idx => spec5 (m ((c : Thread nD τ).loc main_arg0)) (m ((c : Thread nD τ).loc main_arg1)) (ix2 (y 0) (y 1))) := by
    refine (dats m 0 c).arrAt_eq_of_covers 5 _ (by decide +kernel) fun t hf y => ?_
    rw [after0_5]
    obtain ⟨p, q, rfl⟩ : ∃ (p : Fin 1024) (q : Fin 1024), y = ix2 p q := ⟨y 0, y 1, eq_ix2 y⟩
    have h := at5 m c t
    generalize out0_5 (iblk m c 0 t) (iblk m c 1 t) (iblk m c 2 t) (iblk m c 3 t) (iblk m c 4 t) = X at h ⊢
    refine (h p q).trans ?_
    generalize spec5 (m ((c : Thread nD τ).loc main_arg0)) (m ((c : Thread nD τ).loc main_arg1)) = G
    blk_simp [idx5]
    refine congrArg G ?_
    blk_ext [idx5]
  refine e.trans (funext fun y => ?_)
  rw [← eq_ix2 y]

open Cert.Reference20Ideal.Read in
/-- The reference's result 0, element by element. -/
theorem ref5 (a0 : FVec Ideal S4096x2048 .bf16) (a1 : FVec Ideal S2048x2048 .bf16) : val_main_v2 (F := Ideal) a0 a1 = spec5 a0 a1 := by
  funext y
  obtain ⟨p, q, rfl⟩ : ∃ (p : Fin 4096) (q : Fin 2048), y = ix2 p q := ⟨y 0, y 1, eq_ix2 y⟩
  pointwise [val_main_v2, val_main_v1, val_main_v0]
  rfl

/-- Result 1, element by element. -/
def spec6 (a2 : S4096x256.Idx → EReal) (a3 : S256x2048.Idx → EReal) (y : S4096x2048.Idx) : EReal :=
  ∑ k : Fin 256, a2 (ix2 (y 0) k) * a3 (ix2 k (y 1))

/-- What a point leaves in output block 6, by the rows and columns of the result. -/
theorem at6 (t : Fin cfg0.N) (p : Fin 1024) (q : Fin 1024) :
    (out0_6 (iblk m c 0 t) (iblk m c 1 t) (iblk m c 2 t) (iblk m c 3 t) (iblk m c 4 t) : S1024x1024.Idx → EReal) (ix2 p q)
      = spec6 (m ((c : Thread nD τ).loc main_arg2)) (m ((c : Thread nD τ).loc main_arg3))
          (ix2 ⟨t.val / 2 * 1024 + p.val, by have := N_le t; omega⟩ ⟨t.val % 2 * 1024 + q.val, by have := N_le t; omega⟩) := by
  rw [out6]
  refine (pay6 _ _ p q).trans ?_
  simp only [iblk2, iblk3]
  rfl

/-- Result 1 after the region. -/
theorem arr6 : ((dats m 0 c).arrAt 6 cfg0.N : S4096x2048.Idx → EReal)
    = spec6 (m ((c : Thread nD τ).loc main_arg2)) (m ((c : Thread nD τ).loc main_arg3)) := by
  have e : (dats m 0 c).arrAt 6 cfg0.N
      = (fun y : S4096x2048.Idx => spec6 (m ((c : Thread nD τ).loc main_arg2)) (m ((c : Thread nD τ).loc main_arg3)) (ix2 (y 0) (y 1))) := by
    refine (dats m 0 c).arrAt_eq_of_covers 6 _ (by decide +kernel) fun t hf y => ?_
    rw [after0_6]
    obtain ⟨p, q, rfl⟩ : ∃ (p : Fin 1024) (q : Fin 1024), y = ix2 p q := ⟨y 0, y 1, eq_ix2 y⟩
    have h := at6 m c t
    generalize out0_6 (iblk m c 0 t) (iblk m c 1 t) (iblk m c 2 t) (iblk m c 3 t) (iblk m c 4 t) = X at h ⊢
    refine (h p q).trans ?_
    generalize spec6 (m ((c : Thread nD τ).loc main_arg2)) (m ((c : Thread nD τ).loc main_arg3)) = G
    blk_simp [idx6]
    refine congrArg G ?_
    blk_ext [idx6]
  refine e.trans (funext fun y => ?_)
  rw [← eq_ix2 y]

open Cert.Reference20Ideal.Read in
/-- The reference's result 1, element by element. -/
theorem ref6 (a2 : FVec Ideal S4096x256 .bf16) (a3 : FVec Ideal S256x2048 .bf16) : val_main_v5 (F := Ideal) a2 a3 = spec6 a2 a3 := by
  funext y
  obtain ⟨p, q, rfl⟩ : ∃ (p : Fin 4096) (q : Fin 2048), y = ix2 p q := ⟨y 0, y 1, eq_ix2 y⟩
  pointwise [val_main_v5, val_main_v4, val_main_v3]
  rfl

/-- Result 2, element by element. -/
def spec7 (a0 : S4096x2048.Idx → EReal) (a1 : S2048x2048.Idx → EReal) (a2 : S4096x256.Idx → EReal) (a3 : S256x2048.Idx → EReal) (a4 : S4096x2048.Idx → EReal) (y : S4096x2048.Idx) : EReal :=
  a4 (ix2 (y 0) (y 1)) + (((1 / 2 : ℝ) : EReal) * Ideal.tanh (((1 / 2 : ℝ) : EReal) * (∑ k : Fin 2048, a0 (ix2 (y 0) k) * a1 (ix2 k (y 1)))) + ((1 / 2 : ℝ) : EReal)) * (∑ k : Fin 256, a2 (ix2 (y 0) k) * a3 (ix2 k (y 1)))

/-- What a point leaves in output block 7, by the rows and columns of the result. -/
theorem at7 (t : Fin cfg0.N) (p : Fin 1024) (q : Fin 1024) :
    (out0_7 (iblk m c 0 t) (iblk m c 1 t) (iblk m c 2 t) (iblk m c 3 t) (iblk m c 4 t) : S1024x1024.Idx → EReal) (ix2 p q)
      = spec7 (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨t.val / 2 * 1024 + p.val, by have := N_le t; omega⟩ ⟨t.val % 2 * 1024 + q.val, by have := N_le t; omega⟩) := by
  rw [out7]
  refine (pay7 _ _ _ _ _ p q).trans ?_
  simp only [iblk0, iblk1, iblk2, iblk3, iblk4]
  rfl

/-- Result 2 after the region. -/
theorem arr7 : ((dats m 0 c).arrAt 7 cfg0.N : S4096x2048.Idx → EReal)
    = spec7 (m ((c : Thread nD τ).loc main_arg0)) (m ((c : Thread nD τ).loc main_arg1)) (m ((c : Thread nD τ).loc main_arg2)) (m ((c : Thread nD τ).loc main_arg3)) (m ((c : Thread nD τ).loc main_arg4)) := by
  have e : (dats m 0 c).arrAt 7 cfg0.N
      = (fun y : S4096x2048.Idx => spec7 (m ((c : Thread nD τ).loc main_arg0)) (m ((c : Thread nD τ).loc main_arg1)) (m ((c : Thread nD τ).loc main_arg2)) (m ((c : Thread nD τ).loc main_arg3)) (m ((c : Thread nD τ).loc main_arg4)) (ix2 (y 0) (y 1))) := by
    refine (dats m 0 c).arrAt_eq_of_covers 7 _ (by decide +kernel) fun t hf y => ?_
    rw [after0_7]
    obtain ⟨p, q, rfl⟩ : ∃ (p : Fin 1024) (q : Fin 1024), y = ix2 p q := ⟨y 0, y 1, eq_ix2 y⟩
    have h := at7 m c t
    generalize out0_7 (iblk m c 0 t) (iblk m c 1 t) (iblk m c 2 t) (iblk m c 3 t) (iblk m c 4 t) = X at h ⊢
    refine (h p q).trans ?_
    generalize spec7 (m ((c : Thread nD τ).loc main_arg0)) (m ((c : Thread nD τ).loc main_arg1)) (m ((c : Thread nD τ).loc main_arg2)) (m ((c : Thread nD τ).loc main_arg3)) (m ((c : Thread nD τ).loc main_arg4)) = G
    blk_simp [idx7]
    refine congrArg G ?_
    blk_ext [idx7]
  refine e.trans (funext fun y => ?_)
  rw [← eq_ix2 y]

open Cert.Reference20Ideal.Read in
/-- The reference's result 2, element by element. -/
theorem ref7 (a0 : FVec Ideal S4096x2048 .bf16) (a1 : FVec Ideal S2048x2048 .bf16) (a2 : FVec Ideal S4096x256 .bf16) (a3 : FVec Ideal S256x2048 .bf16) (a4 : FVec Ideal S4096x2048 .f32) : val_main_v13 (F := Ideal) a0 a1 a2 a3 a4 = spec7 a0 a1 a2 a3 a4 := by
  funext y
  obtain ⟨p, q, rfl⟩ : ∃ (p : Fin 4096) (q : Fin 2048), y = ix2 p q := ⟨y 0, y 1, eq_ix2 y⟩
  pointwise [val_main_v13, val_main_v12, val_main_cst_0, val_main_v11, val_main_v10, val_main_v9, val_main_v8, val_main_cst, val_main_v7, val_main_v6, val_main_v5, val_main_v4, val_main_v3, val_main_v2, val_main_v1, val_main_v0]
  simp only [Silu.logistic]
  rfl

/-- Kernel and reference leave the same results and keep their arguments. -/
theorem algebraic : Cert.algebraic_Kernel20Ideal_Reference20Ideal := by
  intro m g m' g' hpre hargs
  refine ⟨fun c => (dats m 0 c).arrAt 5 cfg0.N, fun c => (dats m 0 c).arrAt 6 cfg0.N, fun c => (dats m 0 c).arrAt 7 cfg0.N, Cert.Kernel20Ideal.Value.run_blocks m g, ?_⟩
  refine (θ_run Cert.Reference20Ideal.defs _ _).mono (fun r h c => ?_) (Cert.Reference20Ideal.Value.run (F := Ideal) m' g')
  obtain ⟨h0, h1, h2, k⟩ := h c
  obtain ⟨e0, e1, e2, e3, e4⟩ := hargs c
  refine ⟨h0.trans ?_, h1.trans ?_, h2.trans ?_, k⟩
  · rw [e0, e1]
    exact (Cert.Reference20Ideal.Read.val_main_v2_eq _ _).trans ((ref5 _ _).trans (arr5 m c).symm)
  · rw [e2, e3]
    exact (Cert.Reference20Ideal.Read.val_main_v5_eq _ _).trans ((ref6 _ _).trans (arr6 m c).symm)
  · rw [e0, e1, e2, e3, e4]
    exact (Cert.Reference20Ideal.Read.val_main_v13_eq _ _ _ _ _).trans ((ref7 _ _ _ _ _).trans (arr7 m c).symm)

end

end Ffn.Ple
-- ==== Proof.GradPle.lean ====
module
public import proofs.«01_k».proof.Proof.Silu
public import proofs.«01_k».proof.Proof.Gen.Kernel21Ideal.Value
public import proofs.«01_k».proof.Proof.Gen.Reference21Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The gradient of the per-layer embedding's projection -/

@[expose] public section

set_option maxRecDepth 16384

namespace Ffn.GradPle

open Cert.Kernel21Ideal Cert.Kernel21Ideal.Gen Idealize.ShloMosaic Idealize.ShloMosaic.TcCoe Idealize.SL.Sem
open Idealize.ShloMosaic.Pipeline (Dat)

noncomputable section

/-- One element of the tile a grid point computes. -/
theorem pay (x0 : Vec Ideal S4096x256 .bf16) (x1 : Vec Ideal S4096x1024 .bf16) (p : Fin 256) (q : Fin 1024) :
    k0_pay1 x0 x1 (ix2 p q) = ∑ k : Fin 4096, x0 (ix2 k p) * x1 (ix2 k q) := by
  pointwise [k0_pay1]

/-- What a grid point leaves in its block of the result. -/
theorem out (c : Dev nD) (i : grid0.Coords) (arg3 : Memref sig .tc .vmem S4096x256 .bf16) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S8x128 .f32) (harg6 : arg6.IsWhole)
    (x0 : Vec Ideal S4096x256 .bf16) (x1 : Vec Ideal S4096x1024 .bf16) :
    out0_A_2 c i arg3 harg3 arg4 harg4 arg5 harg5 arg6 harg6 x0 x1 = k0_pay1 x0 x1 := by
  unfold out0_A_2
  rw [View.read_writes_junk_eq_canon]
  unfold kernelRun0_A
  dsimp only
  sl_unfold_words
  simp (disch := decide) only [View.readAt_eq_ld, harg3.read_unread, harg4.read_unread]
  rw [View.canon_cons_unit_lit _ _ _ (by decide), View.ld_unit_lit _ x0 (by decide), View.ld_unit_lit _ x1 (by decide)]

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (c : Dev nD)

theorem N_le (t : Fin cfg0.N) : t.val < 2 := by
  have := t.isLt
  have : cfg0.N = 2 := N_0
  omega

/-- Input block 0 of point `t`, by the rows and columns of the argument. -/
theorem iblk0 (t : Fin cfg0.N) (p : Fin 4096) (q : Fin 256) :
    (iblk m c 0 t : S4096x256.Idx → EReal) (ix2 p q)
      = (m ((c : Thread nD τ).loc main_arg0) : S4096x256.Idx → EReal) (ix2 p ⟨t.val / 2 * 256 + q.val, by have := N_le t; omega⟩) := by
  blk_simp [iblk, idx0]
  refine congrArg (m ((c : Thread nD τ).loc main_arg0)) ?_
  blk_ext [idx0]

/-- Input block 1 of point `t`, by the rows and columns of the argument. -/
theorem iblk1 (t : Fin cfg0.N) (p : Fin 4096) (q : Fin 1024) :
    (iblk m c 1 t : S4096x1024.Idx → EReal) (ix2 p q)
      = (m ((c : Thread nD τ).loc main_arg1) : S4096x2048.Idx → EReal) (ix2 p ⟨t.val % 2 * 1024 + q.val, by have := N_le t; omega⟩) := by
  blk_simp [iblk, idx1]
  refine congrArg (m ((c : Thread nD τ).loc main_arg1)) ?_
  blk_ext [idx1]

/-- The result, element by element. -/
def spec (a0 : S4096x256.Idx → EReal) (a1 : S4096x2048.Idx → EReal) (y : S256x2048.Idx) : EReal :=
  ∑ k : Fin 4096, a0 (ix2 k (y 0)) * a1 (ix2 k (y 1))

/-- What a point leaves, by its rows and columns of the result. -/
theorem at2 (t : Fin cfg0.N) (p : Fin 256) (q : Fin 1024) :
    (outsAt0 m c t : S256x1024.Idx → EReal) (ix2 p q)
      = spec (m ((c : Thread nD τ).loc main_arg0)) (m ((c : Thread nD τ).loc main_arg1))
          (ix2 ⟨t.val / 2 * 256 + p.val, by have := N_le t; omega⟩ ⟨t.val % 2 * 1024 + q.val, by have := N_le t; omega⟩) := by
  unfold outsAt0
  rw [out]
  refine (pay _ _ p q).trans ?_
  simp only [iblk0, iblk1]
  rfl

/-- The result array after the region. -/
theorem arr : ((dats m 0 c).arrAt 2 cfg0.N : S256x2048.Idx → EReal)
    = spec (m ((c : Thread nD τ).loc main_arg0)) (m ((c : Thread nD τ).loc main_arg1)) := by
  have e : (dats m 0 c).arrAt 2 cfg0.N
      = (fun y : S256x2048.Idx => spec (m ((c : Thread nD τ).loc main_arg0)) (m ((c : Thread nD τ).loc main_arg1)) (ix2 (y 0) (y 1))) := by
    refine (dats m 0 c).arrAt_eq_of_covers 2 _ (by decide +kernel) fun t hf y => ?_
    rw [after0_2]
    obtain ⟨p, q, rfl⟩ : ∃ (p : Fin 256) (q : Fin 1024), y = ix2 p q := ⟨y 0, y 1, eq_ix2 y⟩
    have h := at2 m c t
    generalize outsAt0 m c t = X at h ⊢
    refine (h p q).trans ?_
    generalize spec (m ((c : Thread nD τ).loc main_arg0)) (m ((c : Thread nD τ).loc main_arg1)) = G
    blk_simp [idx2]
    refine congrArg G ?_
    blk_ext [idx2]
  refine e.trans (funext fun y => ?_)
  rw [← eq_ix2 y]

open Cert.Reference21Ideal.Read in
/-- The reference's result, element by element. -/
theorem ref (a0 : FVec Ideal S4096x256 .bf16) (a1 : FVec Ideal S4096x2048 .bf16) : val_main_v6 (F := Ideal) a0 a1 = spec a0 a1 := by
  funext y
  obtain ⟨p, q, rfl⟩ : ∃ (p : Fin 256) (q : Fin 2048), y = ix2 p q := ⟨y 0, y 1, eq_ix2 y⟩
  pointwise [val_main_v6, val_main_v5, val_main_v4, val_main_v3, val_main_v1]
  refine Finset.sum_congr rfl fun k _ => ?_
  exact mul_comm _ _

/-- Kernel and reference leave the same result and keep their arguments. -/
theorem algebraic : Cert.algebraic_Kernel21Ideal_Reference21Ideal := by
  intro m g m' g' hpre hargs
  refine ⟨fun c => (dats m 0 c).arrAt 2 cfg0.N, Cert.Kernel21Ideal.Value.run_blocks m g, ?_⟩
  refine (θ_run Cert.Reference21Ideal.defs _ _).mono (fun r h c => ?_) (Cert.Reference21Ideal.Value.run (F := Ideal) m' g')
  obtain ⟨h0, k⟩ := h c
  obtain ⟨e0, e1⟩ := hargs c
  refine ⟨h0.trans ?_, k⟩
  rw [e0, e1]
  exact (Cert.Reference21Ideal.Read.val_main_v6_eq _ _).trans ((ref _ _).trans (arr m c).symm)

end

end Ffn.GradPle
-- ==== Proof.PleGateBwd.lean ====
module
public import proofs.«01_k».proof.Proof.Silu
public import proofs.«01_k».proof.Proof.Gen.Kernel22Ideal.Value
public import proofs.«01_k».proof.Proof.Gen.Reference22Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The backward pass of the per-layer embedding's gate -/

@[expose] public section

set_option maxRecDepth 16384

namespace Ffn.PleGateBwd

open Cert.Kernel22Ideal Cert.Kernel22Ideal.Gen Idealize.ShloMosaic Idealize.ShloMosaic.TcCoe Idealize.SL.Sem
open Idealize.ShloMosaic.Pipeline (Dat)

noncomputable section

/-- One element of output block 3. -/
theorem pay3 (x1 : Vec Ideal S512x2048 .f32) (x0 : Vec Ideal S512x2048 .f32) (p : Fin 512) (q : Fin 2048) :
    k0_pay2 x1 x0 (ix2 p q) = x0 (ix2 p q) * (((1 / 2 : ℝ) : EReal) * Ideal.tanh (((1 / 2 : ℝ) : EReal) * x1 (ix2 p q)) + ((1 / 2 : ℝ) : EReal)) := by
  pointwise [k0_pay2, k0_pay1]
  simp only [Gate.ofBits_half]

/-- What a grid point leaves in output block 3. -/
theorem out3 (x0 : Vec Ideal S512x2048 .f32) (x1 : Vec Ideal S512x2048 .f32) (x2 : Vec Ideal S512x2048 .f32) : out0_3 x0 x1 x2 = k0_pay2 x1 x0 := by
  unfold out0_3
  rw [View.canon_cons_unit_lit _ _ _ (by decide), View.ld_unit_lit _ x0 (by decide), View.ld_unit_lit _ x1 (by decide)]

/-- One element of output block 4. -/
theorem pay4 (x1 : Vec Ideal S512x2048 .f32) (x0 : Vec Ideal S512x2048 .f32) (x2 : Vec Ideal S512x2048 .f32) (p : Fin 512) (q : Fin 2048) :
    k0_pay3 x1 x0 x2 (ix2 p q) = x0 (ix2 p q) * x2 (ix2 p q) * (((1 / 2 : ℝ) : EReal) * Ideal.tanh (((1 / 2 : ℝ) : EReal) * x1 (ix2 p q)) + ((1 / 2 : ℝ) : EReal)) * (1 - (((1 / 2 : ℝ) : EReal) * Ideal.tanh (((1 / 2 : ℝ) : EReal) * x1 (ix2 p q)) + ((1 / 2 : ℝ) : EReal))) := by
  pointwise [k0_pay3, k0_pay1]
  simp only [Gate.ofBits_half]

/-- What a grid point leaves in output block 4. -/
theorem out4 (x0 : Vec Ideal S512x2048 .f32) (x1 : Vec Ideal S512x2048 .f32) (x2 : Vec Ideal S512x2048 .f32) : out0_4 x0 x1 x2 = k0_pay3 x1 x0 x2 := by
  unfold out0_4
  rw [View.canon_cons_unit_lit _ _ _ (by decide), View.ld_unit_lit _ x0 (by decide), View.ld_unit_lit _ x1 (by decide), View.ld_unit_lit _ x2 (by decide)]

theorem idx0 : ∀ t : Fin cfg0.N, win0_0.index t = ![t.val / 1, 0] := (by decide +kernel : ∀ t : Fin grid0.N, _)
theorem idx1 : ∀ t : Fin cfg0.N, win0_1.index t = ![t.val / 1, 0] := (by decide +kernel : ∀ t : Fin grid0.N, _)
theorem idx2 : ∀ t : Fin cfg0.N, win0_2.index t = ![t.val / 1, 0] := (by decide +kernel : ∀ t : Fin grid0.N, _)
theorem idx3 : ∀ t : Fin cfg0.N, win0_3.index t = ![t.val / 1, 0] := (by decide +kernel : ∀ t : Fin grid0.N, _)
theorem idx4 : ∀ t : Fin cfg0.N, win0_4.index t = ![t.val / 1, 0] := (by decide +kernel : ∀ t : Fin grid0.N, _)

variable (m : (ℓ : Loc nD τ sig) → Buf (Elt Ideal) ℓ) (c : Dev nD)

theorem N_le (t : Fin cfg0.N) : t.val < 8 := by
  have := t.isLt
  have : cfg0.N = 8 := N_0
  omega

/-- Input block 0 of point `t`, by the rows and columns of the argument. -/
theorem iblk0 (t : Fin cfg0.N) (p : Fin 512) (q : Fin 2048) :
    (iblk m c 0 t : S512x2048.Idx → EReal) (ix2 p q)
      = (m ((c : Thread nD τ).loc main_arg0) : S4096x2048.Idx → EReal) (ix2 ⟨t.val / 1 * 512 + p.val, by have := N_le t; omega⟩ q) := by
  blk_simp [iblk, idx0]
  refine congrArg (m ((c : Thread nD τ).loc main_arg0)) ?_
  blk_ext [idx0]

/-- Input block 1 of point `t`, by the rows and columns of the argument. -/
theorem iblk1 (t : Fin cfg0.N) (p : Fin 512) (q : Fin 2048) :
    (iblk m c 1 t : S512x2048.Idx → EReal) (ix2 p q)
      = (m ((c : Thread nD τ).loc main_arg1) : S4096x2048.Idx → EReal) (ix2 ⟨t.val / 1 * 512 + p.val, by have := N_le t; omega⟩ q) := by
  blk_simp [iblk, idx1]
  refine congrArg (m ((c : Thread nD τ).loc main_arg1)) ?_
  blk_ext [idx1]

/-- Input block 2 of point `t`, by the rows and columns of the argument. -/
theorem iblk2 (t : Fin cfg0.N) (p : Fin 512) (q : Fin 2048) :
    (iblk m c 2 t : S512x2048.Idx → EReal) (ix2 p q)
      = (m ((c : Thread nD τ).loc main_arg2) : S4096x2048.Idx → EReal) (ix2 ⟨t.val / 1 * 512 + p.val, by have := N_le t; omega⟩ q) := by
  blk_simp [iblk, idx2]
  refine congrArg (m ((c : Thread nD τ).loc main_arg2)) ?_
  blk_ext [idx2]

/-- Result 0, element by element. -/
def spec3 (a1 : S4096x2048.Idx → EReal) (a0 : S4096x2048.Idx → EReal) (y : S4096x2048.Idx) : EReal :=
  a0 (ix2 (y 0) (y 1)) * (((1 / 2 : ℝ) : EReal) * Ideal.tanh (((1 / 2 : ℝ) : EReal) * a1 (ix2 (y 0) (y 1))) + ((1 / 2 : ℝ) : EReal))

/-- What a point leaves in output block 3, by the rows and columns of the result. -/
theorem at3 (t : Fin cfg0.N) (p : Fin 512) (q : Fin 2048) :
    (out0_3 (iblk m c 0 t) (iblk m c 1 t) (iblk m c 2 t) : S512x2048.Idx → EReal) (ix2 p q)
      = spec3 (m ((c : Thread nD τ).loc main_arg1)) (m ((c : Thread nD τ).loc main_arg0))
          (ix2 ⟨t.val / 1 * 512 + p.val, by have := N_le t; omega⟩ q) := by
  rw [out3]
  refine (pay3 _ _ p q).trans ?_
  simp only [iblk1, iblk0]
  rfl

/-- Result 0 after the region. -/
theorem arr3 : ((dats m 0 c).arrAt 3 cfg0.N : S4096x2048.Idx → EReal)
    = spec3 (m ((c : Thread nD τ).loc main_arg1)) (m ((c : Thread nD τ).loc main_arg0)) := by
  have e : (dats m 0 c).arrAt 3 cfg0.N
      = (fun y : S4096x2048.Idx => spec3 (m ((c : Thread nD τ).loc main_arg1)) (m ((c : Thread nD τ).loc main_arg0)) (ix2 (y 0) (y 1))) := by
    refine (dats m 0 c).arrAt_eq_of_covers 3 _ (by decide +kernel) fun t hf y => ?_
    rw [after0_3]
    obtain ⟨p, q, rfl⟩ : ∃ (p : Fin 512) (q : Fin 2048), y = ix2 p q := ⟨y 0, y 1, eq_ix2 y⟩
    have h := at3 m c t
    generalize out0_3 (iblk m c 0 t) (iblk m c 1 t) (iblk m c 2 t) = X at h ⊢
    refine (h p q).trans ?_
    generalize spec3 (m ((c : Thread nD τ).loc main_arg1)) (m ((c : Thread nD τ).loc main_arg0)) = G
    blk_simp [idx3]
    refine congrArg G ?_
    blk_ext [idx3]
  refine e.trans (funext fun y => ?_)
  rw [← eq_ix2 y]

open Cert.Reference22Ideal.Read in
/-- The reference's result 0, element by element. -/
theorem ref3 (a1 : FVec Ideal S4096x2048 .f32) (a0 : FVec Ideal S4096x2048 .f32) : val_main_v13 (F := Ideal) a0 a1 = spec3 a1 a0 := by
  funext y
  obtain ⟨p, q, rfl⟩ : ∃ (p : Fin 4096) (q : Fin 2048), y = ix2 p q := ⟨y 0, y 1, eq_ix2 y⟩
  pointwise [val_main_v13, val_main_v10, val_main_v5, val_main_v4, val_main_cst_0, val_main_v3, val_main_v2, val_main_cst, val_main_v1, val_main_v0]
  simp only [Silu.logistic]
  exact mul_comm _ _

/-- Result 1, element by element. -/
def spec4 (a1 : S4096x2048.Idx → EReal) (a0 : S4096x2048.Idx → EReal) (a2 : S4096x2048.Idx → EReal) (y : S4096x2048.Idx) : EReal :=
  a0 (ix2 (y 0) (y 1)) * a2 (ix2 (y 0) (y 1)) * (((1 / 2 : ℝ) : EReal) * Ideal.tanh (((1 / 2 : ℝ) : EReal) * a1 (ix2 (y 0) (y 1))) + ((1 / 2 : ℝ) : EReal)) * (1 - (((1 / 2 : ℝ) : EReal) * Ideal.tanh (((1 / 2 : ℝ) : EReal) * a1 (ix2 (y 0) (y 1))) + ((1 / 2 : ℝ) : EReal)))

/-- What a point leaves in output block 4, by the rows and columns of the result. -/
theorem at4 (t : Fin cfg0.N) (p : Fin 512) (q : Fin 2048) :
    (out0_4 (iblk m c 0 t) (iblk m c 1 t) (iblk m c 2 t) : S512x2048.Idx → EReal) (ix2 p q)
      = spec4 (m ((c : Thread nD τ).loc main_arg1)) (m ((c : Thread nD τ).loc main_arg0)) (m ((c : Thread nD τ).loc main_arg2))
          (ix2 ⟨t.val / 1 * 512 + p.val, by have := N_le t; omega⟩ q) := by
  rw [out4]
  refine (pay4 _ _ _ p q).trans ?_
  simp only [iblk1, iblk0, iblk2]
  rfl

/-- Result 1 after the region. -/
theorem arr4 : ((dats m 0 c).arrAt 4 cfg0.N : S4096x2048.Idx → EReal)
    = spec4 (m ((c : Thread nD τ).loc main_arg1)) (m ((c : Thread nD τ).loc main_arg0)) (m ((c : Thread nD τ).loc main_arg2)) := by
  have e : (dats m 0 c).arrAt 4 cfg0.N
      = (fun y : S4096x2048.Idx => spec4 (m ((c : Thread nD τ).loc main_arg1)) (m ((c : Thread nD τ).loc main_arg0)) (m ((c : Thread nD τ).loc main_arg2)) (ix2 (y 0) (y 1))) := by
    refine (dats m 0 c).arrAt_eq_of_covers 4 _ (by decide +kernel) fun t hf y => ?_
    rw [after0_4]
    obtain ⟨p, q, rfl⟩ : ∃ (p : Fin 512) (q : Fin 2048), y = ix2 p q := ⟨y 0, y 1, eq_ix2 y⟩
    have h := at4 m c t
    generalize out0_4 (iblk m c 0 t) (iblk m c 1 t) (iblk m c 2 t) = X at h ⊢
    refine (h p q).trans ?_
    generalize spec4 (m ((c : Thread nD τ).loc main_arg1)) (m ((c : Thread nD τ).loc main_arg0)) (m ((c : Thread nD τ).loc main_arg2)) = G
    blk_simp [idx4]
    refine congrArg G ?_
    blk_ext [idx4]
  refine e.trans (funext fun y => ?_)
  rw [← eq_ix2 y]

open Cert.Reference22Ideal.Read in
/-- The reference's result 1, element by element. -/
theorem ref4 (a1 : FVec Ideal S4096x2048 .f32) (a0 : FVec Ideal S4096x2048 .f32) (a2 : FVec Ideal S4096x2048 .f32) : val_main_v14 (F := Ideal) a0 a1 a2 = spec4 a1 a0 a2 := by
  funext y
  obtain ⟨p, q, rfl⟩ : ∃ (p : Fin 4096) (q : Fin 2048), y = ix2 p q := ⟨y 0, y 1, eq_ix2 y⟩
  pointwise [val_main_v14, val_main_v12, val_main_v11, val_main_v8, val_main_v7, val_main_v6, val_main_cst_1, val_main_v5, val_main_v4, val_main_cst_0, val_main_v3, val_main_v2, val_main_cst, val_main_v1, val_main_v0]
  simp only [Silu.logistic]
  exact (mul_assoc _ _ _).symm

/-- Kernel and reference leave the same results and keep their arguments. -/
theorem algebraic : Cert.algebraic_Kernel22Ideal_Reference22Ideal := by
  intro m g m' g' hpre hargs
  refine ⟨fun c => (dats m 0 c).arrAt 3 cfg0.N, fun c => (dats m 0 c).arrAt 4 cfg0.N, Cert.Kernel22Ideal.Value.run_blocks m g, ?_⟩
  refine (θ_run Cert.Reference22Ideal.defs _ _).mono (fun r h c => ?_) (Cert.Reference22Ideal.Value.run (F := Ideal) m' g')
  obtain ⟨h0, h1, k⟩ := h c
  obtain ⟨e0, e1, e2⟩ := hargs c
  refine ⟨h0.trans ?_, h1.trans ?_, k⟩
  · rw [e1, e0]
    exact (Cert.Reference22Ideal.Read.val_main_v13_eq _ _).trans ((ref3 _ _).trans (arr3 m c).symm)
  · rw [e1, e0, e2]
    exact (Cert.Reference22Ideal.Read.val_main_v14_eq _ _ _).trans ((ref4 _ _ _).trans (arr4 m c).symm)

end

end Ffn.PleGateBwd
-- ==== Proof.Rms.lean ====
module
public import proofs.«01_k».proof.Proof.Real
public import Idealize.ShloMosaic.Lib.Pointwise

/-! # The root-mean-square norm of a row of extended reals, and its derivative

The reciprocal deviation of a row is a positive real when every element is a real, and zero when one is infinite. In both
cases it may be moved through a sum, so the derivative as the kernels write it equals the chain rule's at every row, finite
or not. -/

@[expose] public section

namespace Rms

open Idealize.ShloMosaic

noncomputable section

variable {N : ℕ}

/-- A row's mean square plus the added constant. -/
def ms (x : Fin N → EReal) : EReal := Ideal.div (∑ k, x k * x k) ((N : ℝ) : EReal) + ((Gate.eps : ℝ) : EReal)

/-- The reciprocal deviation of a row. -/
def rs (x : Fin N → EReal) : EReal := Ideal.rsqrt (ms x)

/-- The derivative against the row `a`, the cotangent times the gain. -/
def dx (x a : Fin N → EReal) (q : Fin N) : EReal :=
  rs x * (a q - x q * rs x * Ideal.div (∑ k, a k * (x k * rs x)) ((N : ℝ) : EReal))

/-- A positive real moves through a sum of any extended reals. -/
theorem sum_mul_coe {r : ℝ} (hr : 0 ≤ r) (f : Fin N → EReal) : ∑ k, f k * (r : EReal) = (∑ k, f k) * (r : EReal) := by
  induction N with
  | zero => simp
  | succ n ih =>
    rw [Fin.sum_univ_castSucc, Fin.sum_univ_castSucc, ih,
      EReal.right_distrib_of_nonneg_of_ne_top (by exact_mod_cast hr) (EReal.coe_ne_top r)]

/-- An extended real twice. -/
theorem add_self (y : EReal) : y + y = ((2 : ℝ) : EReal) * y := by
  induction y using EReal.rec with
  | bot => rw [EReal.coe_mul_bot_of_pos (by norm_num)]; rfl
  | coe r => rw [← EReal.coe_add, ← EReal.coe_mul, two_mul]
  | top => rw [EReal.coe_mul_top_of_pos (by norm_num)]; rfl

/-- A square is not negative. -/
theorem sq_nonneg (y : EReal) : 0 ≤ y * y := by
  induction y using EReal.rec with
  | bot => simp
  | coe r => rw [← EReal.coe_mul]; exact_mod_cast mul_self_nonneg r
  | top => simp

/-- A row is real with a positive real reciprocal deviation, or its reciprocal deviation is zero. -/
theorem cases (hN : 0 < N) (x : Fin N → EReal) :
    (∃ (f : Fin N → ℝ) (r : ℝ), 0 < r ∧ (∀ k, x k = (f k : EReal)) ∧ rs x = (r : EReal)
        ∧ Ideal.div (rs x) (ms x) = ((r * (r * r) : ℝ) : EReal))
      ∨ (rs x = 0 ∧ Ideal.div (rs x) (ms x) = 0) := by
  have hn : (0 : ℝ) < N := by exact_mod_cast hN
  by_cases h : ∀ k, ∃ y : ℝ, x k = (y : EReal)
  · left
    choose f hf using h
    have hv : 0 < (∑ k, f k * f k) / N + Gate.eps := by
      have h1 : 0 ≤ (∑ k, f k * f k) / N := div_nonneg (Finset.sum_nonneg fun k _ => mul_self_nonneg _) hn.le
      have h2 : (0 : ℝ) < Gate.eps := by unfold Gate.eps; norm_num
      linarith
    have hm : ms x = (((∑ k, f k * f k) / N + Gate.eps : ℝ) : EReal) := by
      unfold ms
      simp only [hf, ← EReal.coe_mul, Gate.coe_sum, Gate.div_real _ _ hn.ne', ← EReal.coe_add]
    have hr : rs x = (((√((∑ k, f k * f k) / N + Gate.eps))⁻¹ : ℝ) : EReal) := by
      unfold rs
      rw [hm, Gate.rsqrt_pos _ hv]
    refine ⟨f, _, inv_pos.2 (Real.sqrt_pos.2 hv), hf, hr, ?_⟩
    rw [hr, hm, Gate.div_real _ _ hv.ne']
    congr 1
    rw [← mul_inv, Real.mul_self_sqrt hv.le, div_eq_mul_inv]
  · right
    push Not at h
    obtain ⟨k, hk⟩ := h
    have hs : ∑ k, x k * x k = ⊤ := by
      have h1 : x k * x k = ⊤ := by
        induction hx : x k using EReal.rec with
        | bot => simp
        | coe r => exact absurd hx (hk r)
        | top => simp
      refine top_le_iff.1 ?_
      rw [← h1]
      exact Finset.single_le_sum (f := fun k => x k * x k) (fun k _ => sq_nonneg (x k)) (Finset.mem_univ k)
    have hm : ms x = ⊤ := by
      unfold ms
      rw [hs, Ideal.div_coe hn.ne', EReal.top_mul_coe_of_pos (one_div_pos.2 hn), EReal.top_add_coe]
    have hr : rs x = 0 := by
      unfold rs
      rw [hm, Ideal.rsqrt_top]
    refine ⟨hr, ?_⟩
    rw [hr, Ideal.div, hm, if_neg (by simp), zero_mul]

/-- The chain rule's derivative of a row, the sum of squares' cotangent entering twice. -/
theorem vjp (hN : 0 < N) (x a : Fin N → EReal) (q : Fin N) :
    a q * rs x
        + x q * Ideal.div ((∑ k, x k * a k) * (((-(1 / 2) : ℝ) : EReal) * Ideal.div (rs x) (ms x))) ((N : ℝ) : EReal)
        + Ideal.div ((∑ k, x k * a k) * (((-(1 / 2) : ℝ) : EReal) * Ideal.div (rs x) (ms x))) ((N : ℝ) : EReal) * x q
      = dx x a q := by
  have hn : ((N : ℝ)) ≠ 0 := by exact_mod_cast hN.ne'
  unfold dx
  rw [Ideal.div_coe hn, Ideal.div_coe hn]
  rcases cases hN x with ⟨f, r, hr, hf, e, e'⟩ | ⟨e, e'⟩
  · have hs : ∑ k, a k * (x k * rs x) = (∑ k, x k * a k) * (r : EReal) := by
      rw [← sum_mul_coe hr.le]
      exact Finset.sum_congr rfl fun k _ => by rw [e, ← mul_assoc, mul_comm (a k)]
    rw [hs, e', e, hf q]
    generalize ∑ k, x k * a k = S
    have h1 : ((f q : ℝ) : EReal) * (S * (((-(1 / 2) : ℝ) : EReal) * ((r * (r * r) : ℝ) : EReal)) * ((1 / N : ℝ) : EReal))
        = ((f q * (-(1 / 2) * (r * (r * r))) * (1 / N) : ℝ) : EReal) * S := by
      simp only [EReal.coe_mul]
      ac_rfl
    rw [mul_comm (S * _ * _) ((f q : ℝ) : EReal), h1, add_assoc, add_self, ← mul_assoc, ← EReal.coe_mul, sub_eq_add_neg,
      EReal.left_distrib_of_nonneg_of_ne_top (by exact_mod_cast hr.le) (EReal.coe_ne_top r), mul_comm (a q)]
    congr 1
    have h2 : ((f q : ℝ) : EReal) * (r : EReal) * (S * (r : EReal) * ((1 / N : ℝ) : EReal))
        = ((f q * r * r * (1 / N) : ℝ) : EReal) * S := by
      simp only [EReal.coe_mul]
      ac_rfl
    rw [h2, ← EReal.neg_mul, ← EReal.coe_neg, ← mul_assoc (r : EReal), ← EReal.coe_mul]
    congr 2
    ring
  · rw [e', e]
    simp

/-! ## Sums accumulated over blocks of rows -/

/-- A function of the rows, zero beyond the last. -/
def ext {n : ℕ} (f : Fin n → EReal) (i : ℕ) : EReal := if h : i < n then f ⟨i, h⟩ else 0

/-- The sum of the first `n` rows. -/
def upto {n : ℕ} (f : Fin n → EReal) (m : ℕ) : EReal := ∑ i ∈ Finset.range m, ext f i

theorem upto_zero {n : ℕ} (f : Fin n → EReal) : upto f 0 = 0 := by simp [upto]

theorem upto_all {n : ℕ} (f : Fin n → EReal) : upto f n = ∑ i, f i := by
  rw [upto, Finset.sum_range]
  exact Finset.sum_congr rfl fun i _ => by simp [ext]

/-- One more block of `b` rows. -/
theorem upto_add {n : ℕ} (f : Fin n → EReal) (m b : ℕ) (h : m + b ≤ n) :
    upto f (m + b) = upto f m + ∑ p : Fin b, f ⟨m + p.val, by omega⟩ := by
  rw [upto, upto, Finset.sum_range_add, Finset.sum_range (fun i => ext f (m + i))]
  congr 1
  exact Finset.sum_congr rfl fun p _ => by rw [ext, dif_pos (by omega)]

/-! ## The gated product whose rows are normalised -/

/-- The gaussian error unit by its hyperbolic tangent. -/
def gelu (z : EReal) : EReal :=
  ((1 / 2 : ℝ) : EReal) * z * (1 + Ideal.tanh (((Gate.gk : ℝ) : EReal) * (z + Ideal.ofBits .f32 0x3D372713#32 * z * z * z)))

/-- The same with its factors and its cube gathered another way. -/
theorem gelu_eq (z : EReal) :
    z * (((1 / 2 : ℝ) : EReal) * (1 + Ideal.tanh (((Gate.gk : ℝ) : EReal) * (z + Ideal.ofBits .f32 0x3D372713#32 * (z * z * z)))))
      = gelu z := by
  unfold gelu
  rw [mul_left_comm, ← mul_assoc, mul_assoc (Ideal.ofBits .f32 0x3D372713#32 * _), mul_assoc (Ideal.ofBits .f32 0x3D372713#32),
    mul_assoc z z]

/-- The logistic function by its hyperbolic tangent. -/
def sg (z : EReal) : EReal := ((1 / 2 : ℝ) : EReal) * Ideal.tanh (((1 / 2 : ℝ) : EReal) * z) + ((1 / 2 : ℝ) : EReal)

/-- A column of the left half. -/
def left (q : Fin 1024) : Fin 2048 := ⟨q.val, by omega⟩
/-- A column of the right half. -/
def right (q : Fin 1024) : Fin 2048 := ⟨1024 + q.val, by omega⟩

/-- A row of the gated product. -/
def prod {n : ℕ} (y l : (⟨2, ![n, 1024]⟩ : Shape).Idx → EReal) (i : Fin n) (k : Fin 1024) : EReal := gelu (y (ix2 i k)) * sg (l (ix2 i k))

end

end Rms
-- ==== Proof.NormBwd.lean ====
module
public import proofs.«01_k».proof.Proof.Rms
public import proofs.«01_k».proof.Proof.Gen.Kernel23Ideal.Value
public import proofs.«01_k».proof.Proof.Gen.Reference23Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The backward pass of a root-mean-square norm

The input's gradient, added to the residual stream's, is written a block of rows per point, in two formats. The gain's
gradient is accumulated over the sixteen points and written back at the last. -/

@[expose] public section

set_option maxRecDepth 16384

namespace Ffn.NormBwd

open Cert.Kernel23Ideal Cert.Kernel23Ideal.Gen Idealize.ShloMosaic Idealize.ShloMosaic.TcCoe Idealize.SL.Sem
open Idealize.ShloMosaic.Pipeline (Dat)

noncomputable section

/-! ## The payloads -/

/-- A row's reciprocal deviation. -/
theorem pay_rs (x : Vec Ideal S256x2048 .f32) (p : Fin 256) :
    k0_pay2 x (ix2 p 0) = Rms.rs (fun k : Fin 2048 => x (ix2 p k)) := by
  pointwise [k0_pay2]
  simp only [Gate.ofBits_2048, Gate.ofBits_eps]
  rfl

/-- One element of the normalised block. -/
theorem pay_hat (x : Vec Ideal S256x2048 .f32) (p : Fin 256) (q : Fin 2048) :
    k0_pay3 x (ix2 p q) = x (ix2 p q) * Rms.rs (fun k : Fin 2048 => x (ix2 p k)) := by
  rw [← pay_rs]
  pointwise [k0_pay3]

/-- A block's share of the gain's gradient. -/
theorem pay_gain (d x : Vec Ideal S256x2048 .f32) (q : Fin 2048) :
    k0_pay4 d x (ix2 0 q) = ∑ p : Fin 256, d (ix2 p q) * (x (ix2 p q) * Rms.rs (fun k : Fin 2048 => x (ix2 p k))) := by
  pointwise [k0_pay4]
  exact Finset.sum_congr rfl fun p _ => by rw [pay_hat]

/-- One element of the input's gradient. -/
theorem pay_dx (d x : Vec Ideal S256x2048 .f32) (g : Vec Ideal S1x2048 .f32) (e : Vec Ideal S256x2048 .f32) (p : Fin 256)
    (q : Fin 2048) :
    k0_pay5 d x g e (ix2 p q)
      = e (ix2 p q) + Rms.dx (fun k : Fin 2048 => x (ix2 p k)) (fun k => d (ix2 p k) * g (ix2 0 k)) q := by
  pointwise [k0_pay5]
  simp only [Gate.ofBits_2048, pay_hat, pay_rs]
  rfl

/-! ## What a point's stores leave -/

section

variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S256x2048 .f32) (harg4 : arg4.IsWhole)
  (arg5 : Memref sig .tc .vmem S256x2048 .f32) (harg5 : arg5.IsWhole) (arg6 : Memref sig .tc .vmem S256x2048 .bf16)
  (harg6 : arg6.IsWhole) (arg7 : Memref sig .tc .vmem S1x2048 .f32) (harg7 : arg7.IsWhole)
  (x0 x1 : Vec Ideal S256x2048 .f32) (x2 : Vec Ideal S1x2048 .f32) (x3 : Vec Ideal S256x2048 .f32) (xo6 : Vec Ideal S1x2048 .f32)

theorem out4_A (hc0 : cond0_0 i) : out0_A_4 (F := Ideal) c i arg1 harg1 arg2 harg2 arg3 harg3 arg4 harg4 arg5 harg5 arg6 harg6 arg7 harg7 hc0
    x0 x1 x2 x3 = k0_pay5 x0 x1 x2 x3 := by
  unfold out0_A_4
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide), View.ld_unit_lit _ x0 (by decide), View.ld_unit_lit _ x1 (by decide),
    View.ld_unit_lit _ x2 (by decide), View.ld_unit_lit _ x3 (by decide)]

theorem out4_B (hc0 : ¬cond0_0 i) : out0_B_4 (F := Ideal) c i arg1 harg1 arg2 harg2 arg3 harg3 arg4 harg4 arg5 harg5 arg6 harg6 arg7 harg7 hc0
    x0 x1 x2 x3 xo6 = k0_pay5 x0 x1 x2 x3 := by
  unfold out0_B_4
  rw [View.read_writes_junk_eq_canon]
  unfold kernelRun0_B
  dsimp only
  sl_unfold_words
  simp (disch := decide) only [View.readAt_eq_ld, harg1.read_unread, harg2.read_unread, harg3.read_unread, harg4.read_unread]
  rw [View.canon_cons_unit_lit _ _ _ (by decide), View.ld_unit_lit _ x0 (by decide), View.ld_unit_lit _ x1 (by decide),
    View.ld_unit_lit _ x2 (by decide), View.ld_unit_lit _ x3 (by decide)]

theorem out5_A (hc0 : cond0_0 i) : out0_A_5 (F := Ideal) c i arg1 harg1 arg2 harg2 arg3 harg3 arg4 harg4 arg5 harg5 arg6 harg6 arg7 harg7 hc0
    x0 x1 x2 x3 = k0_pay6 x0 x1 x2 x3 := by
  unfold out0_A_5
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide), View.ld_unit_lit _ x0 (by decide), View.ld_unit_lit _ x1 (by decide),
    View.ld_unit_lit _ x2 (by decide), View.ld_unit_lit _ x3 (by decide)]

theorem out5_B (hc0 : ¬cond0_0 i) : out0_B_5 (F := Ideal) c i arg1 harg1 arg2 harg2 arg3 harg3 arg4 harg4 arg5 harg5 arg6 harg6 arg7 harg7 hc0
    x0 x1 x2 x3 xo6 = k0_pay6 x0 x1 x2 x3 := by
  unfold out0_B_5
  rw [View.read_writes_junk_eq_canon]
  unfold kernelRun0_B
  dsimp only
  sl_unfold_words
  simp (disch := decide) only [View.readAt_eq_ld, harg1.read_unread, harg2.read_unread, harg3.read_unread, harg4.read_unread]
  rw [View.canon_cons_unit_lit _ _ _ (by decide), View.ld_unit_lit _ x0 (by decide), View.ld_unit_lit _ x1 (by decide),
    View.ld_unit_lit _ x2 (by decide), View.ld_unit_lit _ x3 (by decide)]

theorem out6_A (hc0 : cond0_0 i) : out0_A_6 (F := Ideal) c i arg1 harg1 arg2 harg2 arg3 harg3 arg4 harg4 arg5 harg5 arg6 harg6 arg7 harg7 hc0
    x0 x1 x2 x3 = k0_pay1 (k0_pay4 x0 x1) (k0_pay7 (F := Ideal)) := by
  unfold out0_A_6
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg7.read_unread]
  rw [View.canon_cons_unit_lit _ _ _ (by decide), View.ld_unit_lit _ x0 (by decide), View.ld_unit_lit _ x1 (by decide)]

theorem out6_B (hc0 : ¬cond0_0 i) : out0_B_6 (F := Ideal) c i arg1 harg1 arg2 harg2 arg3 harg3 arg4 harg4 arg5 harg5 arg6 harg6 arg7 harg7 hc0
    x0 x1 x2 x3 xo6 = k0_pay1 (k0_pay4 x0 x1) xo6 := by
  unfold out0_B_6
  rw [View.read_writes_junk_eq_canon]
  unfold kernelRun0_B
  dsimp only
  sl_unfold_words
  simp (disch := decide) only [View.readAt_eq_ld, harg1.read_unread, harg2.read_unread, harg3.read_unread, harg4.read_unread, harg7.read_unread]
  rw [View.canon_cons_unit_lit _ _ _ (by decide), View.ld_unit_lit _ x0 (by decide), View.ld_unit_lit _ x1 (by decide),
    View.ld_unit_lit _ xo6 (by decide)]

end

/-! ## The results, element by element -/

/-- The input's gradient, added to the residual stream's. -/
def specX (d x : S4096x2048.Idx → EReal) (g : S1x2048.Idx → EReal) (e : S4096x2048.Idx → EReal) (y : S4096x2048.Idx) : EReal :=
  e (ix2 (y 0) (y 1)) + Rms.dx (fun k : Fin 2048 => x (ix2 (y 0) k)) (fun k => d (ix2 (y 0) k) * g (ix2 0 k)) (y 1)

/-- A row's term of the gain's gradient. -/
def gain (d x : S4096x2048.Idx → EReal) (q : Fin 2048) (i : Fin 4096) : EReal :=
  d (ix2 i q) * (x (ix2 i q) * Rms.rs (fun k : Fin 2048 => x (ix2 i k)))

/-- The gain's gradient. -/
def specG (d x : S4096x2048.Idx → EReal) (y : S1x2048.Idx) : EReal := ∑ i, gain d x (y 1) i

/-! ## The kernel's arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 256) : Fin 4096 :=
  ⟨t.val * 256 + p.val, by have := t.isLt; have : cfg0.N = 16 := N_0; omega⟩

theorem iblk0 (t : Fin cfg0.N) (p : Fin 256) (q : Fin 2048) :
    (iblk m c 0 t : S256x2048.Idx → EReal) (ix2 p q) = (m ((c : Thread nD τ).loc main_arg0) : S4096x2048.Idx → EReal) (ix2 (row t p) q) := by
  blk_simp [iblk, idx0]
  refine congrArg (m ((c : Thread nD τ).loc main_arg0)) ?_
  blk_ext [idx0, row]

theorem iblk1 (t : Fin cfg0.N) (p : Fin 256) (q : Fin 2048) :
    (iblk m c 1 t : S256x2048.Idx → EReal) (ix2 p q) = (m ((c : Thread nD τ).loc main_arg1) : S4096x2048.Idx → EReal) (ix2 (row t p) q) := by
  blk_simp [iblk, idx1]
  refine congrArg (m ((c : Thread nD τ).loc main_arg1)) ?_
  blk_ext [idx1, row]

theorem iblk2 (t : Fin cfg0.N) (q : Fin 2048) :
    (iblk m c 2 t : S1x2048.Idx → EReal) (ix2 0 q) = (m ((c : Thread nD τ).loc main_arg2) : S1x2048.Idx → EReal) (ix2 0 q) := by
  blk_simp [iblk, idx2]
  refine congrArg (m ((c : Thread nD τ).loc main_arg2)) ?_
  blk_ext [idx2]

theorem iblk3 (t : Fin cfg0.N) (p : Fin 256) (q : Fin 2048) :
    (iblk m c 3 t : S256x2048.Idx → EReal) (ix2 p q) = (m ((c : Thread nD τ).loc main_arg3) : S4096x2048.Idx → EReal) (ix2 (row t p) q) := by
  blk_simp [iblk, idx3]
  refine congrArg (m ((c : Thread nD τ).loc main_arg3)) ?_
  blk_ext [idx3, row]

/-- The input's gradient as the arguments in memory give it. -/
def GX : S4096x2048.Idx → EReal :=
  specX (m ((c : Thread nD τ).loc main_arg0)) (m ((c : Thread nD τ).loc main_arg1)) (m ((c : Thread nD τ).loc main_arg2))
    (m ((c : Thread nD τ).loc main_arg3))

/-- A row's term of the gain's gradient as the arguments in memory give it. -/
def GG (q : Fin 2048) : Fin 4096 → EReal :=
  gain (m ((c : Thread nD τ).loc main_arg0)) (m ((c : Thread nD τ).loc main_arg1)) q

theorem blkX (t : Fin cfg0.N) (p : Fin 256) (q : Fin 2048) :
    k0_pay5 (F := Ideal) (iblk m c 0 t) (iblk m c 1 t) (iblk m c 2 t) (iblk m c 3 t) (ix2 p q) = GX m c (ix2 (row t p) q) := by
  refine (pay_dx _ _ _ _ p q).trans ?_
  simp only [iblk0, iblk1, iblk2, iblk3]
  rfl

theorem blkG (t : Fin cfg0.N) (q : Fin 2048) :
    k0_pay4 (F := Ideal) (iblk m c 0 t) (iblk m c 1 t) (ix2 0 q) = ∑ p : Fin 256, GG m c q (row t p) := by
  refine (pay_gain _ _ q).trans ?_
  simp only [iblk0, iblk1]
  rfl

theorem at4 (t : Fin cfg0.N) (p : Fin 256) (q : Fin 2048) :
    ((outsAt0 m c t.val t.isLt).1 : S256x2048.Idx → EReal) (ix2 p q) = GX m c (ix2 (row t p) q) := by
  by_cases h0 : t.val % 16 = 0
  · rw [outsAt0_A m c t h0]
    dsimp only
    rw [out4_A]
    exact blkX m c t p q
  · rw [outsAt0_B m c t h0]
    dsimp only
    rw [out4_B]
    exact blkX m c t p q

theorem at5 (t : Fin cfg0.N) (p : Fin 256) (q : Fin 2048) :
    ((outsAt0 m c t.val t.isLt).2.1 : S256x2048.Idx → EReal) (ix2 p q) = GX m c (ix2 (row t p) q) := by
  by_cases h0 : t.val % 16 = 0
  · rw [outsAt0_A m c t h0]
    dsimp only
    rw [out5_A]
    exact blkX m c t p q
  · rw [outsAt0_B m c t h0]
    dsimp only
    rw [out5_B]
    exact blkX m c t p q

theorem step (t : Fin cfg0.N) (q : Fin 2048) :
    Rms.upto (GG m c q) (256 * (t.val + 1)) = Rms.upto (GG m c q) (256 * t.val) + ∑ p : Fin 256, GG m c q (row t p) := by
  have hN : cfg0.N = 16 := N_0
  have := t.isLt
  rw [show 256 * (t.val + 1) = 256 * t.val + 256 by omega, Rms.upto_add _ _ _ (by omega)]
  congr 1
  exact Finset.sum_congr rfl fun p _ => congrArg (GG m c q) (Fin.ext (by show 256 * t.val + p.val = t.val * 256 + p.val; omega))

theorem at6 : ∀ (n : ℕ) (hn : n < cfg0.N) (q : Fin 2048),
    ((outsAt0 m c n hn).2.2 : S1x2048.Idx → EReal) (ix2 0 q) = Rms.upto (GG m c q) (256 * (n + 1)) := by
  intro n
  induction n with
  | zero =>
    intro hn q
    have e := outsAt0_A m c ⟨0, hn⟩ rfl
    rw [show outsAt0 m c 0 hn = _ from e, step m c ⟨0, hn⟩ q, ← blkG]
    dsimp only
    rw [out6_A]
    pointwise [k0_pay1, k0_pay7]
    rw [Rms.upto_zero]
    exact (zero_add _).symm
  | succ n ih =>
    intro hn q
    have hN : cfg0.N = 16 := N_0
    have h0 : ¬ (n + 1) % 16 = 0 := by omega
    have e := outsAt0_B m c ⟨n + 1, hn⟩ h0
    rw [show outsAt0 m c (n + 1) hn = _ from e, step m c ⟨n + 1, hn⟩ q, ← blkG, ← ih (Nat.lt_of_succ_lt hn) q]
    dsimp only
    rw [out6_B]
    pointwise [k0_pay1]
    rfl

theorem arr4 : ((dats m 0 c).arrAt 4 cfg0.N : S4096x2048.Idx → EReal) = GX m c := by
  refine (dats m 0 c).arrAt_eq_of_covers 4 _ (by decide +kernel) fun t hf y => ?_
  rw [after0_4]
  obtain ⟨p, q, rfl⟩ : ∃ (p : Fin 256) (q : Fin 2048), y = ix2 p q := ⟨y 0, y 1, eq_ix2 y⟩
  refine (at4 m c t p q).trans ?_
  blk_simp [idx4]
  refine congrArg (GX m c) ?_
  blk_ext [idx4, row]

theorem arr5 : ((dats m 0 c).arrAt 5 cfg0.N : S4096x2048.Idx → EReal) = GX m c := by
  refine (dats m 0 c).arrAt_eq_of_covers 5 _ (by decide +kernel) fun t hf y => ?_
  rw [after0_5]
  obtain ⟨p, q, rfl⟩ : ∃ (p : Fin 256) (q : Fin 2048), y = ix2 p q := ⟨y 0, y 1, eq_ix2 y⟩
  refine (at5 m c t p q).trans ?_
  blk_simp [idx5]
  refine congrArg (GX m c) ?_
  blk_ext [idx5, row]

theorem arr6 : ((dats m 0 c).arrAt 6 cfg0.N : S1x2048.Idx → EReal)
    = specG (m ((c : Thread nD τ).loc main_arg0)) (m ((c : Thread nD τ).loc main_arg1)) := by
  funext y
  obtain ⟨z, q, rfl⟩ : ∃ (z : Fin 1) (q : Fin 2048), y = ix2 z q := ⟨y 0, y 1, eq_ix2 y⟩
  obtain rfl : z = 0 := Subsingleton.elim _ _
  refine ((dats m 0 c).arrAt_emb_eq_after_last 6 ⟨15, by decide⟩ (by decide +kernel) (ix2 0 q)).trans ?_
  rw [after0_6]
  exact (at6 m c 15 (by decide) q).trans (Rms.upto_all _)

/-! ## The reference's arrays -/

section

open Cert.Reference23Ideal.Read

variable (d x : FVec Ideal S4096x2048 .f32) (g : FVec Ideal S1x2048 .f32) (e : FVec Ideal S4096x2048 .f32)

theorem ref_ms (i : Fin 4096) : val_main_v6 (F := Ideal) x (ix2 i 0) = Rms.ms (fun k : Fin 2048 => x (ix2 i k)) := by
  pointwise [val_main_v6, val_main_v5, val_main_cst_1, val_main_v4, val_main_v3, val_main_cst_0, val_main_v2, val_main_v1, val_main_cst,
    val_main_v0]
  simp only [Gate.ofBits_2048, Gate.ofBits_eps, Gate.ofBits_zero]
  rfl

theorem ref_rs (i : Fin 4096) : val_main_v7 (F := Ideal) x (ix2 i 0) = Rms.rs (fun k : Fin 2048 => x (ix2 i k)) := by
  rw [Rms.rs, ← ref_ms]
  pointwise [val_main_v7]

theorem ref_d (i : Fin 4096) : val_main_v28 (F := Ideal) d x g (ix1 i)
    = Ideal.div ((∑ k : Fin 2048, x (ix2 i k) * (d (ix2 i k) * g (ix2 0 k)))
        * (((-(1 / 2) : ℝ) : EReal) * Ideal.div (Rms.rs (fun k : Fin 2048 => x (ix2 i k))) (Rms.ms (fun k : Fin 2048 => x (ix2 i k)))))
        ((2048 : ℝ) : EReal) := by
  rw [← ref_ms, ← ref_rs]
  pointwise [val_main_v28, val_main_cst_6, val_main_v27, val_main_v26, val_main_cst_5, val_main_v25, val_main_v22, val_main_v21,
    val_main_cst_4, val_main_v20, val_main_v19, val_main_v18, val_main_v10, val_main_v9, val_main_cst_2, val_main_v8]
  simp only [Gate.ofBits_2048, Gate.ofBits_neg_half, Gate.ofBits_zero]
  exact Fin.sum_univ_one _

theorem ref_dx : val_main_v34 (F := Ideal) d x g e = specX d x g e := by
  funext y
  obtain ⟨p, q, rfl⟩ : ∃ (p : Fin 4096) (q : Fin 2048), y = ix2 p q := ⟨y 0, y 1, eq_ix2 y⟩
  refine Eq.trans ?_ (congrArg (e (ix2 p q) + ·) (Rms.vjp (by decide) (fun k : Fin 2048 => x (ix2 p k))
    (fun k => d (ix2 p k) * g (ix2 0 k)) q))
  pointwise [val_main_v34, val_main_v33, val_main_v32, val_main_v31, val_main_v30, val_main_v29, val_main_v24, val_main_v23,
    val_main_v19, val_main_v18]
  rw [ref_rs, ref_d]
  rfl

theorem ref_dx' : val_main_v35 (F := Ideal) d x g e = specX d x g e := by
  rw [← ref_dx]
  rfl

theorem ref_gain : val_main_v17 (F := Ideal) d x = specG d x := by
  funext y
  obtain ⟨z, q, rfl⟩ : ∃ (z : Fin 1) (q : Fin 2048), y = ix2 z q := ⟨y 0, y 1, eq_ix2 y⟩
  obtain rfl : z = 0 := Subsingleton.elim _ _
  pointwise [val_main_v17, val_main_v16, val_main_cst_3, val_main_v15, val_main_v12, val_main_v11]
  simp only [Gate.ofBits_zero, ref_rs]
  exact Finset.sum_congr rfl fun i _ => mul_comm _ _

end

/-- Kernel and reference leave the same results and keep their arguments. -/
theorem algebraic : Cert.algebraic_Kernel23Ideal_Reference23Ideal := by
  intro m g m' g' hpre hargs
  refine ⟨fun c => (dats m 0 c).arrAt 4 cfg0.N, fun c => (dats m 0 c).arrAt 5 cfg0.N, fun c => (dats m 0 c).arrAt 6 cfg0.N,
    Cert.Kernel23Ideal.Value.run_blocks m g, ?_⟩
  refine (θ_run Cert.Reference23Ideal.defs _ _).mono (fun r h c => ?_) (Cert.Reference23Ideal.Value.run (F := Ideal) m' g')
  obtain ⟨h0, h1, h2, k⟩ := h c
  obtain ⟨e0, e1, e2, e3⟩ := hargs c
  refine ⟨h0.trans ?_, h1.trans ?_, h2.trans ?_, k⟩
  · rw [e0, e1, e2, e3]
    exact (Cert.Reference23Ideal.Read.val_main_v34_eq _ _ _ _).trans ((ref_dx _ _ _ _).trans (arr4 m c).symm)
  · rw [e0, e1, e2, e3]
    exact (Cert.Reference23Ideal.Read.val_main_v35_eq _ _ _ _).trans ((ref_dx' _ _ _ _).trans (arr5 m c).symm)
  · rw [e0, e1]
    exact (Cert.Reference23Ideal.Read.val_main_v17_eq _ _).trans ((ref_gain _ _).trans (arr6 m c).symm)

end

end Ffn.NormBwd
-- ==== Proof.MixBwd.lean ====
module
public import proofs.«01_k».proof.Proof.Rms
public import proofs.«01_k».proof.Proof.Silu
public import proofs.«01_k».proof.Proof.Gen.Kernel24Ideal.Value
public import proofs.«01_k».proof.Proof.Gen.Reference24Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The backward pass of the mixing block's output

The cotangent's left half goes back through the norm of a gated product and then through the gate, its right half through
the norm of the other branch. The two gains' gradients are accumulated over the sixteen points. -/

@[expose] public section

set_option maxRecDepth 16384

namespace Ffn.MixBwd

open Rms (gelu gelu_eq sg left right prod)
open Cert.Kernel24Ideal Cert.Kernel24Ideal.Gen Idealize.ShloMosaic Idealize.ShloMosaic.TcCoe Idealize.SL.Sem
open Idealize.ShloMosaic.Pipeline (Dat)

noncomputable section

/-- A row of the cotangent's half `h` times a gain. -/
def cot {n : ℕ} (h : Fin 1024 → Fin 2048) (d : (⟨2, ![n, 2048]⟩ : Shape).Idx → EReal) (g : (⟨2, ![1, 1024]⟩ : Shape).Idx → EReal) (i : Fin n) (k : Fin 1024) :
    EReal := d (ix2 i (h k)) * g (ix2 0 k)

/-! ## The payloads -/

/-- The left half of a block. -/
def lo (x : Vec Ideal S256x2048 .f32) : Vec Ideal S256x1024 .f32 :=
  View.ld x (Rect.unit (s := S256x2048) ![0, 0] S256x1024.size inb_S256x2048_S256x1024_0_0)
/-- The right half of a block. -/
def hi (x : Vec Ideal S256x2048 .f32) : Vec Ideal S256x1024 .f32 :=
  View.ld x (Rect.unit (s := S256x2048) ![0, 1024] S256x1024.size inb_S256x2048_S256x1024_0_1024)

theorem lo_apply (x : Vec Ideal S256x2048 .f32) (p : Fin 256) (q : Fin 1024) : lo x (ix2 p q) = x (ix2 p (left q)) := by
  unfold lo Rms.left
  pointwise

theorem hi_apply (x : Vec Ideal S256x2048 .f32) (p : Fin 256) (q : Fin 1024) : hi x (ix2 p q) = x (ix2 p (right q)) := by
  unfold hi Rms.right
  pointwise

section

variable (d : Vec Ideal S256x2048 .f32) (y l x : Vec Ideal S256x1024 .f32) (g : Vec Ideal S1x1024 .f32) (p : Fin 256) (q : Fin 1024)

theorem pay_gelu : k0_pay6 y (ix2 p q) = gelu (y (ix2 p q)) := by
  pointwise [k0_pay6]
  simp only [Gate.ofBits_half, Gate.ofBits_gk]
  rfl

theorem pay_sg : k0_pay7 l (ix2 p q) = sg (l (ix2 p q)) := by
  pointwise [k0_pay7]
  simp only [Gate.ofBits_half]
  rfl

theorem pay_prod : k0_pay8 y l (ix2 p q) = prod y l p q := by
  pointwise [k0_pay8]
  rw [pay_gelu, pay_sg]
  rfl

theorem pay_rs : k0_pay9 y l (ix2 p 0) = Rms.rs (prod y l p) := by
  pointwise [k0_pay9]
  simp only [Gate.ofBits_1024, Gate.ofBits_eps, pay_prod]
  rfl

theorem pay_hat : k0_pay10 y l (ix2 p q) = prod y l p q * Rms.rs (prod y l p) := by
  rw [← pay_rs, ← pay_prod]
  pointwise [k0_pay10]

theorem pay_gain : k0_pay11 y l (lo d) (ix2 0 q) = ∑ p : Fin 256, d (ix2 p (left q)) * (prod y l p q * Rms.rs (prod y l p)) := by
  pointwise [k0_pay11]
  exact Finset.sum_congr rfl fun p _ => by rw [pay_hat, lo_apply]

theorem pay_cot : k0_pay12 (lo d) g (ix2 p q) = cot left d g p q := by
  pointwise [k0_pay12]
  rw [lo_apply]
  rfl

theorem pay_dx : k0_pay13 (k0_pay9 y l) (k0_pay10 y l) (k0_pay12 (lo d) g) (ix2 p q) = Rms.dx (prod y l p) (cot left d g p) q := by
  pointwise [k0_pay13]
  simp only [Gate.ofBits_1024, pay_rs, pay_hat, pay_cot]
  rfl

theorem pay_dy : k0_pay14 (k0_pay7 l) (k0_pay9 y l) (k0_pay10 y l) (k0_pay12 (lo d) g) (ix2 p q)
    = Rms.dx (prod y l p) (cot left d g p) q * sg (l (ix2 p q)) := by
  rw [← pay_dx, ← pay_sg]
  pointwise [k0_pay14]

theorem pay_dl : k0_pay15 (k0_pay6 y) (k0_pay7 l) (k0_pay9 y l) (k0_pay10 y l) (k0_pay12 (lo d) g) (ix2 p q)
    = Rms.dx (prod y l p) (cot left d g p) q * gelu (y (ix2 p q)) * sg (l (ix2 p q)) * (1 - sg (l (ix2 p q))) := by
  rw [← pay_dx, ← pay_sg, ← pay_gelu]
  pointwise [k0_pay15]

theorem pay_rs' : k0_pay16 x (ix2 p 0) = Rms.rs (fun k : Fin 1024 => x (ix2 p k)) := by
  pointwise [k0_pay16]
  simp only [Gate.ofBits_1024, Gate.ofBits_eps]
  rfl

theorem pay_hat' : k0_pay17 x (ix2 p q) = x (ix2 p q) * Rms.rs (fun k : Fin 1024 => x (ix2 p k)) := by
  rw [← pay_rs']
  pointwise [k0_pay17]

theorem pay_gain' : k0_pay18 (hi d) x (ix2 0 q)
    = ∑ p : Fin 256, d (ix2 p (right q)) * (x (ix2 p q) * Rms.rs (fun k : Fin 1024 => x (ix2 p k))) := by
  pointwise [k0_pay18]
  exact Finset.sum_congr rfl fun p _ => by rw [pay_hat', hi_apply]

theorem pay_cot' : k0_pay19 (hi d) g (ix2 p q) = cot right d g p q := by
  pointwise [k0_pay19]
  rw [hi_apply]
  rfl

theorem pay_dx' : k0_pay1 (k0_pay16 x) (k0_pay17 x) (k0_pay19 (hi d) g) (k0_pay20 (hi d) x g) (ix2 p q)
    = Rms.dx (fun k : Fin 1024 => x (ix2 p k)) (cot right d g p) q := by
  pointwise [k0_pay1, k0_pay20]
  simp only [Gate.ofBits_1024, pay_rs', pay_hat', pay_cot']
  rfl

end

/-! ## What a point's stores leave -/

section

variable (c : Dev nD) (i : grid0.Coords) (arg1 : Memref sig .tc .vmem S256x2048 .f32) (harg1 : arg1.IsWhole)
  (arg2 : Memref sig .tc .vmem S256x1024 .f32) (harg2 : arg2.IsWhole) (arg3 : Memref sig .tc .vmem S256x1024 .f32)
  (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S1x1024 .f32)
  (harg6 : arg6.IsWhole) (arg7 : Memref sig .tc .vmem S256x1024 .f32) (harg7 : arg7.IsWhole)
  (arg8 : Memref sig .tc .vmem S256x1024 .bf16) (harg8 : arg8.IsWhole) (arg9 : Memref sig .tc .vmem S256x1024 .f32)
  (harg9 : arg9.IsWhole) (arg10 : Memref sig .tc .vmem S1x1024 .f32) (harg10 : arg10.IsWhole)
  (arg11 : Memref sig .tc .vmem S1x1024 .f32) (harg11 : arg11.IsWhole)
  (x0 : Vec Ideal S256x2048 .f32) (x1 x2 x3 : Vec Ideal S256x1024 .f32) (x4 x5 xo9 xo10 : Vec Ideal S1x1024 .f32)

/-- The three blocks a point writes whole. -/
def rows : Vec Ideal S256x1024 .f32 × Vec Ideal S256x1024 .bf16 × Vec Ideal S256x1024 .f32 :=
  (k0_pay14 (k0_pay7 x2) (k0_pay9 x1 x2) (k0_pay10 x1 x2) (k0_pay12 (lo x0) x4),
    k0_pay15 (k0_pay6 x1) (k0_pay7 x2) (k0_pay9 x1 x2) (k0_pay10 x1 x2) (k0_pay12 (lo x0) x4),
    k0_pay1 (k0_pay16 x3) (k0_pay17 x3) (k0_pay19 (hi x0) x5) (k0_pay20 (hi x0) x3 x5))

theorem rows_A (hc0 : cond0_0 i) :
    (out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5,
      out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5,
      out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5)
      = rows x0 x1 x2 x3 x4 x5 := by
  unfold out0_A_6 out0_A_7 out0_A_8
  simp only [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread]
  simp (disch := decide) only [View.canon_cons_unit_lit, View.ld_unit_lit _ x1, View.ld_unit_lit _ x2, View.ld_unit_lit _ x3,
    View.ld_unit_lit _ x4, View.ld_unit_lit _ x5]
  rfl

theorem rows_B (hc0 : ¬cond0_0 i) :
    (out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10,
      out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10,
      out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10)
      = rows x0 x1 x2 x3 x4 x5 := by
  unfold out0_B_6 out0_B_7 out0_B_8
  simp only [View.read_writes_junk_eq_canon]
  unfold kernelRun0_B
  dsimp only
  sl_unfold_words
  simp (disch := decide) only [View.readAt_eq_ld, harg1.read_unread, harg2.read_unread, harg3.read_unread, harg4.read_unread, harg5.read_unread, harg6.read_unread]
  simp (disch := decide) only [View.canon_cons_unit_lit, View.ld_unit_lit _ x1, View.ld_unit_lit _ x2, View.ld_unit_lit _ x3,
    View.ld_unit_lit _ x4, View.ld_unit_lit _ x5]
  rfl

/-- The two rows a point accumulates, over what it finds in them. -/
def sums (b9 b10 : Vec Ideal S1x1024 .f32) : Vec Ideal S1x1024 .f32 × Vec Ideal S1x1024 .f32 :=
  (k0_pay4 (k0_pay11 x1 x2 (lo x0)) b9, k0_pay5 (k0_pay18 (hi x0) x3) b10)

theorem sums_A (hc0 : cond0_0 i) :
    (out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5,
      out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5)
      = sums x0 x1 x2 x3 (k0_pay2 (F := Ideal)) (k0_pay3 (F := Ideal)) := by
  unfold out0_A_9 out0_A_10
  simp only [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg4.read_unread, harg5.read_unread, harg6.read_unread, harg10.read_unread, harg11.read_unread]
  simp (disch := decide) only [View.canon_cons_unit_lit, View.ld_unit_lit _ x1, View.ld_unit_lit _ x2, View.ld_unit_lit _ x3]
  rfl

theorem sums_B (hc0 : ¬cond0_0 i) :
    (out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10,
      out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10)
      = sums x0 x1 x2 x3 xo9 xo10 := by
  unfold out0_B_9 out0_B_10
  simp only [View.read_writes_junk_eq_canon]
  unfold kernelRun0_B
  dsimp only
  sl_unfold_words
  simp (disch := decide) only [View.readAt_eq_ld, harg1.read_unread, harg2.read_unread, harg3.read_unread, harg4.read_unread, harg5.read_unread, harg6.read_unread, harg10.read_unread, harg11.read_unread]
  simp (disch := decide) only [View.canon_cons_unit_lit, View.ld_unit_lit _ x1, View.ld_unit_lit _ x2, View.ld_unit_lit _ x3,
    View.ld_unit_lit _ xo9, View.ld_unit_lit _ xo10]
  rfl

end

/-! ## The results, element by element -/

/-- The scan output's gradient. -/
def specY (d : S4096x2048.Idx → EReal) (y l : S4096x1024.Idx → EReal) (g : S1x1024.Idx → EReal) (z : S4096x1024.Idx) : EReal :=
  Rms.dx (prod (n := 4096) y l (z 0)) (cot left d g (z 0)) (z 1) * sg (l (ix2 (z 0) (z 1)))

/-- The gate's gradient. -/
def specL (d : S4096x2048.Idx → EReal) (y l : S4096x1024.Idx → EReal) (g : S1x1024.Idx → EReal) (z : S4096x1024.Idx) : EReal :=
  Rms.dx (prod (n := 4096) y l (z 0)) (cot left d g (z 0)) (z 1) * gelu (y (ix2 (z 0) (z 1))) * sg (l (ix2 (z 0) (z 1)))
    * (1 - sg (l (ix2 (z 0) (z 1))))

/-- The other branch's gradient. -/
def specX (d : S4096x2048.Idx → EReal) (x : S4096x1024.Idx → EReal) (g : S1x1024.Idx → EReal) (z : S4096x1024.Idx) : EReal :=
  Rms.dx (fun k : Fin 1024 => x (ix2 (z 0) k)) (cot (n := 4096) right d g (z 0)) (z 1)

/-- A row's term of the first gain's gradient. -/
def gainS (d : S4096x2048.Idx → EReal) (y l : S4096x1024.Idx → EReal) (q : Fin 1024) (i : Fin 4096) : EReal :=
  d (ix2 i (left q)) * (prod y l i q * Rms.rs (prod y l i))

/-- A row's term of the second gain's gradient. -/
def gainG (d : S4096x2048.Idx → EReal) (x : S4096x1024.Idx → EReal) (q : Fin 1024) (i : Fin 4096) : EReal :=
  d (ix2 i (right q)) * (x (ix2 i q) * Rms.rs (fun k : Fin 1024 => x (ix2 i k)))

/-! ## The kernel's arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 256) : Fin 4096 :=
  ⟨t.val * 256 + p.val, by have := t.isLt; have : cfg0.N = 16 := N_0; omega⟩

theorem iblk0 (t : Fin cfg0.N) (p : Fin 256) (q : Fin 2048) :
    (iblk m c 0 t : S256x2048.Idx → EReal) (ix2 p q) = (m ((c : Thread nD τ).loc main_arg0) : S4096x2048.Idx → EReal) (ix2 (row t p) q) := by
  blk_simp [iblk, idx0]
  refine congrArg (m ((c : Thread nD τ).loc main_arg0)) ?_
  blk_ext [idx0, row]

theorem iblk1 (t : Fin cfg0.N) (p : Fin 256) (q : Fin 1024) :
    (iblk m c 1 t : S256x1024.Idx → EReal) (ix2 p q) = (m ((c : Thread nD τ).loc main_arg1) : S4096x1024.Idx → EReal) (ix2 (row t p) q) := by
  blk_simp [iblk, idx1]
  refine congrArg (m ((c : Thread nD τ).loc main_arg1)) ?_
  blk_ext [idx1, row]

theorem iblk2 (t : Fin cfg0.N) (p : Fin 256) (q : Fin 1024) :
    (iblk m c 2 t : S256x1024.Idx → EReal) (ix2 p q) = (m ((c : Thread nD τ).loc main_arg2) : S4096x1024.Idx → EReal) (ix2 (row t p) q) := by
  blk_simp [iblk, idx2]
  refine congrArg (m ((c : Thread nD τ).loc main_arg2)) ?_
  blk_ext [idx2, row]

theorem iblk3 (t : Fin cfg0.N) (p : Fin 256) (q : Fin 1024) :
    (iblk m c 3 t : S256x1024.Idx → EReal) (ix2 p q) = (m ((c : Thread nD τ).loc main_arg3) : S4096x1024.Idx → EReal) (ix2 (row t p) q) := by
  blk_simp [iblk, idx3]
  refine congrArg (m ((c : Thread nD τ).loc main_arg3)) ?_
  blk_ext [idx3, row]

theorem iblk4 (t : Fin cfg0.N) (q : Fin 1024) :
    (iblk m c 4 t : S1x1024.Idx → EReal) (ix2 0 q) = (m ((c : Thread nD τ).loc main_arg4) : S1x1024.Idx → EReal) (ix2 0 q) := by
  blk_simp [iblk, idx4]
  refine congrArg (m ((c : Thread nD τ).loc main_arg4)) ?_
  blk_ext [idx4]

theorem iblk5 (t : Fin cfg0.N) (q : Fin 1024) :
    (iblk m c 5 t : S1x1024.Idx → EReal) (ix2 0 q) = (m ((c : Thread nD τ).loc main_arg5) : S1x1024.Idx → EReal) (ix2 0 q) := by
  blk_simp [iblk, idx5]
  refine congrArg (m ((c : Thread nD τ).loc main_arg5)) ?_
  blk_ext [idx5]

/-- The scan output's gradient as the arguments in memory give it. -/
def GY : S4096x1024.Idx → EReal :=
  specY (m ((c : Thread nD τ).loc main_arg0)) (m ((c : Thread nD τ).loc main_arg1)) (m ((c : Thread nD τ).loc main_arg2))
    (m ((c : Thread nD τ).loc main_arg4))

/-- The gate's gradient as the arguments in memory give it. -/
def GD : S4096x1024.Idx → EReal :=
  specL (m ((c : Thread nD τ).loc main_arg0)) (m ((c : Thread nD τ).loc main_arg1)) (m ((c : Thread nD τ).loc main_arg2))
    (m ((c : Thread nD τ).loc main_arg4))

/-- The other branch's gradient as the arguments in memory give it. -/
def GX : S4096x1024.Idx → EReal :=
  specX (m ((c : Thread nD τ).loc main_arg0)) (m ((c : Thread nD τ).loc main_arg3)) (m ((c : Thread nD τ).loc main_arg5))

/-- A row's terms of the gains' gradients as the arguments in memory give them. -/
def GS (q : Fin 1024) : Fin 4096 → EReal :=
  gainS (m ((c : Thread nD τ).loc main_arg0)) (m ((c : Thread nD τ).loc main_arg1)) (m ((c : Thread nD τ).loc main_arg2)) q
def GG (q : Fin 1024) : Fin 4096 → EReal :=
  gainG (m ((c : Thread nD τ).loc main_arg0)) (m ((c : Thread nD τ).loc main_arg3)) q

theorem prod_blk (t : Fin cfg0.N) (p : Fin 256) : prod (n := 256) (iblk m c 1 t) (iblk m c 2 t) p
    = prod (n := 4096) (m ((c : Thread nD τ).loc main_arg1)) (m ((c : Thread nD τ).loc main_arg2)) (row t p) := by
  funext k
  show gelu _ * sg _ = gelu _ * sg _
  rw [iblk1, iblk2]

theorem cot_blk (h : Fin 1024 → Fin 2048) (t : Fin cfg0.N) (p : Fin 256) : cot (n := 256) h (iblk m c 0 t) (iblk m c 4 t) p
    = cot (n := 4096) h (m ((c : Thread nD τ).loc main_arg0)) (m ((c : Thread nD τ).loc main_arg4)) (row t p) := by
  funext k
  unfold cot
  rw [iblk0, iblk4]

theorem cot_blk' (h : Fin 1024 → Fin 2048) (t : Fin cfg0.N) (p : Fin 256) : cot (n := 256) h (iblk m c 0 t) (iblk m c 5 t) p
    = cot (n := 4096) h (m ((c : Thread nD τ).loc main_arg0)) (m ((c : Thread nD τ).loc main_arg5)) (row t p) := by
  funext k
  unfold cot
  rw [iblk0, iblk5]

/-- The blocks of point `t`, read whole. -/
def blkRows (t : Fin cfg0.N) : Vec Ideal S256x1024 .f32 × Vec Ideal S256x1024 .bf16 × Vec Ideal S256x1024 .f32 :=
  rows (iblk m c 0 t) (iblk m c 1 t) (iblk m c 2 t) (iblk m c 3 t) (iblk m c 4 t) (iblk m c 5 t)

theorem blkY (t : Fin cfg0.N) (p : Fin 256) (q : Fin 1024) : (blkRows m c t).1 (ix2 p q) = GY m c (ix2 (row t p) q) := by
  refine (pay_dy _ _ _ _ p q).trans ?_
  rw [prod_blk, cot_blk, iblk2]
  rfl

theorem blkL (t : Fin cfg0.N) (p : Fin 256) (q : Fin 1024) : (blkRows m c t).2.1 (ix2 p q) = GD m c (ix2 (row t p) q) := by
  refine (pay_dl _ _ _ _ p q).trans ?_
  rw [prod_blk, cot_blk, iblk1, iblk2]
  rfl

theorem blkX (t : Fin cfg0.N) (p : Fin 256) (q : Fin 1024) : (blkRows m c t).2.2 (ix2 p q) = GX m c (ix2 (row t p) q) := by
  refine (pay_dx' _ _ _ p q).trans ?_
  rw [cot_blk']
  simp only [iblk3]
  rfl

theorem blkS (t : Fin cfg0.N) (q : Fin 1024) :
    k0_pay11 (F := Ideal) (iblk m c 1 t) (iblk m c 2 t) (lo (iblk m c 0 t)) (ix2 0 q) = ∑ p : Fin 256, GS m c q (row t p) := by
  refine (pay_gain _ _ _ q).trans ?_
  simp only [prod_blk, iblk0]
  rfl

theorem blkG (t : Fin cfg0.N) (q : Fin 1024) :
    k0_pay18 (F := Ideal) (hi (iblk m c 0 t)) (iblk m c 3 t) (ix2 0 q) = ∑ p : Fin 256, GG m c q (row t p) := by
  refine (pay_gain' _ _ q).trans ?_
  simp only [iblk0, iblk3]
  rfl

theorem at_rows (t : Fin cfg0.N) :
    ((outsAt0 m c t.val t.isLt).1, (outsAt0 m c t.val t.isLt).2.1, (outsAt0 m c t.val t.isLt).2.2.1) = blkRows m c t := by
  by_cases h0 : t.val % 16 = 0
  · rw [outsAt0_A m c t h0]
    dsimp only
    rw [rows_A]
    rfl
  · rw [outsAt0_B m c t h0]
    dsimp only
    rw [rows_B]
    rfl

theorem step (f : Fin 4096 → EReal) (t : Fin cfg0.N) :
    Rms.upto f (256 * (t.val + 1)) = Rms.upto f (256 * t.val) + ∑ p : Fin 256, f (row t p) := by
  have hN : cfg0.N = 16 := N_0
  have := t.isLt
  rw [show 256 * (t.val + 1) = 256 * t.val + 256 by omega, Rms.upto_add _ _ _ (by omega)]
  congr 1
  exact Finset.sum_congr rfl fun p _ => congrArg f (Fin.ext (by show 256 * t.val + p.val = t.val * 256 + p.val; omega))

theorem at_sums : ∀ (n : ℕ) (hn : n < cfg0.N) (q : Fin 1024),
    ((outsAt0 m c n hn).2.2.2.1 : S1x1024.Idx → EReal) (ix2 0 q) = Rms.upto (GS m c q) (256 * (n + 1))
      ∧ ((outsAt0 m c n hn).2.2.2.2 : S1x1024.Idx → EReal) (ix2 0 q) = Rms.upto (GG m c q) (256 * (n + 1)) := by
  intro n
  induction n with
  | zero =>
    intro hn q
    have e := outsAt0_A m c ⟨0, hn⟩ rfl
    have s := Prod.ext_iff.1 (sums_A c (grid0.coords ⟨0, hn⟩) _ (hs0_0 ⟨0, hn⟩) _ (hs0_1 ⟨0, hn⟩) _ (hs0_2 ⟨0, hn⟩) _ (hs0_3 ⟨0, hn⟩)
      _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩)
      (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
      ((hcond0_0 ⟨0, hn⟩).mpr rfl))
    rw [show outsAt0 m c 0 hn = _ from e, step (GS m c q) ⟨0, hn⟩, step (GG m c q) ⟨0, hn⟩, ← blkS, ← blkG]
    constructor
    · refine (congrFun s.1 (ix2 0 q)).trans ?_
      dsimp only [sums]
      pointwise [k0_pay4, k0_pay2]
      rw [Rms.upto_zero]
      exact (zero_add _).symm
    · refine (congrFun s.2 (ix2 0 q)).trans ?_
      dsimp only [sums]
      pointwise [k0_pay5, k0_pay3]
      rw [Rms.upto_zero]
      exact (zero_add _).symm
  | succ n ih =>
    intro hn q
    have hN : cfg0.N = 16 := N_0
    have h0 : ¬ (n + 1) % 16 = 0 := by omega
    have e := outsAt0_B m c ⟨n + 1, hn⟩ h0
    obtain ⟨i1, i2⟩ := ih (Nat.lt_of_succ_lt hn) q
    have s := Prod.ext_iff.1 (sums_B c (grid0.coords ⟨n + 1, hn⟩) _ (hs0_0 ⟨n + 1, hn⟩) _ (hs0_1 ⟨n + 1, hn⟩) _ (hs0_2 ⟨n + 1, hn⟩)
      _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩)
      _ (hs0_9 ⟨n + 1, hn⟩) _ (hs0_10 ⟨n + 1, hn⟩)
      (iblk m c 0 ⟨n + 1, hn⟩) (iblk m c 1 ⟨n + 1, hn⟩) (iblk m c 2 ⟨n + 1, hn⟩) (iblk m c 3 ⟨n + 1, hn⟩) (iblk m c 4 ⟨n + 1, hn⟩)
      (iblk m c 5 ⟨n + 1, hn⟩) (outsAt0 m c n (Nat.lt_of_succ_lt hn)).2.2.2.1 (outsAt0 m c n (Nat.lt_of_succ_lt hn)).2.2.2.2
      (fun h => h0 ((hcond0_0 ⟨n + 1, hn⟩).mp h)))
    rw [show outsAt0 m c (n + 1) hn = _ from e, step (GS m c q) ⟨n + 1, hn⟩, step (GG m c q) ⟨n + 1, hn⟩, ← blkS, ← blkG, ← i1, ← i2]
    constructor
    · refine (congrFun s.1 (ix2 0 q)).trans ?_
      dsimp only [sums]
      pointwise [k0_pay4]
    · refine (congrFun s.2 (ix2 0 q)).trans ?_
      dsimp only [sums]
      pointwise [k0_pay5]

theorem arr6 : ((dats m 0 c).arrAt 6 cfg0.N : S4096x1024.Idx → EReal) = GY m c := by
  refine (dats m 0 c).arrAt_eq_of_covers 6 _ (by decide +kernel) fun t hf y => ?_
  rw [after0_6]
  obtain ⟨p, q, rfl⟩ : ∃ (p : Fin 256) (q : Fin 1024), y = ix2 p q := ⟨y 0, y 1, eq_ix2 y⟩
  refine (congrFun (congrArg (·.1) (at_rows m c t)) (ix2 p q)).trans ((blkY m c t p q).trans ?_)
  blk_simp [idx6]
  refine congrArg (GY m c) ?_
  blk_ext [idx6, row]

theorem arr7 : ((dats m 0 c).arrAt 7 cfg0.N : S4096x1024.Idx → EReal) = GD m c := by
  refine (dats m 0 c).arrAt_eq_of_covers 7 _ (by decide +kernel) fun t hf y => ?_
  rw [after0_7]
  obtain ⟨p, q, rfl⟩ : ∃ (p : Fin 256) (q : Fin 1024), y = ix2 p q := ⟨y 0, y 1, eq_ix2 y⟩
  refine (congrFun (congrArg (·.2.1) (at_rows m c t)) (ix2 p q)).trans ((blkL m c t p q).trans ?_)
  blk_simp [idx7]
  refine congrArg (GD m c) ?_
  blk_ext [idx7, row]

theorem arr8 : ((dats m 0 c).arrAt 8 cfg0.N : S4096x1024.Idx → EReal) = GX m c := by
  refine (dats m 0 c).arrAt_eq_of_covers 8 _ (by decide +kernel) fun t hf y => ?_
  rw [after0_8]
  obtain ⟨p, q, rfl⟩ : ∃ (p : Fin 256) (q : Fin 1024), y = ix2 p q := ⟨y 0, y 1, eq_ix2 y⟩
  refine (congrFun (congrArg (·.2.2) (at_rows m c t)) (ix2 p q)).trans ((blkX m c t p q).trans ?_)
  blk_simp [idx8]
  refine congrArg (GX m c) ?_
  blk_ext [idx8, row]

theorem arr9 : ((dats m 0 c).arrAt 9 cfg0.N : S1x1024.Idx → EReal) = fun y => ∑ i, GS m c (y 1) i := by
  funext y
  obtain ⟨z, q, rfl⟩ : ∃ (z : Fin 1) (q : Fin 1024), y = ix2 z q := ⟨y 0, y 1, eq_ix2 y⟩
  obtain rfl : z = 0 := Subsingleton.elim _ _
  refine ((dats m 0 c).arrAt_emb_eq_after_last 9 ⟨15, by decide⟩ (by decide +kernel) (ix2 0 q)).trans ?_
  rw [after0_9]
  exact (at_sums m c 15 (by decide) q).1.trans (Rms.upto_all _)

theorem arr10 : ((dats m 0 c).arrAt 10 cfg0.N : S1x1024.Idx → EReal) = fun y => ∑ i, GG m c (y 1) i := by
  funext y
  obtain ⟨z, q, rfl⟩ : ∃ (z : Fin 1) (q : Fin 1024), y = ix2 z q := ⟨y 0, y 1, eq_ix2 y⟩
  obtain rfl : z = 0 := Subsingleton.elim _ _
  refine ((dats m 0 c).arrAt_emb_eq_after_last 10 ⟨15, by decide⟩ (by decide +kernel) (ix2 0 q)).trans ?_
  rw [after0_10]
  exact (at_sums m c 15 (by decide) q).2.trans (Rms.upto_all _)

/-! ## The reference's arrays -/

section

open Cert.Reference24Ideal.Read

variable (d : FVec Ideal S4096x2048 .f32) (y l x : FVec Ideal S4096x1024 .f32) (g : FVec Ideal S1x1024 .f32) (i : Fin 4096) (k : Fin 1024)

theorem ref_gelu : val_main_v12 (F := Ideal) y (ix2 i k) = gelu (y (ix2 i k)) := by
  pointwise [val_main_v12, val_main_v11, val_main_v10, val_main_cst_2, val_main_v9, val_main_v8, val_main_cst_1, val_main_v7, val_main_v6,
    val_main_v5, val_main_cst_0, val_main_v4, val_main_v3, val_main_v2, val_main_cst, val_main_v1, val_main_v0]
  simp only [Gate.ofBits_half, Gate.ofBits_gk]
  exact gelu_eq _

theorem ref_sg : val_main_v18 (F := Ideal) l (ix2 i k) = sg (l (ix2 i k)) := by
  pointwise [val_main_v18, val_main_v17, val_main_cst_4, val_main_v16, val_main_v15, val_main_cst_3, val_main_v14, val_main_v13]
  exact Silu.logistic _

theorem ref_prod : val_main_v22 (F := Ideal) y l (ix2 i k) = prod y l i k := by
  pointwise [val_main_v22]
  rw [ref_gelu, ref_sg]
  rfl

theorem ref_ms : val_main_v29 (F := Ideal) y l (ix2 i 0) = Rms.ms (prod y l i) := by
  pointwise [val_main_v29, val_main_v28, val_main_cst_8, val_main_v27, val_main_v26, val_main_cst_7, val_main_v25, val_main_v24,
    val_main_cst_6, val_main_v23]
  simp only [Gate.ofBits_1024, Gate.ofBits_eps, Gate.ofBits_zero, ref_prod]
  rfl

theorem ref_rs : val_main_v30 (F := Ideal) y l (ix2 i 0) = Rms.rs (prod y l i) := by
  rw [Rms.rs, ← ref_ms]
  pointwise [val_main_v30]

theorem ref_cot : val_main_v79 (F := Ideal) d g (ix2 i k) = cot left d g i k := by
  pointwise [val_main_v79, val_main_v78, val_main_v54]
  rfl

theorem ref_d : val_main_v88 (F := Ideal) d y l g (ix1 i)
    = Ideal.div ((∑ k : Fin 1024, prod y l i k * cot left d g i k)
        * (((-(1 / 2) : ℝ) : EReal) * Ideal.div (Rms.rs (prod y l i)) (Rms.ms (prod y l i)))) ((1024 : ℝ) : EReal) := by
  rw [← ref_ms, ← ref_rs]
  pointwise [val_main_v88, val_main_cst_21, val_main_v87, val_main_v86, val_main_cst_20, val_main_v85, val_main_v82, val_main_v81,
    val_main_cst_19, val_main_v80, val_main_v33, val_main_v32, val_main_cst_9, val_main_v31]
  simp only [Gate.ofBits_1024, Gate.ofBits_neg_half, Gate.ofBits_zero, ref_prod, ref_cot]
  exact Fin.sum_univ_one _

theorem ref_dx : val_main_v93 (F := Ideal) d y l g (ix2 i k) = Rms.dx (prod y l i) (cot left d g i) k := by
  refine Eq.trans ?_ (Rms.vjp (by decide) (prod y l i) (cot left d g i) k)
  pointwise [val_main_v93, val_main_v92, val_main_v91, val_main_v90, val_main_v89, val_main_v84, val_main_v83]
  rw [ref_rs, ref_d, ref_prod, ref_cot]
  rfl

theorem ref_ms' : val_main_v44 (F := Ideal) x (ix2 i 0) = Rms.ms (fun k : Fin 1024 => x (ix2 i k)) := by
  pointwise [val_main_v44, val_main_v43, val_main_cst_12, val_main_v42, val_main_v41, val_main_cst_11, val_main_v40, val_main_v39,
    val_main_cst_10, val_main_v38]
  simp only [Gate.ofBits_1024, Gate.ofBits_eps, Gate.ofBits_zero]
  rfl

theorem ref_rs' : val_main_v45 (F := Ideal) x (ix2 i 0) = Rms.rs (fun k : Fin 1024 => x (ix2 i k)) := by
  rw [Rms.rs, ← ref_ms']
  pointwise [val_main_v45]

theorem ref_cot' : val_main_v60 (F := Ideal) d g (ix2 i k) = cot right d g i k := by
  pointwise [val_main_v60, val_main_v59, val_main_v55]
  rfl

theorem ref_d' : val_main_v69 (F := Ideal) d x g (ix1 i)
    = Ideal.div ((∑ k : Fin 1024, x (ix2 i k) * cot right d g i k)
        * (((-(1 / 2) : ℝ) : EReal) * Ideal.div (Rms.rs (fun k : Fin 1024 => x (ix2 i k))) (Rms.ms (fun k : Fin 1024 => x (ix2 i k)))))
        ((1024 : ℝ) : EReal) := by
  rw [← ref_ms', ← ref_rs']
  pointwise [val_main_v69, val_main_cst_17, val_main_v68, val_main_v67, val_main_cst_16, val_main_v66, val_main_v63, val_main_v62,
    val_main_cst_15, val_main_v61, val_main_v48, val_main_v47, val_main_cst_13, val_main_v46]
  simp only [Gate.ofBits_1024, Gate.ofBits_neg_half, Gate.ofBits_zero, ref_cot']
  exact Fin.sum_univ_one _

theorem ref_X : val_main_v74 (F := Ideal) d x g = specX d x g := by
  funext z
  obtain ⟨i, k, rfl⟩ : ∃ (i : Fin 4096) (k : Fin 1024), z = ix2 i k := ⟨z 0, z 1, eq_ix2 z⟩
  refine Eq.trans ?_ (Rms.vjp (by decide) (fun k : Fin 1024 => x (ix2 i k)) (cot right d g i) k)
  pointwise [val_main_v74, val_main_v73, val_main_v72, val_main_v71, val_main_v70, val_main_v65, val_main_v64]
  rw [ref_rs', ref_d', ref_cot']
  rfl

theorem ref_Y : val_main_v95 (F := Ideal) d y l g = specY d y l g := by
  funext z
  obtain ⟨i, k, rfl⟩ : ∃ (i : Fin 4096) (k : Fin 1024), z = ix2 i k := ⟨z 0, z 1, eq_ix2 z⟩
  pointwise [val_main_v95]
  rw [ref_dx, ref_sg]
  rfl

theorem ref_L : val_main_v97 (F := Ideal) d y l g = specL d y l g := by
  funext z
  obtain ⟨i, k, rfl⟩ : ∃ (i : Fin 4096) (k : Fin 1024), z = ix2 i k := ⟨z 0, z 1, eq_ix2 z⟩
  pointwise [val_main_v97, val_main_v96, val_main_v94, val_main_v21, val_main_v20, val_main_v19, val_main_cst_5]
  rw [ref_dx, ref_gelu, ref_sg, mul_comm (gelu _), ← mul_assoc]
  rfl

theorem ref_S : val_main_v77 (F := Ideal) d y l = fun z => ∑ i, gainS d y l (z 1) i := by
  funext z
  obtain ⟨u, q, rfl⟩ : ∃ (u : Fin 1) (q : Fin 1024), z = ix2 u q := ⟨z 0, z 1, eq_ix2 z⟩
  obtain rfl : u = 0 := Subsingleton.elim _ _
  pointwise [val_main_v77, val_main_v76, val_main_cst_18, val_main_v75, val_main_v35, val_main_v34, val_main_v54]
  simp only [Gate.ofBits_zero, ref_rs, ref_prod]
  exact Finset.sum_congr rfl fun i _ => mul_comm _ _

theorem ref_G : val_main_v58 (F := Ideal) d x = fun z => ∑ i, gainG d x (z 1) i := by
  funext z
  obtain ⟨u, q, rfl⟩ : ∃ (u : Fin 1) (q : Fin 1024), z = ix2 u q := ⟨z 0, z 1, eq_ix2 z⟩
  obtain rfl : u = 0 := Subsingleton.elim _ _
  pointwise [val_main_v58, val_main_v57, val_main_cst_14, val_main_v56, val_main_v50, val_main_v49, val_main_v55]
  simp only [Gate.ofBits_zero, ref_rs']
  exact Finset.sum_congr rfl fun i _ => mul_comm _ _

end

/-- Kernel and reference leave the same results and keep their arguments. -/
theorem algebraic : Cert.algebraic_Kernel24Ideal_Reference24Ideal := by
  intro m g m' g' hpre hargs
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, Cert.Kernel24Ideal.Value.run_blocks m g, ?_⟩
  refine (θ_run Cert.Reference24Ideal.defs _ _).mono (fun r h c => ?_) (Cert.Reference24Ideal.Value.run (F := Ideal) m' g')
  obtain ⟨h0, h1, h2, h3, h4, k⟩ := h c
  obtain ⟨e0, e1, e2, e3, e4, e5⟩ := hargs c
  refine ⟨h0.trans ?_, h1.trans ?_, h2.trans ?_, h3.trans ?_, h4.trans ?_, k⟩
  · refine (Cert.Reference24Ideal.Read.val_main_v95_eq m' c).trans ?_
    rw [e0, e1, e2, e4]
    exact (ref_Y _ _ _ _).trans (arr6 m c).symm
  · refine (Cert.Reference24Ideal.Read.val_main_v97_eq m' c).trans ?_
    rw [e0, e1, e2, e4]
    exact (ref_L _ _ _ _).trans (arr7 m c).symm
  · rw [e0, e3, e5]
    exact (Cert.Reference24Ideal.Read.val_main_v74_eq _ _ _).trans ((ref_X _ _ _).trans (arr8 m c).symm)
  · rw [e0, e1, e2]
    exact (Cert.Reference24Ideal.Read.val_main_v77_eq _ _ _).trans ((ref_S _ _ _).trans (arr9 m c).symm)
  · rw [e0, e3]
    exact (Cert.Reference24Ideal.Read.val_main_v58_eq _ _).trans ((ref_G _ _).trans (arr10 m c).symm)

end

end Ffn.MixBwd
-- ==== Proof.Norm.lean ====
module
public import proofs.«01_k».proof.Proof.Rms
public import proofs.«01_k».proof.Proof.Gen.Kernel25Ideal.Value
public import proofs.«01_k».proof.Proof.Gen.Reference25Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The root-mean-square norm -/

@[expose] public section

set_option maxRecDepth 16384

namespace Ffn.Norm

open Cert.Kernel25Ideal Cert.Kernel25Ideal.Gen Idealize.ShloMosaic Idealize.ShloMosaic.TcCoe Idealize.SL.Sem
open Idealize.ShloMosaic.Pipeline (Dat)

noncomputable section

/-- The normalised rows times the gain. -/
def spec (x : S4096x2048.Idx → EReal) (g : S1x2048.Idx → EReal) (y : S4096x2048.Idx) : EReal :=
  x (ix2 (y 0) (y 1)) * Rms.rs (fun k : Fin 2048 => x (ix2 (y 0) k)) * g (ix2 0 (y 1))

theorem pay (x : Vec Ideal S512x2048 .f32) (g : Vec Ideal S1x2048 .f32) (p : Fin 512) (q : Fin 2048) :
    k0_pay1 x g (ix2 p q) = x (ix2 p q) * Rms.rs (fun k : Fin 2048 => x (ix2 p k)) * g (ix2 0 q) := by
  pointwise [k0_pay1]
  simp only [Gate.ofBits_2048, Gate.ofBits_eps]
  rfl

theorem out (x : Vec Ideal S512x2048 .f32) (g : Vec Ideal S1x2048 .f32) : out0_2 x g = k0_pay1 x g := by
  unfold out0_2
  rw [View.canon_cons_unit_lit _ _ _ (by decide), View.ld_unit_lit _ x (by decide), View.ld_unit_lit _ g (by decide)]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 512) : Fin 4096 :=
  ⟨t.val * 512 + p.val, by have := t.isLt; have : cfg0.N = 8 := N_0; omega⟩

theorem iblk0 (t : Fin cfg0.N) (p : Fin 512) (q : Fin 2048) :
    (iblk m c 0 t : S512x2048.Idx → EReal) (ix2 p q) = (m ((c : Thread nD τ).loc main_arg0) : S4096x2048.Idx → EReal) (ix2 (row t p) q) := by
  blk_simp [iblk, idx0]
  refine congrArg (m ((c : Thread nD τ).loc main_arg0)) ?_
  blk_ext [idx0, row]

theorem iblk1 (t : Fin cfg0.N) (q : Fin 2048) :
    (iblk m c 1 t : S1x2048.Idx → EReal) (ix2 0 q) = (m ((c : Thread nD τ).loc main_arg1) : S1x2048.Idx → EReal) (ix2 0 q) := by
  blk_simp [iblk, idx1]
  refine congrArg (m ((c : Thread nD τ).loc main_arg1)) ?_
  blk_ext [idx1]

/-- The result as the arguments in memory give it. -/
def G : S4096x2048.Idx → EReal := spec (m ((c : Thread nD τ).loc main_arg0)) (m ((c : Thread nD τ).loc main_arg1))

theorem blk (t : Fin cfg0.N) (p : Fin 512) (q : Fin 2048) :
    out0_2 (F := Ideal) (iblk m c 0 t) (iblk m c 1 t) (ix2 p q) = G m c (ix2 (row t p) q) := by
  rw [out]
  refine (pay _ _ p q).trans ?_
  simp only [iblk0, iblk1]
  rfl

theorem arr : ((dats m 0 c).arrAt 2 cfg0.N : S4096x2048.Idx → EReal) = G m c := by
  have e : (dats m 0 c).arrAt 2 cfg0.N = (fun y : S4096x2048.Idx => G m c (ix2 (y 0) (y 1))) := by
    refine (dats m 0 c).arrAt_eq_of_covers 2 _ (by decide +kernel) fun t hf y => ?_
    rw [after0_2]
    obtain ⟨p, q, rfl⟩ : ∃ (p : Fin 512) (q : Fin 2048), y = ix2 p q := ⟨y 0, y 1, eq_ix2 y⟩
    have h := blk m c t
    generalize out0_2 (iblk m c 0 t) (iblk m c 1 t) = X at h ⊢
    refine (h p q).trans ?_
    generalize G m c = X
    blk_simp [idx2]
    refine congrArg X ?_
    blk_ext [idx2, row]
  refine e.trans (funext fun y => ?_)
  rw [← eq_ix2 y]

open Cert.Reference25Ideal.Read in
theorem ref (x : FVec Ideal S4096x2048 .f32) (g : FVec Ideal S1x2048 .f32) : val_main_v12 (F := Ideal) x g = spec x g := by
  funext y
  obtain ⟨p, q, rfl⟩ : ∃ (p : Fin 4096) (q : Fin 2048), y = ix2 p q := ⟨y 0, y 1, eq_ix2 y⟩
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  simp only [Gate.ofBits_2048, Gate.ofBits_eps, Gate.ofBits_zero]
  rfl

/-- Kernel and reference leave the same result and keep their arguments. -/
theorem algebraic : Cert.algebraic_Kernel25Ideal_Reference25Ideal := by
  intro m g m' g' hpre hargs
  refine ⟨fun c => (dats m 0 c).arrAt 2 cfg0.N, Cert.Kernel25Ideal.Value.run_blocks m g, ?_⟩
  refine (θ_run Cert.Reference25Ideal.defs _ _).mono (fun r h c => ?_) (Cert.Reference25Ideal.Value.run (F := Ideal) m' g')
  obtain ⟨h0, k⟩ := h c
  obtain ⟨e0, e1⟩ := hargs c
  refine ⟨h0.trans ?_, k⟩
  rw [e0, e1]
  exact (Cert.Reference25Ideal.Read.val_main_v12_eq _ _).trans ((ref _ _).trans (arr m c).symm)

end

end Ffn.Norm
-- ==== Proof.Mix.lean ====
module
public import proofs.«01_k».proof.Proof.Rms
public import proofs.«01_k».proof.Proof.Silu
public import proofs.«01_k».proof.Proof.Gen.Kernel26Ideal.Value
public import proofs.«01_k».proof.Proof.Gen.Reference26Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The mixing block's output: two normalised halves side by side -/

@[expose] public section

set_option maxRecDepth 16384

namespace Ffn.Mix

open Rms (gelu gelu_eq sg left right prod)
open Cert.Kernel26Ideal Cert.Kernel26Ideal.Gen Idealize.ShloMosaic Idealize.ShloMosaic.TcCoe Idealize.SL.Sem
open Idealize.ShloMosaic.Pipeline (Dat)

noncomputable section

/-- Two blocks of columns side by side. -/
def cat {n : ℕ} (f g : Fin n → Fin 1024 → EReal) (z : (⟨2, ![n, 2048]⟩ : Shape).Idx) : EReal :=
  if h : (z 1).val < 1024 then f (z 0) ⟨(z 1).val, h⟩ else g (z 0) ⟨(z 1).val - 1024, by have : (z 1).val < 2048 := (z 1).isLt; omega⟩

/-- A row, normalised, times the gain. -/
def unit (x : Fin 1024 → EReal) (g : S1x1024.Idx → EReal) (k : Fin 1024) : EReal := x k * Rms.rs x * g (ix2 0 k)

/-- A row of an array. -/
def rowOf {n : ℕ} (x : (⟨2, ![n, 1024]⟩ : Shape).Idx → EReal) (i : Fin n) (k : Fin 1024) : EReal := x (ix2 i k)

/-- The result from `n` rows. -/
def spec {n : ℕ} (y l x : (⟨2, ![n, 1024]⟩ : Shape).Idx → EReal) (gs gg : S1x1024.Idx → EReal) : (⟨2, ![n, 2048]⟩ : Shape).Idx → EReal :=
  cat (fun i => unit (prod y l i) gs) (fun i => unit (rowOf x i) gg)

section

variable {n : ℕ} (y l x : (⟨2, ![n, 1024]⟩ : Shape).Idx → EReal) (gs gg : S1x1024.Idx → EReal) (i : Fin n)

theorem spec_ix2 (q : Fin 2048) :
    spec y l x gs gg (ix2 i q)
      = if h : q.val < 1024 then unit (prod y l i) gs ⟨q.val, h⟩ else unit (rowOf x i) gg ⟨q.val - 1024, by omega⟩ := rfl

theorem spec_left (k : Fin 1024) : spec y l x gs gg (ix2 i ⟨k.val, by omega⟩) = unit (prod y l i) gs k :=
  (spec_ix2 y l x gs gg i _).trans (dif_pos k.isLt)

theorem spec_right (k : Fin 1024) : spec y l x gs gg (ix2 i ⟨k.val + 1024, by omega⟩) = unit (rowOf x i) gg k := by
  refine (spec_ix2 y l x gs gg i _).trans ((dif_neg (by simp)).trans (congrArg (unit (rowOf x i) gg) (Fin.ext ?_)))
  simp

end

section

variable (y l x : Vec Ideal S512x1024 .f32) (gs gg : Vec Ideal S1x1024 .f32) (p : Fin 512) (q : Fin 1024)

theorem pay2 : k0_pay2 y l gs (ix2 p q) = unit (prod y l p) gs q := by
  pointwise [k0_pay2]
  simp only [Gate.ofBits_1024, Gate.ofBits_eps, Gate.ofBits_half, Gate.ofBits_gk]
  rfl

theorem pay1 : k0_pay1 x gg (ix2 p q) = unit (rowOf x p) gg q := by
  pointwise [k0_pay1]
  simp only [Gate.ofBits_1024, Gate.ofBits_eps]
  rfl

theorem out : out0_5 y l x gs gg = spec (n := 512) y l x gs gg := by
  unfold out0_5
  rw [View.ld_unit_lit _ y (by decide), View.ld_unit_lit _ l (by decide), View.ld_unit_lit _ x (by decide),
    View.ld_unit_lit _ gs (by decide), View.ld_unit_lit _ gg (by decide)]
  funext z
  refine View.canon_append_of_piecesOf (Val := Elt Ideal) (e := .bf16) (s := S512x2048) (spec (n := 512) y l x gs gg) [] [_, _]
    ⟨fun w => ?_, fun w => ?_, trivial⟩ z (cover0_5 _ _ z)
  · obtain ⟨p, q, rfl⟩ : ∃ (p : Fin 512) (q : Fin 1024), w = ix2 p q := ⟨w 0, w 1, eq_ix2 w⟩
    refine (pay1 x gg p q).trans ?_
    have e : (r0_3 : Rect S512x2048).emb (ix2 p q) = ix2 p ⟨q.val + 1024, by omega⟩ := by
      rw [eq_ix2 ((r0_3 : Rect S512x2048).emb (ix2 p q))]
      refine congrArg₂ ix2 (Fin.ext ?_) (Fin.ext ?_) <;> simp [Rect.emb, Rect.unit, ix2, Nat.add_comm]
    exact (spec_right y l x gs gg p q).symm.trans (congrArg (spec (n := 512) y l x gs gg) e.symm)
  · obtain ⟨p, q, rfl⟩ : ∃ (p : Fin 512) (q : Fin 1024), w = ix2 p q := ⟨w 0, w 1, eq_ix2 w⟩
    refine (pay2 y l gs p q).trans ?_
    have e : (r0_2 : Rect S512x2048).emb (ix2 p q) = ix2 p ⟨q.val, by omega⟩ := by
      rw [eq_ix2 ((r0_2 : Rect S512x2048).emb (ix2 p q))]
      refine congrArg₂ ix2 (Fin.ext ?_) (Fin.ext ?_) <;> simp [Rect.emb, Rect.unit, ix2]
    exact (spec_left y l x gs gg p q).symm.trans (congrArg (spec (n := 512) y l x gs gg) e.symm)

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 512) : Fin 4096 :=
  ⟨t.val * 512 + p.val, by have := t.isLt; have : cfg0.N = 8 := N_0; omega⟩

theorem iblk0 (t : Fin cfg0.N) (p : Fin 512) (q : Fin 1024) :
    (iblk m c 0 t : S512x1024.Idx → EReal) (ix2 p q) = (m ((c : Thread nD τ).loc main_arg0) : S4096x1024.Idx → EReal) (ix2 (row t p) q) := by
  blk_simp [iblk, idx0]
  refine congrArg (m ((c : Thread nD τ).loc main_arg0)) ?_
  blk_ext [idx0, row]

theorem iblk1 (t : Fin cfg0.N) (p : Fin 512) (q : Fin 1024) :
    (iblk m c 1 t : S512x1024.Idx → EReal) (ix2 p q) = (m ((c : Thread nD τ).loc main_arg1) : S4096x1024.Idx → EReal) (ix2 (row t p) q) := by
  blk_simp [iblk, idx1]
  refine congrArg (m ((c : Thread nD τ).loc main_arg1)) ?_
  blk_ext [idx1, row]

theorem iblk2 (t : Fin cfg0.N) (p : Fin 512) (q : Fin 1024) :
    (iblk m c 2 t : S512x1024.Idx → EReal) (ix2 p q) = (m ((c : Thread nD τ).loc main_arg2) : S4096x1024.Idx → EReal) (ix2 (row t p) q) := by
  blk_simp [iblk, idx2]
  refine congrArg (m ((c : Thread nD τ).loc main_arg2)) ?_
  blk_ext [idx2, row]

theorem iblk3 (t : Fin cfg0.N) (q : Fin 1024) :
    (iblk m c 3 t : S1x1024.Idx → EReal) (ix2 0 q) = (m ((c : Thread nD τ).loc main_arg3) : S1x1024.Idx → EReal) (ix2 0 q) := by
  blk_simp [iblk, idx3]
  refine congrArg (m ((c : Thread nD τ).loc main_arg3)) ?_
  blk_ext [idx3]

theorem iblk4 (t : Fin cfg0.N) (q : Fin 1024) :
    (iblk m c 4 t : S1x1024.Idx → EReal) (ix2 0 q) = (m ((c : Thread nD τ).loc main_arg4) : S1x1024.Idx → EReal) (ix2 0 q) := by
  blk_simp [iblk, idx4]
  refine congrArg (m ((c : Thread nD τ).loc main_arg4)) ?_
  blk_ext [idx4]

/-- The result as the arguments in memory give it. -/
def G : S4096x2048.Idx → EReal :=
  spec (n := 4096) (m ((c : Thread nD τ).loc main_arg0)) (m ((c : Thread nD τ).loc main_arg1)) (m ((c : Thread nD τ).loc main_arg2))
    (m ((c : Thread nD τ).loc main_arg3)) (m ((c : Thread nD τ).loc main_arg4))

theorem blk (t : Fin cfg0.N) (p : Fin 512) (q : Fin 2048) :
    out0_5 (F := Ideal) (iblk m c 0 t) (iblk m c 1 t) (iblk m c 2 t) (iblk m c 3 t) (iblk m c 4 t) (ix2 p q) = G m c (ix2 (row t p) q) := by
  rw [out]
  have hS : prod (n := 512) (iblk m c 0 t) (iblk m c 1 t) p
      = prod (n := 4096) (m ((c : Thread nD τ).loc main_arg0)) (m ((c : Thread nD τ).loc main_arg1)) (row t p) := by
    funext k
    show gelu _ * sg _ = gelu _ * sg _
    rw [iblk0, iblk1]
  have hG : rowOf (n := 512) (iblk m c 2 t) p = rowOf (n := 4096) (m ((c : Thread nD τ).loc main_arg2)) (row t p) := by
    funext k
    exact iblk2 m c t p k
  refine (spec_ix2 (n := 512) _ _ _ _ _ p q).trans (Eq.trans ?_ (spec_ix2 (n := 4096) _ _ _ _ _ (row t p) q).symm)
  rw [hS, hG]
  unfold unit
  simp only [iblk3, iblk4]

theorem arr : ((dats m 0 c).arrAt 5 cfg0.N : S4096x2048.Idx → EReal) = G m c := by
  have e : (dats m 0 c).arrAt 5 cfg0.N = (fun y : S4096x2048.Idx => G m c (ix2 (y 0) (y 1))) := by
    refine (dats m 0 c).arrAt_eq_of_covers 5 _ (by decide +kernel) fun t hf y => ?_
    rw [after0_5]
    obtain ⟨p, q, rfl⟩ : ∃ (p : Fin 512) (q : Fin 2048), y = ix2 p q := ⟨y 0, y 1, eq_ix2 y⟩
    have h := blk m c t
    generalize out0_5 (iblk m c 0 t) (iblk m c 1 t) (iblk m c 2 t) (iblk m c 3 t) (iblk m c 4 t) = X at h ⊢
    refine (h p q).trans ?_
    generalize G m c = X
    blk_simp [idx5]
    refine congrArg X ?_
    blk_ext [idx5, row]
  refine e.trans (funext fun y => ?_)
  rw [← eq_ix2 y]

section

open Cert.Reference26Ideal.Read

variable (y l x : FVec Ideal S4096x1024 .f32) (gs gg : FVec Ideal S1x1024 .f32) (i : Fin 4096) (k : Fin 1024)

theorem ref_prod : val_main_v19 (F := Ideal) y l (ix2 i k) = prod y l i k := by
  pointwise [val_main_v19, val_main_v18, val_main_v17, val_main_cst_4, val_main_v16, val_main_v15, val_main_cst_3, val_main_v14, val_main_v13,
    val_main_v12, val_main_v11, val_main_v10, val_main_cst_2, val_main_v9, val_main_v8, val_main_cst_1, val_main_v7, val_main_v6,
    val_main_v5, val_main_cst_0, val_main_v4, val_main_v3, val_main_v2, val_main_cst, val_main_v1, val_main_v0]
  simp only [Gate.ofBits_half, Gate.ofBits_gk, Silu.logistic, gelu_eq]
  rfl

theorem ref_S : val_main_v31 (F := Ideal) y l gs (ix2 i k) = unit (prod y l i) gs k := by
  pointwise [val_main_v31, val_main_v30, val_main_v29, val_main_v28, val_main_v27, val_main_v26, val_main_v25, val_main_cst_7, val_main_v24,
    val_main_v23, val_main_cst_6, val_main_v22, val_main_v21, val_main_cst_5, val_main_v20]
  simp only [Gate.ofBits_1024, Gate.ofBits_eps, Gate.ofBits_zero, ref_prod]
  rfl

theorem ref_G : val_main_v43 (F := Ideal) x gg (ix2 i k) = unit (rowOf x i) gg k := by
  pointwise [val_main_v43, val_main_v42, val_main_v41, val_main_v40, val_main_v39, val_main_v38, val_main_v37, val_main_cst_10, val_main_v36,
    val_main_v35, val_main_cst_9, val_main_v34, val_main_v33, val_main_cst_8, val_main_v32]
  simp only [Gate.ofBits_1024, Gate.ofBits_eps, Gate.ofBits_zero]
  rfl

theorem ref : val_main_v45 (F := Ideal) y l x gs gg = spec (n := 4096) y l x gs gg := by
  funext z
  obtain ⟨i, q, rfl⟩ : ∃ (i : Fin 4096) (q : Fin 2048), z = ix2 i q := ⟨z 0, z 1, eq_ix2 z⟩
  pointwise [val_main_v45, val_main_v44]
  simp only [ref_S, ref_G]
  exact (spec_ix2 (n := 4096) y l x gs gg i q).symm

end

/-- Kernel and reference leave the same result and keep their arguments. -/
theorem algebraic : Cert.algebraic_Kernel26Ideal_Reference26Ideal := by
  intro m g m' g' hpre hargs
  refine ⟨fun c => (dats m 0 c).arrAt 5 cfg0.N, Cert.Kernel26Ideal.Value.run_blocks m g, ?_⟩
  refine (θ_run Cert.Reference26Ideal.defs _ _).mono (fun r h c => ?_) (Cert.Reference26Ideal.Value.run (F := Ideal) m' g')
  obtain ⟨h0, k⟩ := h c
  obtain ⟨e0, e1, e2, e3, e4⟩ := hargs c
  refine ⟨h0.trans ?_, k⟩
  rw [e0, e1, e2, e3, e4]
  exact (Cert.Reference26Ideal.Read.val_main_v45_eq _ _ _ _ _).trans ((ref _ _ _ _ _).trans (arr m c).symm)

end

end Ffn.Mix
-- ==== Proof.Loss.lean ====
module
public import proofs.«01_k».proof.Proof.Rms
public import proofs.«01_k».proof.Proof.Gen.Kernel27Ideal.Value
public import proofs.«01_k».proof.Proof.Gen.Reference27Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The loss over the final norm, and its gradients

The input's gradient is written a block of rows per point. The loss and the gain's gradient are accumulated over the sixteen
points and written back at the last. -/

@[expose] public section

set_option maxRecDepth 16384

namespace Ffn.Loss

open Cert.Kernel27Ideal Cert.Kernel27Ideal.Gen Idealize.ShloMosaic Idealize.ShloMosaic.TcCoe Idealize.SL.Sem
open Idealize.ShloMosaic.Pipeline (Dat)

noncomputable section

/-! ## A row's terms -/

/-- The normalised row against its target. -/
def err {n : ℕ} (x t : (⟨2, ![n, 2048]⟩ : Shape).Idx → EReal) (g : S1x2048.Idx → EReal) (i : Fin n) (k : Fin 2048) : EReal :=
  x (ix2 i k) * Rms.rs (fun k : Fin 2048 => x (ix2 i k)) * g (ix2 0 k) - t (ix2 i k)

/-- The output's cotangent. -/
def cot {n : ℕ} (x t : (⟨2, ![n, 2048]⟩ : Shape).Idx → EReal) (g : S1x2048.Idx → EReal) (i : Fin n) (k : Fin 2048) : EReal :=
  err x t g i k * ((1 / 2048 : ℝ) : EReal)

/-- The input's gradient. -/
def dh {n : ℕ} (x t : (⟨2, ![n, 2048]⟩ : Shape).Idx → EReal) (g : S1x2048.Idx → EReal) (i : Fin n) (q : Fin 2048) : EReal :=
  Rms.dx (fun k : Fin 2048 => x (ix2 i k)) (fun k => cot x t g i k * g (ix2 0 k)) q

/-- The sum of the squared errors. -/
def sq {n : ℕ} (x t : (⟨2, ![n, 2048]⟩ : Shape).Idx → EReal) (g : S1x2048.Idx → EReal) (i : Fin n) : EReal :=
  ∑ k, err x t g i k * err x t g i k

/-- A term of the gain's gradient. -/
def gain {n : ℕ} (x t : (⟨2, ![n, 2048]⟩ : Shape).Idx → EReal) (g : S1x2048.Idx → EReal) (q : Fin 2048) (i : Fin n) : EReal :=
  cot x t g i q * (x (ix2 i q) * Rms.rs (fun k : Fin 2048 => x (ix2 i k)))

/-! ## The payloads -/

section

variable (x : Vec Ideal S256x2048 .f32) (g : Vec Ideal S1x2048 .f32) (t : Vec Ideal S256x2048 .f32)

theorem pay_rs (p : Fin 256) : k0_pay5 x (ix2 p 0) = Rms.rs (fun k : Fin 2048 => x (ix2 p k)) := by
  pointwise [k0_pay5]
  simp only [Gate.ofBits_2048, Gate.ofBits_eps]
  rfl

theorem pay_hat (p : Fin 256) (q : Fin 2048) :
    k0_pay6 x (ix2 p q) = x (ix2 p q) * Rms.rs (fun k : Fin 2048 => x (ix2 p k)) := by
  rw [← pay_rs]
  pointwise [k0_pay6]

theorem pay_err (p : Fin 256) (q : Fin 2048) : k0_pay7 x g t (ix2 p q) = err x t g p q := by
  pointwise [k0_pay7]
  rw [pay_hat]
  rfl

theorem pay_loss : k0_pay8 x g t (ix2 0 0) = (∑ p : Fin 256, sq x t g p) * ((1 / 4096 : ℝ) : EReal) := by
  pointwise [k0_pay8]
  simp only [Gate.ofBits_inv_4096, pay_err]
  rfl

theorem pay_cot (p : Fin 256) (q : Fin 2048) : k0_pay9 x g t (ix2 p q) = cot x t g p q := by
  pointwise [k0_pay9]
  rw [Gate.ofBits_inv_2048, pay_err]
  rfl

theorem pay_gain (q : Fin 2048) : k0_pay10 x g t (ix2 0 q) = ∑ p : Fin 256, gain x t g q p := by
  pointwise [k0_pay10]
  exact Finset.sum_congr rfl fun p _ => by rw [pay_cot, pay_hat]; rfl

theorem pay_dh (p : Fin 256) (q : Fin 2048) : k0_pay11 x g t (ix2 p q) = dh x t g p q := by
  pointwise [k0_pay11]
  simp only [Gate.ofBits_2048, pay_cot, pay_hat, pay_rs]
  rfl

end

/-! ## What a point's stores leave -/

section

variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32)
  (harg3 : arg3.IsWhole) (arg4 : Memref sig .tc .vmem S256x2048 .f32) (harg4 : arg4.IsWhole)
  (arg5 : Memref sig .tc .vmem S8x128 .f32) (harg5 : arg5.IsWhole) (arg6 : Memref sig .tc .vmem S1x2048 .f32)
  (harg6 : arg6.IsWhole) (x0 x1 : Vec Ideal S256x2048 .f32) (x2 : Vec Ideal S1x2048 .f32) (xo4 : Vec Ideal S8x128 .f32)
  (xo5 : Vec Ideal S1x2048 .f32)

theorem out3_A (hc0 : cond0_0 i) : out0_A_3 (F := Ideal) c i arg1 harg1 arg2 harg2 arg3 harg3 arg4 harg4 arg5 harg5 arg6 harg6 hc0
    x0 x1 x2 = k0_pay11 x0 x2 x1 := by
  unfold out0_A_3
  rw [View.read_writes_junk_eq_canon]
  unfold kernelRun0_A
  dsimp only
  sl_unfold_words
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide)]

theorem out3_B (hc0 : ¬cond0_0 i) : out0_B_3 (F := Ideal) c i arg1 harg1 arg2 harg2 arg3 harg3 arg4 harg4 arg5 harg5 arg6 harg6 hc0
    x0 x1 x2 xo4 xo5 = k0_pay11 x0 x2 x1 := by
  unfold out0_B_3
  rw [View.read_writes_junk_eq_canon]
  unfold kernelRun0_B
  dsimp only
  sl_unfold_words
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide)]

theorem out4_A (hc0 : cond0_0 i) : out0_A_4 (F := Ideal) c i arg1 harg1 arg2 harg2 arg3 harg3 arg4 harg4 arg5 harg5 arg6 harg6 hc0
    x0 x1 x2 = k0_pay4 (k0_pay8 x0 x2 x1) (k0_pay2 (F := Ideal)) := by
  unfold out0_A_4
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide)]

theorem out4_B (hc0 : ¬cond0_0 i) : out0_B_4 (F := Ideal) c i arg1 harg1 arg2 harg2 arg3 harg3 arg4 harg4 arg5 harg5 arg6 harg6 hc0
    x0 x1 x2 xo4 xo5 = k0_pay4 (k0_pay8 x0 x2 x1) xo4 := by
  unfold out0_B_4
  rw [View.read_writes_junk_eq_canon]
  unfold kernelRun0_B
  dsimp only
  sl_unfold_words
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide), View.ld_unit_lit _ xo4 (by decide)]

theorem out5_A (hc0 : cond0_0 i) : out0_A_5 (F := Ideal) c i arg1 harg1 arg2 harg2 arg3 harg3 arg4 harg4 arg5 harg5 arg6 harg6 hc0
    x0 x1 x2 = k0_pay3 (k0_pay10 x0 x2 x1) (k0_pay1 (F := Ideal)) := by
  unfold out0_A_5
  rw [View.read_writes_junk_eq_canon]
  unfold kernelRun0_A
  dsimp only
  sl_unfold_words
  simp (disch := decide) only [↓View.readCov_skip, ↓View.readCov_cons_toLoadRect, ↓View.readCov_fill]
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide)]

theorem out5_B (hc0 : ¬cond0_0 i) : out0_B_5 (F := Ideal) c i arg1 harg1 arg2 harg2 arg3 harg3 arg4 harg4 arg5 harg5 arg6 harg6 hc0
    x0 x1 x2 xo4 xo5 = k0_pay3 (k0_pay10 x0 x2 x1) xo5 := by
  unfold out0_B_5
  rw [View.read_writes_junk_eq_canon]
  unfold kernelRun0_B
  dsimp only
  sl_unfold_words
  simp (disch := decide) only [View.readAt_eq_ld, harg1.read_unread, harg2.read_unread, harg3.read_unread, harg5.read_unread, harg6.read_unread]
  rw [View.canon_cons_unit_lit _ _ _ (by decide), View.ld_unit_lit _ x0 (by decide), View.ld_unit_lit _ x1 (by decide), View.ld_unit_lit _ x2 (by decide), View.ld_unit_lit _ xo5 (by decide)]

end

/-! ## The kernel's arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 256) : Fin 4096 :=
  ⟨t.val * 256 + p.val, by have := t.isLt; have : cfg0.N = 16 := N_0; omega⟩

theorem iblk0 (t : Fin cfg0.N) (p : Fin 256) (q : Fin 2048) :
    (iblk m c 0 t : S256x2048.Idx → EReal) (ix2 p q) = (m ((c : Thread nD τ).loc main_arg0) : S4096x2048.Idx → EReal) (ix2 (row t p) q) := by
  blk_simp [iblk, idx0]
  refine congrArg (m ((c : Thread nD τ).loc main_arg0)) ?_
  blk_ext [idx0, row]

theorem iblk1 (t : Fin cfg0.N) (p : Fin 256) (q : Fin 2048) :
    (iblk m c 1 t : S256x2048.Idx → EReal) (ix2 p q) = (m ((c : Thread nD τ).loc main_arg1) : S4096x2048.Idx → EReal) (ix2 (row t p) q) := by
  blk_simp [iblk, idx1]
  refine congrArg (m ((c : Thread nD τ).loc main_arg1)) ?_
  blk_ext [idx1, row]

theorem iblk2 (t : Fin cfg0.N) (q : Fin 2048) :
    (iblk m c 2 t : S1x2048.Idx → EReal) (ix2 0 q) = (m ((c : Thread nD τ).loc main_arg2) : S1x2048.Idx → EReal) (ix2 0 q) := by
  blk_simp [iblk, idx2]
  refine congrArg (m ((c : Thread nD τ).loc main_arg2)) ?_
  blk_ext [idx2]

/-- The input's gradient as the arguments in memory give it. -/
def GH (y : S4096x2048.Idx) : EReal :=
  dh (n := 4096) (m ((c : Thread nD τ).loc main_arg0)) (m ((c : Thread nD τ).loc main_arg1)) (m ((c : Thread nD τ).loc main_arg2)) (y 0) (y 1)

/-- A row's squared errors as the arguments in memory give them. -/
def GS : Fin 4096 → EReal :=
  sq (m ((c : Thread nD τ).loc main_arg0)) (m ((c : Thread nD τ).loc main_arg1)) (m ((c : Thread nD τ).loc main_arg2))

/-- A row's term of the gain's gradient as the arguments in memory give it. -/
def GG (q : Fin 2048) : Fin 4096 → EReal :=
  gain (m ((c : Thread nD τ).loc main_arg0)) (m ((c : Thread nD τ).loc main_arg1)) (m ((c : Thread nD τ).loc main_arg2)) q

theorem blk_err (t : Fin cfg0.N) (p : Fin 256) : err (n := 256) (iblk m c 0 t) (iblk m c 1 t) (iblk m c 2 t) p
    = err (n := 4096) (m ((c : Thread nD τ).loc main_arg0)) (m ((c : Thread nD τ).loc main_arg1)) (m ((c : Thread nD τ).loc main_arg2)) (row t p) := by
  funext k
  unfold err
  simp only [iblk0, iblk1, iblk2]

theorem blkH (t : Fin cfg0.N) (p : Fin 256) (q : Fin 2048) :
    k0_pay11 (F := Ideal) (iblk m c 0 t) (iblk m c 2 t) (iblk m c 1 t) (ix2 p q) = GH m c (ix2 (row t p) q) := by
  refine (pay_dh _ _ _ p q).trans ?_
  unfold dh cot
  simp only [blk_err, iblk0, iblk2]
  rfl

theorem blkL (t : Fin cfg0.N) :
    k0_pay8 (F := Ideal) (iblk m c 0 t) (iblk m c 2 t) (iblk m c 1 t) (ix2 0 0)
      = (∑ p : Fin 256, GS m c (row t p)) * ((1 / 4096 : ℝ) : EReal) := by
  refine (pay_loss _ _ _).trans ?_
  unfold sq
  simp only [blk_err]
  rfl

theorem blkG (t : Fin cfg0.N) (q : Fin 2048) :
    k0_pay10 (F := Ideal) (iblk m c 0 t) (iblk m c 2 t) (iblk m c 1 t) (ix2 0 q) = ∑ p : Fin 256, GG m c q (row t p) := by
  refine (pay_gain _ _ _ q).trans ?_
  unfold gain cot
  simp only [blk_err, iblk0]
  rfl

theorem at3 (t : Fin cfg0.N) (p : Fin 256) (q : Fin 2048) :
    ((outsAt0 m c t.val t.isLt).1 : S256x2048.Idx → EReal) (ix2 p q) = GH m c (ix2 (row t p) q) := by
  by_cases h0 : t.val % 16 = 0
  · rw [outsAt0_A m c t h0]
    dsimp only
    rw [out3_A]
    exact blkH m c t p q
  · rw [outsAt0_B m c t h0]
    dsimp only
    rw [out3_B]
    exact blkH m c t p q

theorem step (f : Fin 4096 → EReal) (t : Fin cfg0.N) :
    Rms.upto f (256 * (t.val + 1)) = Rms.upto f (256 * t.val) + ∑ p : Fin 256, f (row t p) := by
  have hN : cfg0.N = 16 := N_0
  have := t.isLt
  rw [show 256 * (t.val + 1) = 256 * t.val + 256 by omega, Rms.upto_add _ _ _ (by omega)]
  congr 1
  exact Finset.sum_congr rfl fun p _ => congrArg f (Fin.ext (by show 256 * t.val + p.val = t.val * 256 + p.val; omega))

/-- One more block's share of the loss. -/
theorem stepL (t : Fin cfg0.N) :
    Rms.upto (GS m c) (256 * (t.val + 1)) * ((1 / 4096 : ℝ) : EReal)
      = Rms.upto (GS m c) (256 * t.val) * ((1 / 4096 : ℝ) : EReal)
        + k0_pay8 (F := Ideal) (iblk m c 0 t) (iblk m c 2 t) (iblk m c 1 t) (ix2 0 0) := by
  rw [step, EReal.right_distrib_of_nonneg_of_ne_top (by exact_mod_cast (by norm_num : (0 : ℝ) ≤ 1 / 4096)) (EReal.coe_ne_top _), ← blkL]

theorem at4 : ∀ (n : ℕ) (hn : n < cfg0.N) (a : Fin 8) (b : Fin 128),
    ((outsAt0 m c n hn).2.1 : S8x128.Idx → EReal) (ix2 a b) = Rms.upto (GS m c) (256 * (n + 1)) * ((1 / 4096 : ℝ) : EReal) := by
  intro n
  induction n with
  | zero =>
    intro hn a b
    have e := outsAt0_A m c ⟨0, hn⟩ rfl
    rw [show outsAt0 m c 0 hn = _ from e, stepL m c ⟨0, hn⟩]
    dsimp only
    rw [out4_A]
    pointwise [k0_pay4, k0_pay2]
    rw [Rms.upto_zero, zero_mul]
    exact (zero_add _).symm
  | succ n ih =>
    intro hn a b
    have hN : cfg0.N = 16 := N_0
    have h0 : ¬ (n + 1) % 16 = 0 := by omega
    have e := outsAt0_B m c ⟨n + 1, hn⟩ h0
    rw [show outsAt0 m c (n + 1) hn = _ from e, stepL m c ⟨n + 1, hn⟩, ← ih (Nat.lt_of_succ_lt hn) a b]
    dsimp only
    rw [out4_B]
    pointwise [k0_pay4]
    rfl

theorem at5 : ∀ (n : ℕ) (hn : n < cfg0.N) (q : Fin 2048),
    ((outsAt0 m c n hn).2.2 : S1x2048.Idx → EReal) (ix2 0 q) = Rms.upto (GG m c q) (256 * (n + 1)) := by
  intro n
  induction n with
  | zero =>
    intro hn q
    have e := outsAt0_A m c ⟨0, hn⟩ rfl
    rw [show outsAt0 m c 0 hn = _ from e, step (GG m c q) ⟨0, hn⟩, ← blkG]
    dsimp only
    rw [out5_A]
    pointwise [k0_pay3, k0_pay1]
    rw [Rms.upto_zero]
    exact (zero_add _).symm
  | succ n ih =>
    intro hn q
    have hN : cfg0.N = 16 := N_0
    have h0 : ¬ (n + 1) % 16 = 0 := by omega
    have e := outsAt0_B m c ⟨n + 1, hn⟩ h0
    rw [show outsAt0 m c (n + 1) hn = _ from e, step (GG m c q) ⟨n + 1, hn⟩, ← blkG, ← ih (Nat.lt_of_succ_lt hn) q]
    dsimp only
    rw [out5_B]
    pointwise [k0_pay3]
    rfl

theorem arr3 : ((dats m 0 c).arrAt 3 cfg0.N : S4096x2048.Idx → EReal) = GH m c := by
  refine (dats m 0 c).arrAt_eq_of_covers 3 _ (by decide +kernel) fun t hf y => ?_
  rw [after0_3]
  obtain ⟨p, q, rfl⟩ : ∃ (p : Fin 256) (q : Fin 2048), y = ix2 p q := ⟨y 0, y 1, eq_ix2 y⟩
  refine (at3 m c t p q).trans ?_
  blk_simp [idx3]
  refine congrArg (GH m c) ?_
  blk_ext [idx3, row]

theorem arr4 (a : Fin 8) (b : Fin 128) : ((dats m 0 c).arrAt 4 cfg0.N : S8x128.Idx → EReal) (ix2 a b)
    = (∑ i, GS m c i) * ((1 / 4096 : ℝ) : EReal) := by
  refine ((dats m 0 c).arrAt_emb_eq_after_last 4 ⟨15, by decide⟩ (by decide +kernel) (ix2 a b)).trans ?_
  rw [after0_4]
  exact (at4 m c 15 (by decide) a b).trans (congrArg (· * _) (Rms.upto_all _))

theorem arr5 (q : Fin 2048) : ((dats m 0 c).arrAt 5 cfg0.N : S1x2048.Idx → EReal) (ix2 0 q) = ∑ i, GG m c q i := by
  refine ((dats m 0 c).arrAt_emb_eq_after_last 5 ⟨15, by decide⟩ (by decide +kernel) (ix2 0 q)).trans ?_
  rw [after0_5]
  exact (at5 m c 15 (by decide) q).trans (Rms.upto_all _)

/-! ## The reference's arrays -/

section

open Cert.Reference27Ideal.Read

variable (x t : FVec Ideal S4096x2048 .f32) (g : FVec Ideal S1x2048 .f32)

theorem ref_ms (i : Fin 4096) : val_main_v6 (F := Ideal) x (ix2 i 0) = Rms.ms (fun k : Fin 2048 => x (ix2 i k)) := by
  pointwise [val_main_v6, val_main_v5, val_main_cst_1, val_main_v4, val_main_v3, val_main_cst_0, val_main_v2, val_main_v1, val_main_cst,
    val_main_v0]
  simp only [Gate.ofBits_2048, Gate.ofBits_eps, Gate.ofBits_zero]
  rfl

theorem ref_rs (i : Fin 4096) : val_main_v7 (F := Ideal) x (ix2 i 0) = Rms.rs (fun k : Fin 2048 => x (ix2 i k)) := by
  rw [Rms.rs, ← ref_ms]
  pointwise [val_main_v7]

theorem ref_hat (i : Fin 4096) (k : Fin 2048) :
    val_main_v12 (F := Ideal) x (ix2 i k) = x (ix2 i k) * Rms.rs (fun k : Fin 2048 => x (ix2 i k)) := by
  rw [← ref_rs]
  pointwise [val_main_v12, val_main_v11]

theorem ref_err (i : Fin 4096) (k : Fin 2048) : val_main_v15 (F := Ideal) x t g (ix2 i k) = err x t g i k := by
  pointwise [val_main_v15, val_main_v14, val_main_v13]
  rw [ref_hat]
  rfl

theorem ref_cot (i : Fin 4096) (k : Fin 2048) : val_main_v29 (F := Ideal) x t g (ix2 i k) = cot x t g i k := by
  unfold cot
  pointwise [val_main_v29, val_main_v28, val_main_v27, val_main_v26, val_main_cst_10, val_main_v25, val_main_v24, val_main_cst_8,
    val_main_cst_9, val_main_v18, val_main_v17, val_main_cst_3]
  rw [ref_err, Gate.ofBits_two, Gate.ofBits_half, Gate.ofBits_2048, Ideal.div_coe (by norm_num), ← mul_assoc, ← EReal.coe_mul,
    ← EReal.coe_mul, mul_comm]
  norm_num

theorem ref_loss (a : Fin 8) (b : Fin 128) :
    val_main_v49 (F := Ideal) x t g (ix2 a b) = (∑ i : Fin 4096, sq x t g i) * ((1 / 4096 : ℝ) : EReal) := by
  pointwise [val_main_v49, val_main_v23, val_main_cst_7, val_main_v22, val_main_cst_6, val_main_v21, val_main_v20, val_main_cst_5,
    val_main_v19, val_main_cst_4, val_main_v16]
  simp only [ref_err, Gate.ofBits_half, Gate.ofBits_2048, Gate.ofBits_zero, Ideal.div_coe (by norm_num : (2048 : ℝ) ≠ 0)]
  refine Eq.trans (b := ((1 / 2 : ℝ) : EReal) * ∑ i : Fin 4096, sq x t g i * ((1 / 2048 : ℝ) : EReal)) ?_ ?_
  · rfl
  · rw [Rms.sum_mul_coe (by norm_num), mul_left_comm, ← EReal.coe_mul]
    norm_num

theorem ref_d (i : Fin 4096) : val_main_v43 (F := Ideal) x t g (ix1 i)
    = Ideal.div ((∑ k : Fin 2048, x (ix2 i k) * (cot x t g i k * g (ix2 0 k)))
        * (((-(1 / 2) : ℝ) : EReal) * Ideal.div (Rms.rs (fun k : Fin 2048 => x (ix2 i k))) (Rms.ms (fun k : Fin 2048 => x (ix2 i k)))))
        ((2048 : ℝ) : EReal) := by
  rw [← ref_ms, ← ref_rs]
  pointwise [val_main_v43, val_main_cst_14, val_main_v42, val_main_v41, val_main_cst_13, val_main_v40, val_main_v37, val_main_v36,
    val_main_cst_12, val_main_v35, val_main_v34, val_main_v33, val_main_v10, val_main_v9, val_main_cst_2, val_main_v8]
  simp only [ref_cot, Gate.ofBits_2048, Gate.ofBits_neg_half, Gate.ofBits_zero]
  exact Fin.sum_univ_one _

theorem ref_dh (p : Fin 4096) (q : Fin 2048) : val_main_v48 (F := Ideal) x t g (ix2 p q) = dh x t g p q := by
  refine Eq.trans ?_ (Rms.vjp (by decide) (fun k : Fin 2048 => x (ix2 p k)) (fun k => cot x t g p k * g (ix2 0 k)) q)
  pointwise [val_main_v48, val_main_v47, val_main_v46, val_main_v45, val_main_v44, val_main_v39, val_main_v38, val_main_v34,
    val_main_v33]
  rw [ref_rs, ref_d, ref_cot]
  rfl

theorem ref_gain (q : Fin 2048) : val_main_v32 (F := Ideal) x t g (ix2 0 q) = ∑ i : Fin 4096, gain x t g q i := by
  pointwise [val_main_v32, val_main_v31, val_main_cst_11, val_main_v30]
  simp only [Gate.ofBits_zero, ref_hat, ref_cot]
  exact Finset.sum_congr rfl fun i _ => mul_comm _ _

end

/-- Kernel and reference leave the same results and keep their arguments. -/
theorem algebraic : Cert.algebraic_Kernel27Ideal_Reference27Ideal := by
  intro m g m' g' hpre hargs
  refine ⟨fun c => (dats m 0 c).arrAt 3 cfg0.N, fun c => (dats m 0 c).arrAt 4 cfg0.N, fun c => (dats m 0 c).arrAt 5 cfg0.N,
    Cert.Kernel27Ideal.Value.run_blocks m g, ?_⟩
  refine (θ_run Cert.Reference27Ideal.defs _ _).mono (fun r h c => ?_) (Cert.Reference27Ideal.Value.run (F := Ideal) m' g')
  obtain ⟨h0, h1, h2, k⟩ := h c
  obtain ⟨e0, e1, e2⟩ := hargs c
  refine ⟨h0.trans ?_, h1.trans ?_, h2.trans ?_, k⟩
  · rw [Cert.Reference27Ideal.Read.val_main_v48_eq, e0, e1, e2]
    refine Eq.trans (funext fun y => ?_) (arr3 m c).symm
    obtain ⟨p, q, rfl⟩ : ∃ (p : Fin 4096) (q : Fin 2048), y = ix2 p q := ⟨y 0, y 1, eq_ix2 y⟩
    exact ref_dh _ _ _ p q
  · rw [e0, e1, e2]
    refine (Cert.Reference27Ideal.Read.val_main_v49_eq _ _ _).trans (funext fun y => ?_)
    obtain ⟨a, b, rfl⟩ : ∃ (a : Fin 8) (b : Fin 128), y = ix2 a b := ⟨y 0, y 1, eq_ix2 y⟩
    exact (ref_loss _ _ _ a b).trans (arr4 m c a b).symm
  · rw [e0, e1, e2]
    refine (Cert.Reference27Ideal.Read.val_main_v32_eq _ _ _).trans (funext fun y => ?_)
    obtain ⟨z, q, rfl⟩ : ∃ (z : Fin 1) (q : Fin 2048), y = ix2 z q := ⟨y 0, y 1, eq_ix2 y⟩
    obtain rfl : z = 0 := Subsingleton.elim _ _
    exact (ref_gain _ _ _ q).trans (arr5 m c q).symm

end

end Ffn.Loss
-- ==== Proof.GmlpFwd.lean ====
module
public import proofs.«01_k».proof.Proof.Rms
public import proofs.«01_k».proof.Proof.Host
public import proofs.«01_k».proof.Proof.Gen.Kernel28Ideal.Value
public import proofs.«01_k».proof.Proof.Gen.Reference28Ideal.Read
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The spatial gate's forward pass

The mixed half is normalised row by row, then mixed over the 128 positions of its chunk, head by head, and multiplied into
the gating half. The two programs differ in how they associate products, which extended reals allow. -/

@[expose] public section

set_option maxRecDepth 16384

namespace Ffn.GmlpFwd

open Cert.Kernel28Ideal Cert.Kernel28Ideal.Gen Idealize.ShloMosaic Idealize.ShloMosaic.TcCoe Idealize.SL.Sem
open Idealize.ShloMosaic.Pipeline (Dat)

noncomputable section

/-! ## The gate over the extended reals -/

/-- A row less its mean. -/
def xc (x : Fin 1024 → EReal) (k : Fin 1024) : EReal := x k - Ideal.div (∑ k, x k) ((1024 : ℝ) : EReal)

/-- The layer norm of a row. -/
def ln (x g : Fin 1024 → EReal) (k : Fin 1024) : EReal :=
  xc x k * Ideal.rsqrt (Ideal.div (∑ k, xc x k * xc x k) ((1024 : ℝ) : EReal) + ((Gate.eps : ℝ) : EReal)) * g k

/-- The gate at row `r` and channel `q`: head `q / 128`, position `r % 128` of chunk `r / 128`. -/
def gate (u v : ℕ → ℕ → EReal) (w : ℕ → ℕ → ℕ → EReal) (b : ℕ → ℕ → EReal) (r q : ℕ) : EReal :=
  u r q * ((∑ k : Fin 128, w (q / 128) (r % 128) k.val * v (128 * (r / 128) + k.val) q) + b (q / 128) (r % 128))

/-- Whole chunks may be skipped. -/
theorem gate_shift (u v : ℕ → ℕ → EReal) (w : ℕ → ℕ → ℕ → EReal) (b : ℕ → ℕ → EReal) (c r q : ℕ) :
    gate (fun r => u (128 * c + r)) (fun r => v (128 * c + r)) w b r q = gate u v w b (128 * c + r) q := by
  have e1 : (128 * c + r) % 128 = r % 128 := by omega
  have e2 : (128 * c + r) / 128 = c + r / 128 := by omega
  unfold gate
  rw [e1, e2]
  refine congrArg (fun s => u _ q * (s + _)) (Finset.sum_congr rfl fun k _ => ?_)
  rw [show 128 * (c + r / 128) + k.val = 128 * c + (128 * (r / 128) + k.val) by omega]

/-! ## One head of one chunk -/

/-- A head's store at offsets `o`. -/
def tile (o : Fin 2 → ℕ) (hs : S256x1024.Slices o S128x128) (v : FVec Ideal S256x1024 .bf16) (u : FVec Ideal S256x1024 .f32)
    (w : FVec Ideal S1x128x128 .bf16) (b : FVec Ideal S1x128x1 .f32) : FVec Ideal S128x128 .f32 :=
  mulf (extractStridedSlice S128x128 o u hs)
    (addf (matmul dot_S128x128_S128x128_S128x128_1_0_0_1_n_n none (shapeCast S128x128 w shapeCasts_S1x128x128_S128x128)
        (extractStridedSlice S128x128 o v hs) (constant S128x128 .f32 0x00000000#32))
      (broadcastTo S128x128 (shapeCast S128x1 b shapeCasts_S1x128x1_S128x1) broadcasts_S128x1_S128x128))

theorem ld_slab (X : Vec Ideal S8x128x128 .bf16) (h : ℕ) (inb : ∀ a, (![h, 0, 0] : Fin 3 → ℕ) a + S1x128x128.size a ≤ S8x128x128.size a)
    (hh : h < 8) (i k : Fin 128) :
    View.ld X (Rect.unit (s := S8x128x128) ![h, 0, 0] S1x128x128.size inb) (ix3 0 i k) = X (ix3 ⟨h, hh⟩ i k) := by
  pointwise

theorem ld_col (X : Vec Ideal S8x128x1 .f32) (h : ℕ) (inb : ∀ a, (![h, 0, 0] : Fin 3 → ℕ) a + S1x128x1.size a ≤ S8x128x1.size a)
    (hh : h < 8) (i : Fin 128) :
    View.ld X (Rect.unit (s := S8x128x1) ![h, 0, 0] S1x128x1.size inb) (ix3 0 i 0) = X (ix3 ⟨h, hh⟩ i 0) := by
  pointwise

/-- A function of row and channel as a block. -/
def G2 (f : ℕ → ℕ → EReal) : S256x1024.Idx → EReal := fun y => f (y 0).val (y 1).val

section

variable {u v : ℕ → ℕ → EReal} {w : ℕ → ℕ → ℕ → EReal} {b : ℕ → ℕ → EReal} {U : FVec Ideal S256x1024 .f32}
  {V : FVec Ideal S256x1024 .bf16} {W : Vec Ideal S8x128x128 .bf16} {B : Vec Ideal S8x128x1 .f32}
  (hU : ∀ p q, U (ix2 p q) = u p.val q.val) (hV : ∀ p q, V (ix2 p q) = v p.val q.val)
  (hW : ∀ h i k, W (ix3 h i k) = w h.val i.val k.val) (hB : ∀ h i, B (ix3 h i 0) = b h.val i.val)

include hU hV hW hB

theorem head (c h : ℕ) (hh : h < 8) (hs : S256x1024.Slices ![128 * c, 128 * h] S128x128)
    (ib : ∀ e, (![128 * c, 128 * h] : Fin 2 → ℕ) e + S128x128.size e ≤ S256x1024.size e)
    (iw : ∀ e, (![h, 0, 0] : Fin 3 → ℕ) e + S1x128x128.size e ≤ S8x128x128.size e)
    (ic : ∀ e, (![h, 0, 0] : Fin 3 → ℕ) e + S1x128x1.size e ≤ S8x128x1.size e) :
    ∀ x : (Rect.unit (s := S256x1024) ![128 * c, 128 * h] S128x128.size ib).shape.Idx,
      tile _ hs V U (View.ld W (Rect.unit (s := S8x128x128) ![h, 0, 0] S1x128x128.size iw))
          (View.ld B (Rect.unit (s := S8x128x1) ![h, 0, 0] S1x128x1.size ic)) x
        = G2 (gate u v w b) ((Rect.unit (s := S256x1024) ![128 * c, 128 * h] S128x128.size ib).emb x) := by
  intro x
  obtain ⟨i, j, rfl⟩ : ∃ (i j : Fin 128), x = ix2 i j := ⟨x 0, x 1, eq_ix2 x⟩
  have e : tile _ hs V U (View.ld W (Rect.unit (s := S8x128x128) ![h, 0, 0] S1x128x128.size iw))
      (View.ld B (Rect.unit (s := S8x128x1) ![h, 0, 0] S1x128x1.size ic)) (ix2 i j)
      = gate u v w b (128 * c + i.val) (128 * h + j.val) := by
    unfold tile
    have hw := fun k => ld_slab W h iw hh i k
    have hb := ld_col B h ic hh i
    generalize View.ld W (Rect.unit (s := S8x128x128) ![h, 0, 0] S1x128x128.size iw) = W' at hw ⊢
    generalize View.ld B (Rect.unit (s := S8x128x1) ![h, 0, 0] S1x128x1.size ic) = B' at hb ⊢
    pointwise
    have e1 : (128 * h + j.val) / 128 = h := by omega
    have e2 : (128 * c + i.val) % 128 = i.val := by omega
    have e3 : (128 * c + i.val) / 128 = c := by omega
    simp only [hU, hV, hw, hb, hW, hB, gate, e1, e2, e3]
  refine e.trans ?_
  unfold G2
  simp [Rect.emb, Rect.unit, ix2]

end

/-! ## The payloads -/

/-- The normalised mixed half. -/
theorem pay_v (z : Vec Ideal S256x1024 .f32) (g : Vec Ideal S1x1024 .f32) (p : Fin 256) (q : Fin 1024) :
    k0_pay3 z g (ix2 p q) = ln (fun k => Rms.gelu (z (ix2 p k))) (fun k => g (ix2 0 k)) q := by
  pointwise [k0_pay3]
  simp only [Gate.ofBits_half, Gate.ofBits_gk, Gate.ofBits_1024, Gate.ofBits_eps]
  rfl

/-- The gating half. -/
theorem pay_u (z : Vec Ideal S256x1024 .f32) (p : Fin 256) (q : Fin 1024) :
    k0_pay5 z (k0_pay4 z) (ix2 p q) = Rms.gelu (z (ix2 p q)) := by
  pointwise [k0_pay5, k0_pay4]
  simp only [Gate.ofBits_half, Gate.ofBits_gk]
  rfl

/-- What a point's stores leave. -/
theorem out (x0 x1 : Vec Ideal S256x1024 .f32) (x2 : Vec Ideal S1x1024 .f32) (x3 : Vec Ideal S8x128x128 .bf16)
    (x4 : Vec Ideal S8x128x1 .f32) (u v : ℕ → ℕ → EReal) (w : ℕ → ℕ → ℕ → EReal) (b : ℕ → ℕ → EReal)
    (hu : ∀ p q, Rms.gelu (x0 (ix2 p q)) = u p.val q.val)
    (hv : ∀ p q, ln (fun k => Rms.gelu (x1 (ix2 p k))) (fun k => x2 (ix2 0 k)) q = v p.val q.val)
    (hW : ∀ h i k, x3 (ix3 h i k) = w h.val i.val k.val) (hB : ∀ h i, x4 (ix3 h i 0) = b h.val i.val) (p : Fin 256) (q : Fin 1024) :
    out0_5 (F := Ideal) x0 x1 x2 x3 x4 (ix2 p q) = gate u v w b p.val q.val := by
  have hU : ∀ p q, k0_pay25 (F := Ideal) x0 x1 x2 x3 x4 (ix2 p q) = u p.val q.val := fun p q => by
    unfold k0_pay25 k0_pay24
    rw [View.ld_unit_lit _ x0 (by decide), pay_u, hu]
  have hV : ∀ p q, k0_pay23 (F := Ideal) x0 x1 x2 x3 x4 (ix2 p q) = v p.val q.val := fun p q => by
    unfold k0_pay23
    rw [View.ld_unit_lit _ x1 (by decide), View.ld_unit_lit _ x2 (by decide), pay_v, hv]
  unfold out0_5
  refine View.canon_apply_of_pieces (Val := Elt Ideal) (e := .f32) (G2 (gate u v w b)) _ (View.PiecesOf.mem ?_) (ix2 p q) (cover0_5 _ _ _ _ _ _ _ _ _ _ _ _ _ _ _ _ (ix2 p q))
  exact ⟨head hU hV hW hB 1 7 (by decide) slices_S256x1024_o128_896_S128x128 inb_S256x1024_S128x128_128_896 inb_S8x128x128_S1x128x128_7_0_0 inb_S8x128x1_S1x128x1_7_0_0,
    head hU hV hW hB 1 6 (by decide) slices_S256x1024_o128_768_S128x128 inb_S256x1024_S128x128_128_768 inb_S8x128x128_S1x128x128_6_0_0 inb_S8x128x1_S1x128x1_6_0_0,
    head hU hV hW hB 1 5 (by decide) slices_S256x1024_o128_640_S128x128 inb_S256x1024_S128x128_128_640 inb_S8x128x128_S1x128x128_5_0_0 inb_S8x128x1_S1x128x1_5_0_0,
    head hU hV hW hB 1 4 (by decide) slices_S256x1024_o128_512_S128x128 inb_S256x1024_S128x128_128_512 inb_S8x128x128_S1x128x128_4_0_0 inb_S8x128x1_S1x128x1_4_0_0,
    head hU hV hW hB 1 3 (by decide) slices_S256x1024_o128_384_S128x128 inb_S256x1024_S128x128_128_384 inb_S8x128x128_S1x128x128_3_0_0 inb_S8x128x1_S1x128x1_3_0_0,
    head hU hV hW hB 1 2 (by decide) slices_S256x1024_o128_256_S128x128 inb_S256x1024_S128x128_128_256 inb_S8x128x128_S1x128x128_2_0_0 inb_S8x128x1_S1x128x1_2_0_0,
    head hU hV hW hB 1 1 (by decide) slices_S256x1024_o128_128_S128x128 inb_S256x1024_S128x128_128_128 inb_S8x128x128_S1x128x128_1_0_0 inb_S8x128x1_S1x128x1_1_0_0,
    head hU hV hW hB 1 0 (by decide) slices_S256x1024_o128_0_S128x128 inb_S256x1024_S128x128_128_0 inb_S8x128x128_S1x128x128_0_0_0 inb_S8x128x1_S1x128x1_0_0_0,
    head hU hV hW hB 0 7 (by decide) slices_S256x1024_o0_896_S128x128 inb_S256x1024_S128x128_0_896 inb_S8x128x128_S1x128x128_7_0_0 inb_S8x128x1_S1x128x1_7_0_0,
    head hU hV hW hB 0 6 (by decide) slices_S256x1024_o0_768_S128x128 inb_S256x1024_S128x128_0_768 inb_S8x128x128_S1x128x128_6_0_0 inb_S8x128x1_S1x128x1_6_0_0,
    head hU hV hW hB 0 5 (by decide) slices_S256x1024_o0_640_S128x128 inb_S256x1024_S128x128_0_640 inb_S8x128x128_S1x128x128_5_0_0 inb_S8x128x1_S1x128x1_5_0_0,
    head hU hV hW hB 0 4 (by decide) slices_S256x1024_o0_512_S128x128 inb_S256x1024_S128x128_0_512 inb_S8x128x128_S1x128x128_4_0_0 inb_S8x128x1_S1x128x1_4_0_0,
    head hU hV hW hB 0 3 (by decide) slices_S256x1024_o0_384_S128x128 inb_S256x1024_S128x128_0_384 inb_S8x128x128_S1x128x128_3_0_0 inb_S8x128x1_S1x128x1_3_0_0,
    head hU hV hW hB 0 2 (by decide) slices_S256x1024_o0_256_S128x128 inb_S256x1024_S128x128_0_256 inb_S8x128x128_S1x128x128_2_0_0 inb_S8x128x1_S1x128x1_2_0_0,
    head hU hV hW hB 0 1 (by decide) slices_S256x1024_o0_128_S128x128 inb_S256x1024_S128x128_0_128 inb_S8x128x128_S1x128x128_1_0_0 inb_S8x128x1_S1x128x1_1_0_0,
    head hU hV hW hB 0 0 (by decide) slices_S256x1024_o0_0_S128x128 inb_S256x1024_S128x128_0_0 inb_S8x128x128_S1x128x128_0_0_0 inb_S8x128x1_S1x128x1_0_0_0, trivial⟩

/-! ## The arguments by row and channel -/

/-- The gating half. -/
def uN (z : S4096x3072.Idx → EReal) (r q : ℕ) : EReal := Rms.gelu (z (ix2 (Fin.ofNat 4096 r) (Fin.ofNat 3072 (1024 + q))))

/-- The normalised mixed half. -/
def vN (z : S4096x3072.Idx → EReal) (g : S1x1024.Idx → EReal) (r q : ℕ) : EReal :=
  ln (fun k => Rms.gelu (z (ix2 (Fin.ofNat 4096 r) ⟨2048 + k.val, by omega⟩))) (fun k => g (ix2 0 k)) (Fin.ofNat 1024 q)

/-- The mixing matrices under their causal mask. -/
def wN (w : S1x8x128x128.Idx → EReal) (h i k : ℕ) : EReal :=
  if k ≤ i then w (ix4 0 (Fin.ofNat 8 h) (Fin.ofNat 128 i) (Fin.ofNat 128 k)) else 0

/-- The biases. -/
def bN (b : S1x8x128.Idx → EReal) (h i : ℕ) : EReal := b (ix3 0 (Fin.ofNat 8 h) (Fin.ofNat 128 i))

theorem ofNat_val {n : ℕ} [NeZero n] (i : Fin n) : Fin.ofNat n i.val = i := Fin.ext (Nat.mod_eq_of_lt i.isLt)

/-- The gate of the arguments. -/
def spec (z : S4096x3072.Idx → EReal) (g : S1x1024.Idx → EReal) (w : S1x8x128x128.Idx → EReal) (b : S1x8x128.Idx → EReal) (r q : ℕ) :
    EReal := gate (uN z) (vN z g) (wN w) (bN b) r q

/-! ## The kernel's array -/

theorem idx0 : ∀ t : Fin cfg0.N, win0_0.index t = ![t.val, 1] := (by decide +kernel : ∀ t : Fin grid0.N, _)
theorem idx1 : ∀ t : Fin cfg0.N, win0_1.index t = ![t.val, 2] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (c : Dev nD)

/-- What the region finds as its stack of mixing matrices. -/
theorem V_v5 : V m c main_v5 = Gate.hostW (m ((c : Thread nD τ).loc main_arg2)) := by
  show StableHlo.after (List.flatten [hostOps0, hostOps0_1, hostOps0_2, hostOps0_3, hostOps0_4]) (fun b => m (c, b)) (Proc.devRef .tc main_v5) = _
  simp only [List.flatten_cons, List.flatten_nil, List.cons_append, List.nil_append, List.append_nil]
  after_results
  rfl

/-- What the region finds as the stack of biases. -/
theorem V_v7 : V m c main_v7 = broadcastInDim S8x128x1 ![0, 1] bcast_S8x128_S8x128x1_0_1
    (shapeCast S8x128 (m ((c : Thread nD τ).loc main_arg3) : FVec Ideal S1x8x128 .f32) shapeCasts_S1x8x128_S8x128) := by
  show StableHlo.after (List.flatten [hostOps0, hostOps0_1, hostOps0_2, hostOps0_3, hostOps0_4]) (fun b => m (c, b)) (Proc.devRef .tc main_v7) = _
  simp only [List.flatten_cons, List.flatten_nil, List.cons_append, List.nil_append, List.append_nil]
  after_results
  rfl

/-- Row `p` of the block of point `t`. -/
def row (t : Fin cfg0.N) (p : Fin 256) : Fin 4096 :=
  ⟨128 * (2 * t.val) + p.val, by have := t.isLt; have : cfg0.N = 16 := N_0; omega⟩

theorem iblk0 (t : Fin cfg0.N) (p : Fin 256) (q : Fin 1024) :
    (iblk m c 0 t : S256x1024.Idx → EReal) (ix2 p q)
      = (m ((c : Thread nD τ).loc main_arg0) : S4096x3072.Idx → EReal) (ix2 (row t p) ⟨1024 + q.val, by omega⟩) := by
  blk_simp [iblk, idx0]
  rw [V_main_arg0]
  refine congrArg (m ((c : Thread nD τ).loc main_arg0)) ?_
  blk_ext [idx0, row]

theorem iblk1 (t : Fin cfg0.N) (p : Fin 256) (q : Fin 1024) :
    (iblk m c 1 t : S256x1024.Idx → EReal) (ix2 p q)
      = (m ((c : Thread nD τ).loc main_arg0) : S4096x3072.Idx → EReal) (ix2 (row t p) ⟨2048 + q.val, by omega⟩) := by
  blk_simp [iblk, idx1]
  rw [V_main_arg0]
  refine congrArg (m ((c : Thread nD τ).loc main_arg0)) ?_
  blk_ext [idx1, row]

theorem iblk2 (t : Fin cfg0.N) (q : Fin 1024) :
    (iblk m c 2 t : S1x1024.Idx → EReal) (ix2 0 q) = (m ((c : Thread nD τ).loc main_arg1) : S1x1024.Idx → EReal) (ix2 0 q) := by
  blk_simp [iblk, idx2]
  rw [V_main_arg1]
  refine congrArg (m ((c : Thread nD τ).loc main_arg1)) ?_
  blk_ext [idx2]

theorem iblk3 (t : Fin cfg0.N) (h : Fin 8) (i k : Fin 128) :
    (iblk m c 3 t : S8x128x128.Idx → EReal) (ix3 h i k) = wN (m ((c : Thread nD τ).loc main_arg2)) h.val i.val k.val := by
  have e : (iblk m c 3 t : S8x128x128.Idx → EReal) (ix3 h i k) = Gate.hostW (m ((c : Thread nD τ).loc main_arg2)) (ix3 h i k) := by
    blk_simp [iblk, idx3]
    rw [V_v5]
    refine congrArg (Gate.hostW (m ((c : Thread nD τ).loc main_arg2))) ?_
    blk_ext [idx3]
  refine e.trans ((Gate.hostW_apply _ h i k).trans ?_)
  unfold wN
  rw [ofNat_val, ofNat_val, ofNat_val]

theorem iblk4 (t : Fin cfg0.N) (h : Fin 8) (i : Fin 128) :
    (iblk m c 4 t : S8x128x1.Idx → EReal) (ix3 h i 0) = bN (m ((c : Thread nD τ).loc main_arg3)) h.val i.val := by
  blk_simp [iblk, idx4]
  rw [V_v7]
  have e : (win0_4.blk t).view.emb (ix3 h i 0) = (ix3 h i 0 : S8x128x1.Idx) := by blk_ext [idx4]
  rw [e]
  refine (Gate.column_apply _ h i).trans ?_
  unfold bN
  rw [ofNat_val, ofNat_val]

/-- The gate of the arguments in memory. -/
def G (y : S4096x1024.Idx) : EReal :=
  spec (m ((c : Thread nD τ).loc main_arg0)) (m ((c : Thread nD τ).loc main_arg1)) (m ((c : Thread nD τ).loc main_arg2))
    (m ((c : Thread nD τ).loc main_arg3)) (y 0).val (y 1).val

theorem blk (t : Fin cfg0.N) (p : Fin 256) (q : Fin 1024) :
    out0_5 (F := Ideal) (iblk m c 0 t) (iblk m c 1 t) (iblk m c 2 t) (iblk m c 3 t) (iblk m c 4 t) (ix2 p q) = G m c (ix2 (row t p) q) := by
  refine (out _ _ _ _ _ (fun r => uN (m ((c : Thread nD τ).loc main_arg0)) (128 * (2 * t.val) + r))
    (fun r => vN (m ((c : Thread nD τ).loc main_arg0)) (m ((c : Thread nD τ).loc main_arg1)) (128 * (2 * t.val) + r))
    (wN (m ((c : Thread nD τ).loc main_arg2))) (bN (m ((c : Thread nD τ).loc main_arg3))) (fun p q => ?_) (fun p q => ?_)
    (iblk3 m c t) (iblk4 m c t) p q).trans (gate_shift _ _ _ _ _ _ _)
  · rw [iblk0]
    unfold uN
    rw [show Fin.ofNat 4096 (128 * (2 * t.val) + p.val) = row t p from ofNat_val (row t p),
      show Fin.ofNat 3072 (1024 + q.val) = ⟨1024 + q.val, by omega⟩ from ofNat_val ⟨1024 + q.val, by omega⟩]
  · simp only [iblk1, iblk2]
    unfold vN
    rw [show Fin.ofNat 4096 (128 * (2 * t.val) + p.val) = row t p from ofNat_val (row t p), ofNat_val]

theorem arr : ((dats m 0 c).arrAt 5 cfg0.N : S4096x1024.Idx → EReal) = G m c := by
  have e : (dats m 0 c).arrAt 5 cfg0.N = (fun y : S4096x1024.Idx => G m c (ix2 (y 0) (y 1))) := by
    refine (dats m 0 c).arrAt_eq_of_covers 5 _ (by decide +kernel) fun t hf y => ?_
    rw [after0_5]
    obtain ⟨p, q, rfl⟩ : ∃ (p : Fin 256) (q : Fin 1024), y = ix2 p q := ⟨y 0, y 1, eq_ix2 y⟩
    have h := blk m c t
    generalize out0_5 (iblk m c 0 t) (iblk m c 1 t) (iblk m c 2 t) (iblk m c 3 t) (iblk m c 4 t) = X at h ⊢
    refine (h p q).trans ?_
    generalize G m c = X
    blk_simp [idx5]
    refine congrArg X ?_
    blk_ext [idx5, row]
  refine e.trans (funext fun y => ?_)
  rw [← eq_ix2 y]

/-! ## The reference's array -/

section

open Cert.Reference28Ideal.Read

variable (z : FVec Ideal S4096x3072 .f32) (g : FVec Ideal S1x1024 .f32) (w : FVec Ideal S1x8x128x128 .f32) (b : FVec Ideal S1x8x128 .f32)

theorem ref_u (r : Fin 4096) (q : Fin 1024) : val_main_v19 (F := Ideal) z (ix3 0 r q) = uN z r.val q.val := by
  unfold uN
  rw [ofNat_val, show Fin.ofNat 3072 (1024 + q.val) = ⟨1024 + q.val, by omega⟩ from ofNat_val ⟨1024 + q.val, by omega⟩, ← Rms.gelu_eq]
  pointwise [val_main_v19, val_main_v18, val_main_v17, val_main_cst_2, val_main_v16, val_main_v15, val_main_cst_1, val_main_v14,
    val_main_v13, val_main_v12, val_main_cst_0, val_main_v11, val_main_v10, val_main_v9, val_main_cst, val_main_v8, val_main_v7,
    val_main_v2, val_main_v0]
  simp only [Gate.ofBits_half, Gate.ofBits_gk]

theorem ref_gv (r : Fin 4096) (q : Fin 1024) :
    val_main_v32 (F := Ideal) z (ix3 0 r q) = Rms.gelu (z (ix2 r ⟨2048 + q.val, by omega⟩)) := by
  rw [← Rms.gelu_eq]
  pointwise [val_main_v32, val_main_v31, val_main_v30, val_main_cst_6, val_main_v29, val_main_v28, val_main_cst_5, val_main_v27,
    val_main_v26, val_main_v25, val_main_cst_4, val_main_v24, val_main_v23, val_main_v22, val_main_cst_3, val_main_v21, val_main_v20,
    val_main_v3, val_main_v1]
  simp only [Gate.ofBits_half, Gate.ofBits_gk]

theorem ref_xc (r : Fin 4096) (q : Fin 1024) :
    val_main_v38 (F := Ideal) z (ix3 0 r q) = xc (fun k => Rms.gelu (z (ix2 r ⟨2048 + k.val, by omega⟩))) q := by
  pointwise [val_main_v38, val_main_v37, val_main_v36, val_main_v35, val_main_cst_8, val_main_v34, val_main_v33, val_main_cst_7]
  simp only [ref_gv, Gate.ofBits_1024, Gate.ofBits_zero]
  rfl

theorem ref_v (r : Fin 4096) (q : Fin 1024) : val_main_v51 (F := Ideal) z g (ix3 0 r q) = vN z g r.val q.val := by
  unfold vN
  rw [ofNat_val, ofNat_val]
  pointwise [val_main_v51, val_main_v50, val_main_v49, val_main_v4, val_main_v48, val_main_v47, val_main_v46, val_main_v45, val_main_v44,
    val_main_cst_11, val_main_v43, val_main_v42, val_main_cst_10, val_main_v41, val_main_v40, val_main_cst_9, val_main_v39]
  simp only [ref_xc, Gate.ofBits_1024, Gate.ofBits_eps, Gate.ofBits_zero]
  rfl

theorem ref_w (h : Fin 8) (i k : Fin 128) : val_main_v56 (F := Ideal) w (ix3 h i k) = wN w h.val i.val k.val := by
  unfold wN
  rw [ofNat_val, ofNat_val, ofNat_val]
  pointwise [val_main_v56, val_main_call1_v0, val_main_v54, val_main_v53, val_main_call0_v5, val_main_call0_c_0, val_main_call0_v4,
    val_main_call0_v3, val_main_call0_v2, val_main_call0_v1, val_main_call0_c, val_main_call0_v0, val_main_v52, val_main_c, val_main_v55,
    val_main_cst_12, val_main_v5]
  rw [Gate.causal_bit i k]
  by_cases hle : k.val ≤ i.val <;> simp [hle, Scalar.select]

theorem ref_vr (c : Fin 32) (i : Fin 128) (h : Fin 8) (p : Fin 128) :
    val_main_v57 (F := Ideal) z g (ix5 0 c i h p) = vN z g (128 * c.val + i.val) (128 * h.val + p.val) := by
  pointwise [val_main_v57]
  simp only [ref_v, Nat.mul_comm _ 128]

theorem ref_ur (c : Fin 32) (i : Fin 128) (h : Fin 8) (p : Fin 128) :
    val_main_v64 (F := Ideal) z (ix5 0 c i h p) = uN z (128 * c.val + i.val) (128 * h.val + p.val) := by
  pointwise [val_main_v64]
  simp only [ref_u, Nat.mul_comm _ 128]

theorem ref_s (c : Fin 32) (i : Fin 128) (h : Fin 8) (p : Fin 128) :
    val_main_v65 (F := Ideal) z g w b (ix5 0 c i h p) = spec z g w b (128 * c.val + i.val) (128 * h.val + p.val) := by
  have e1 : (128 * h.val + p.val) / 128 = h.val := by omega
  have e2 : (128 * c.val + i.val) % 128 = i.val := by omega
  have e3 : (128 * c.val + i.val) / 128 = c.val := by omega
  unfold spec gate bN
  rw [e1, e2, e3, ofNat_val, ofNat_val]
  pointwise [val_main_v65, val_main_v63, val_main_v62, val_main_v61, val_main_v60, val_main_v6, val_main_v59, val_main_v58]
  simp only [ref_ur, ref_vr, ref_w, mul_comm (vN _ _ _ _)]

theorem ref (r : Fin 4096) (q : Fin 1024) : val_main_v67 (F := Ideal) z g w b (ix2 r q) = spec z g w b r.val q.val := by
  pointwise [val_main_v67, val_main_v66]
  simp only [ref_s, Nat.div_add_mod]

end

/-- Kernel and reference leave the same result and keep their arguments. -/
theorem algebraic : Cert.algebraic_Kernel28Ideal_Reference28Ideal := by
  intro m g m' g' hpre hargs
  refine ⟨fun c => (dats m 0 c).arrAt 5 cfg0.N, Cert.Kernel28Ideal.Value.run_blocks m g, ?_⟩
  refine (θ_run Cert.Reference28Ideal.defs _ _).mono (fun r h c => ?_) (Cert.Reference28Ideal.Value.run (F := Ideal) m' g')
  obtain ⟨h0, k⟩ := h c
  obtain ⟨e0, e1, e2, e3⟩ := hargs c
  refine ⟨h0.trans ?_, k⟩
  rw [Cert.Reference28Ideal.Read.val_main_v67_eq, e0, e1, e2, e3]
  refine Eq.trans (funext fun y => ?_) (arr m c).symm
  obtain ⟨p, q, rfl⟩ : ∃ (p : Fin 4096) (q : Fin 1024), y = ix2 p q := ⟨y 0, y 1, eq_ix2 y⟩
  exact ref _ _ _ _ p q

end

end Ffn.GmlpFwd
-- ==== Proof.Adam.lean ====
module
public import proofs.«01_k».proof.Proof.Gen.Kernel29Ideal.Value
public import proofs.«01_k».proof.Proof.Gen.Reference29Ideal.Read
public import proofs.«01_k».proof.Proof.Consts
public import Idealize.ShloMosaic.Lib.Pointwise
public import Idealize.ShloMosaic.Lib.Pipeline.ValueKit.Basic
public import Idealize.ShloMosaic.Lib.Pipeline.ValueKit.Geometry
public import Idealize.ShloMosaic.Lib.Pipeline.ReadBack
public import proofs.«01_k».proof.Defs

/-! # The optimiser's step of a sharded weight

The four chips' parts of the gradient are added, and the padding's rows are never read. -/

@[expose] public section

set_option maxRecDepth 16384

namespace Ffn.Adam

open Cert.Kernel29Ideal Cert.Kernel29Ideal.Gen Idealize.ShloMosaic Idealize.ShloMosaic.TcCoe Idealize.SL.Sem
open Idealize.ShloMosaic.Pipeline (Dat)

noncomputable section

/-! ## The step of one weight -/

/-- The first moment's update. -/
def mom (g m : EReal) : EReal := Ideal.ofBits .f32 0x3F666666#32 * m + Ideal.ofBits .f32 0x3DCCCCCD#32 * g

/-- The second moment's update. -/
def vel (g v : EReal) : EReal := Ideal.ofBits .f32 0x3F7FBE77#32 * v + Ideal.ofBits .f32 0x3A83126F#32 * (g * g)

/-- The weight's update. -/
def delta (g w m v : EReal) : EReal :=
  Ideal.ofBits .f32 0xBA83126F#32
    * (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

/-- The gradient of row `r` and column `q`: the sum of the parts. -/
def grad {n : ℕ} (P : (⟨3, ![4, n, 2048]⟩ : Shape).Idx → EReal) (r : Fin n) (q : Fin 2048) : EReal := ∑ k : Fin 4, P (ix3 k r q)

theorem grad_congr {n n' : ℕ} (P : (⟨3, ![4, n, 2048]⟩ : Shape).Idx → EReal) (P' : (⟨3, ![4, n', 2048]⟩ : Shape).Idx → EReal)
    (r : Fin n) (r' : Fin n') (q : Fin 2048) (h : ∀ k, P (ix3 k r q) = P' (ix3 k r' q)) : grad P r q = grad P' r' q :=
  Finset.sum_congr rfl fun k _ => h k

/-! ## The payloads -/

theorem ld_part (X : Vec Ideal S4x176x2048 .bf16) (h : ℕ)
    (inb : ∀ a, (![h, 0, 0] : Fin 3 → ℕ) a + S1x176x2048.size a ≤ S4x176x2048.size a) (hh : h < 4) (p : Fin 176) (q : Fin 2048) :
    View.ld X (Rect.unit (s := S4x176x2048) ![h, 0, 0] S1x176x2048.size inb) (ix3 0 p q) = X (ix3 ⟨h, hh⟩ p q) := by
  pointwise

theorem pay_g (a b c d : Vec Ideal S1x176x2048 .bf16) (p : Fin 176) (q : Fin 2048) :
    k0_pay2 a b c d (ix2 p q) = a (ix3 0 p q) + b (ix3 0 p q) + c (ix3 0 p q) + d (ix3 0 p q) := by
  pointwise [k0_pay2]

theorem pay_m (a b c d : Vec Ideal S1x176x2048 .bf16) (x : Vec Ideal S176x2048 .f32) (p : Fin 176) (q : Fin 2048) :
    k0_pay3 a b c d x (ix2 p q) = mom (k0_pay2 a b c d (ix2 p q)) (x (ix2 p q)) := by
  unfold k0_pay3
  generalize k0_pay2 a b c d = g
  pointwise
  rfl

theorem pay_v (a b c d : Vec Ideal S1x176x2048 .bf16) (x : Vec Ideal S176x2048 .f32) (p : Fin 176) (q : Fin 2048) :
    k0_pay4 a b c d x (ix2 p q) = vel (k0_pay2 a b c d (ix2 p q)) (x (ix2 p q)) := by
  unfold k0_pay4
  generalize k0_pay2 a b c d = g
  pointwise
  rfl

theorem pay_d (a b c d : Vec Ideal S1x176x2048 .bf16) (w x y : Vec Ideal S176x2048 .f32) (p : Fin 176) (q : Fin 2048) :
    k0_pay1 w (k0_pay5 a b c d x) (k0_pay6 a b c d y) (Scalar.ofBits .f32 0x322BCC77#32) (ix2 p q)
      = delta (k0_pay2 a b c d (ix2 p q)) (w (ix2 p q)) (x (ix2 p q)) (y (ix2 p q)) := by
  unfold delta
  rw [← pay_m, ← pay_v]
  unfold k0_pay1 k0_pay5 k0_pay6
  generalize k0_pay3 a b c d x = M
  generalize k0_pay4 a b c d y = N
  pointwise

/-! ## What a point's stores leave -/

section

variable (c : Dev nD) (i : grid0.Coords) (arg1 : Memref sig .tc .vmem S4x176x2048 .bf16) (harg1 : arg1.IsWhole)
  (arg2 : Memref sig .tc .vmem S176x2048 .f32) (harg2 : arg2.IsWhole) (arg3 : Memref sig .tc .vmem S176x2048 .f32) (harg3 : arg3.IsWhole)
  (arg4 : Memref sig .tc .vmem S176x2048 .f32) (harg4 : arg4.IsWhole) (arg5 : Memref sig .tc .vmem S176x2048 .f32) (harg5 : arg5.IsWhole)
  (arg6 : Memref sig .tc .vmem S176x2048 .f32) (harg6 : arg6.IsWhole) (arg7 : Memref sig .tc .vmem S176x2048 .f32) (harg7 : arg7.IsWhole)
  (arg8 : Memref sig .tc .vmem S176x2048 .f32) (harg8 : arg8.IsWhole) (x0 : Vec Ideal S4x176x2048 .bf16)
  (x1 x2 x3 : Vec Ideal S176x2048 .f32) (p : Fin 176) (q : Fin 2048)

theorem part_g : k0_pay2 (View.ld x0 (Rect.unit (s := S4x176x2048) ![0, 0, 0] S1x176x2048.size inb_S4x176x2048_S1x176x2048_0_0_0))
      (View.ld x0 (Rect.unit (s := S4x176x2048) ![1, 0, 0] S1x176x2048.size inb_S4x176x2048_S1x176x2048_1_0_0))
      (View.ld x0 (Rect.unit (s := S4x176x2048) ![2, 0, 0] S1x176x2048.size inb_S4x176x2048_S1x176x2048_2_0_0))
      (View.ld x0 (Rect.unit (s := S4x176x2048) ![3, 0, 0] S1x176x2048.size inb_S4x176x2048_S1x176x2048_3_0_0)) (ix2 p q)
    = grad x0 p q := by
  rw [pay_g, ld_part _ 0 _ (by decide), ld_part _ 1 _ (by decide), ld_part _ 2 _ (by decide), ld_part _ 3 _ (by decide)]
  exact (Fin.sum_univ_four fun k => x0 (ix3 k p q)).symm

theorem out4 : out0_A_4 c i arg1 harg1 arg2 harg2 arg3 harg3 arg4 harg4 arg5 harg5 arg6 harg6 arg7 harg7 arg8 harg8 x0 x1 x2 x3 (ix2 p q)
    = grad x0 p q := by
  unfold out0_A_4
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide)]
  exact part_g x0 p q

theorem out5 : out0_A_5 c i arg1 harg1 arg2 harg2 arg3 harg3 arg4 harg4 arg5 harg5 arg6 harg6 arg7 harg7 arg8 harg8 x0 x1 x2 x3 (ix2 p q)
    = delta (grad x0 p q) (x1 (ix2 p q)) (x2 (ix2 p q)) (x3 (ix2 p q)) := by
  unfold out0_A_5
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide), View.ld_unit_lit _ x1 (by decide), View.ld_unit_lit _ x2 (by decide),
    View.ld_unit_lit _ x3 (by decide)]
  refine (pay_d _ _ _ _ _ _ _ p q).trans ?_
  exact congrArg (fun g => delta g _ _ _) (part_g x0 p q)

theorem out6 : out0_A_6 c i arg1 harg1 arg2 harg2 arg3 harg3 arg4 harg4 arg5 harg5 arg6 harg6 arg7 harg7 arg8 harg8 x0 x1 x2 x3 (ix2 p q)
    = mom (grad x0 p q) (x2 (ix2 p q)) := by
  unfold out0_A_6
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide), View.ld_unit_lit _ x2 (by decide)]
  refine (pay_m _ _ _ _ _ p q).trans ?_
  exact congrArg (fun g => mom g _) (part_g x0 p q)

theorem out7 : out0_A_7 c i arg1 harg1 arg2 harg2 arg3 harg3 arg4 harg4 arg5 harg5 arg6 harg6 arg7 harg7 arg8 harg8 x0 x1 x2 x3 (ix2 p q)
    = vel (grad x0 p q) (x3 (ix2 p q)) := by
  unfold out0_A_7
  rw [View.read_writes_junk_eq_canon]
  unfold kernelRun0_A
  dsimp only
  sl_unfold_words
  simp (disch := decide) only [View.readAt_eq_ld, harg1.read_unread, harg2.read_unread, harg3.read_unread, harg4.read_unread]
  rw [View.canon_cons_unit_lit _ _ _ (by decide), View.ld_unit_lit _ x3 (by decide)]
  refine (pay_v _ _ _ _ _ p q).trans ?_
  exact congrArg (fun g => vel g _) (part_g x0 p q)

end

/-! ## The kernel's arrays -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- Row `p` of the block of point `t`. -/
def row (t : Fin cfg0.N) (p : Fin 176) : Fin 704 :=
  ⟨t.val * 176 + p.val, by have := t.isLt; have : cfg0.N = 4 := N_0; omega⟩

/-- The same row among the padded ones. -/
def wide (r : Fin 704) : Fin 768 := ⟨r.val, by omega⟩

theorem blk0 (t : Fin cfg0.N) (k : Fin 4) (p : Fin 176) (q : Fin 2048) :
    (X0_0 m c t : S4x176x2048.Idx → EReal) (ix3 k p q)
      = (m ((c : Thread nD τ).loc main_arg0) : S4x768x2048.Idx → EReal) (ix3 k (wide (row t p)) q) := by
  unfold X0_0 Pipeline.Window.fill
  rw [dif_pos (moved0_0 t _)]
  blk_simp [iblk, idx0]
  refine congrArg (m ((c : Thread nD τ).loc main_arg0)) ?_
  blk_ext [idx0, row, wide]

theorem iblk1 (t : Fin cfg0.N) (p : Fin 176) (q : Fin 2048) :
    (iblk m c 1 t : S176x2048.Idx → EReal) (ix2 p q) = (m ((c : Thread nD τ).loc main_arg1) : S704x2048.Idx → EReal) (ix2 (row t p) q) := by
  blk_simp [iblk, idx1]
  refine congrArg (m ((c : Thread nD τ).loc main_arg1)) ?_
  blk_ext [idx1, row]

theorem iblk2 (t : Fin cfg0.N) (p : Fin 176) (q : Fin 2048) :
    (iblk m c 2 t : S176x2048.Idx → EReal) (ix2 p q) = (m ((c : Thread nD τ).loc main_arg2) : S704x2048.Idx → EReal) (ix2 (row t p) q) := by
  blk_simp [iblk, idx2]
  refine congrArg (m ((c : Thread nD τ).loc main_arg2)) ?_
  blk_ext [idx2, row]

theorem iblk3 (t : Fin cfg0.N) (p : Fin 176) (q : Fin 2048) :
    (iblk m c 3 t : S176x2048.Idx → EReal) (ix2 p q) = (m ((c : Thread nD τ).loc main_arg3) : S704x2048.Idx → EReal) (ix2 (row t p) q) := by
  blk_simp [iblk, idx3]
  refine congrArg (m ((c : Thread nD τ).loc main_arg3)) ?_
  blk_ext [idx3, row]

section

variable (P : S4x768x2048.Idx → EReal) (w x y : S704x2048.Idx → EReal)

/-- The gradient. -/
def specG (j : S704x2048.Idx) : EReal := grad P (wide (j 0)) (j 1)

/-- The weights' update. -/
def specD (j : S704x2048.Idx) : EReal := delta (specG P j) (w (ix2 (j 0) (j 1))) (x (ix2 (j 0) (j 1))) (y (ix2 (j 0) (j 1)))

/-- The first moments. -/
def specM (j : S704x2048.Idx) : EReal := mom (specG P j) (x (ix2 (j 0) (j 1)))

/-- The second moments. -/
def specV (j : S704x2048.Idx) : EReal := vel (specG P j) (y (ix2 (j 0) (j 1)))

end

theorem grad0 (t : Fin cfg0.N) (p : Fin 176) (q : Fin 2048) :
    grad (n := 176) (X0_0 m c t) p q = specG (m ((c : Thread nD τ).loc main_arg0)) (ix2 (row t p) q) :=
  grad_congr _ _ _ _ _ fun k => blk0 m c t k p q

theorem at4 (t : Fin cfg0.N) (p : Fin 176) (q : Fin 2048) : ((outsAt0 m c t).1 : S176x2048.Idx → EReal) (ix2 p q)
    = specG (m ((c : Thread nD τ).loc main_arg0)) (ix2 (row t p) q) := by
  unfold outsAt0
  dsimp only
  rw [out4]
  exact grad0 m c t p q

theorem at5 (t : Fin cfg0.N) (p : Fin 176) (q : Fin 2048) : ((outsAt0 m c t).2.1 : S176x2048.Idx → EReal) (ix2 p q)
    = specD (m ((c : Thread nD τ).loc main_arg0)) (m ((c : Thread nD τ).loc main_arg1)) (m ((c : Thread nD τ).loc main_arg2))
        (m ((c : Thread nD τ).loc main_arg3)) (ix2 (row t p) q) := by
  unfold outsAt0
  dsimp only
  rw [out5]
  simp only [grad0, iblk1, iblk2, iblk3]
  rfl

theorem at6 (t : Fin cfg0.N) (p : Fin 176) (q : Fin 2048) : ((outsAt0 m c t).2.2.1 : S176x2048.Idx → EReal) (ix2 p q)
    = specM (m ((c : Thread nD τ).loc main_arg0)) (m ((c : Thread nD τ).loc main_arg2)) (ix2 (row t p) q) := by
  unfold outsAt0
  dsimp only
  rw [out6]
  simp only [grad0, iblk2]
  rfl

theorem at7 (t : Fin cfg0.N) (p : Fin 176) (q : Fin 2048) : ((outsAt0 m c t).2.2.2 : S176x2048.Idx → EReal) (ix2 p q)
    = specV (m ((c : Thread nD τ).loc main_arg0)) (m ((c : Thread nD τ).loc main_arg3)) (ix2 (row t p) q) := by
  unfold outsAt0
  dsimp only
  rw [out7]
  simp only [grad0, iblk3]
  rfl

theorem arr4 : ((dats m 0 c).arrAt 4 cfg0.N : S704x2048.Idx → EReal) = specG (m ((c : Thread nD τ).loc main_arg0)) := by
  have e : (dats m 0 c).arrAt 4 cfg0.N
      = (fun y : S704x2048.Idx => specG (m ((c : Thread nD τ).loc main_arg0)) (ix2 (y 0) (y 1))) := by
    refine (dats m 0 c).arrAt_eq_of_covers 4 _ (by decide +kernel) fun t hf y => ?_
    rw [after0_4]
    obtain ⟨p, q, rfl⟩ : ∃ (p : Fin 176) (q : Fin 2048), y = ix2 p q := ⟨y 0, y 1, eq_ix2 y⟩
    have h := at4 m c t
    generalize (outsAt0 m c t).1 = X at h ⊢
    refine (h p q).trans ?_
    generalize specG (m ((c : Thread nD τ).loc main_arg0)) = X
    blk_simp [idx4]
    refine congrArg X ?_
    blk_ext [idx4, row]
  refine e.trans (funext fun y => ?_)
  rw [← eq_ix2 y]

theorem arr5 : ((dats m 0 c).arrAt 5 cfg0.N : S704x2048.Idx → EReal) = specD (m ((c : Thread nD τ).loc main_arg0))
    (m ((c : Thread nD τ).loc main_arg1)) (m ((c : Thread nD τ).loc main_arg2)) (m ((c : Thread nD τ).loc main_arg3)) := by
  have e : (dats m 0 c).arrAt 5 cfg0.N = (fun y : S704x2048.Idx => specD (m ((c : Thread nD τ).loc main_arg0))
      (m ((c : Thread nD τ).loc main_arg1)) (m ((c : Thread nD τ).loc main_arg2)) (m ((c : Thread nD τ).loc main_arg3))
      (ix2 (y 0) (y 1))) := by
    refine (dats m 0 c).arrAt_eq_of_covers 5 _ (by decide +kernel) fun t hf y => ?_
    rw [after0_5]
    obtain ⟨p, q, rfl⟩ : ∃ (p : Fin 176) (q : Fin 2048), y = ix2 p q := ⟨y 0, y 1, eq_ix2 y⟩
    have h := at5 m c t
    generalize (outsAt0 m c t).2.1 = X at h ⊢
    refine (h p q).trans ?_
    generalize specD (m ((c : Thread nD τ).loc main_arg0)) (m ((c : Thread nD τ).loc main_arg1)) (m ((c : Thread nD τ).loc main_arg2))
      (m ((c : Thread nD τ).loc main_arg3)) = X
    blk_simp [idx5]
    refine congrArg X ?_
    blk_ext [idx5, row]
  refine e.trans (funext fun y => ?_)
  rw [← eq_ix2 y]

theorem arr6 : ((dats m 0 c).arrAt 6 cfg0.N : S704x2048.Idx → EReal)
    = specM (m ((c : Thread nD τ).loc main_arg0)) (m ((c : Thread nD τ).loc main_arg2)) := by
  have e : (dats m 0 c).arrAt 6 cfg0.N = (fun y : S704x2048.Idx =>
      specM (m ((c : Thread nD τ).loc main_arg0)) (m ((c : Thread nD τ).loc main_arg2)) (ix2 (y 0) (y 1))) := by
    refine (dats m 0 c).arrAt_eq_of_covers 6 _ (by decide +kernel) fun t hf y => ?_
    rw [after0_6]
    obtain ⟨p, q, rfl⟩ : ∃ (p : Fin 176) (q : Fin 2048), y = ix2 p q := ⟨y 0, y 1, eq_ix2 y⟩
    have h := at6 m c t
    generalize (outsAt0 m c t).2.2.1 = X at h ⊢
    refine (h p q).trans ?_
    generalize specM (m ((c : Thread nD τ).loc main_arg0)) (m ((c : Thread nD τ).loc main_arg2)) = X
    blk_simp [idx6]
    refine congrArg X ?_
    blk_ext [idx6, row]
  refine e.trans (funext fun y => ?_)
  rw [← eq_ix2 y]

theorem arr7 : ((dats m 0 c).arrAt 7 cfg0.N : S704x2048.Idx → EReal)
    = specV (m ((c : Thread nD τ).loc main_arg0)) (m ((c : Thread nD τ).loc main_arg3)) := by
  have e : (dats m 0 c).arrAt 7 cfg0.N = (fun y : S704x2048.Idx =>
      specV (m ((c : Thread nD τ).loc main_arg0)) (m ((c : Thread nD τ).loc main_arg3)) (ix2 (y 0) (y 1))) := by
    refine (dats m 0 c).arrAt_eq_of_covers 7 _ (by decide +kernel) fun t hf y => ?_
    rw [after0_7]
    obtain ⟨p, q, rfl⟩ : ∃ (p : Fin 176) (q : Fin 2048), y = ix2 p q := ⟨y 0, y 1, eq_ix2 y⟩
    have h := at7 m c t
    generalize (outsAt0 m c t).2.2.2 = X at h ⊢
    refine (h p q).trans ?_
    generalize specV (m ((c : Thread nD τ).loc main_arg0)) (m ((c : Thread nD τ).loc main_arg3)) = X
    blk_simp [idx7]
    refine congrArg X ?_
    blk_ext [idx7, row]
  refine e.trans (funext fun y => ?_)
  rw [← eq_ix2 y]

/-! ## The reference's arrays -/

section

open Cert.Reference29Ideal.Read

variable (P : FVec Ideal S4x768x2048 .bf16) (w x y : FVec Ideal S704x2048 .f32)

theorem ref_g : val_main_v2 (F := Ideal) P = specG P := by
  funext j
  obtain ⟨p, q, rfl⟩ : ∃ (p : Fin 704) (q : Fin 2048), j = ix2 p q := ⟨j 0, j 1, eq_ix2 j⟩
  pointwise [val_main_v2, val_main_v1, val_main_cst, val_main_v0]
  rfl

theorem ref_m : val_main_v7 (F := Ideal) P x = specM P x := by
  funext j
  obtain ⟨p, q, rfl⟩ : ∃ (p : Fin 704) (q : Fin 2048), j = ix2 p q := ⟨j 0, j 1, eq_ix2 j⟩
  pointwise [val_main_v7, val_main_v6, val_main_v5, val_main_cst_1, val_main_v4, val_main_v3, val_main_cst_0]
  rw [ref_g]
  rfl

theorem ref_v : val_main_v13 (F := Ideal) P y = specV P y := by
  funext j
  obtain ⟨p, q, rfl⟩ : ∃ (p : Fin 704) (q : Fin 2048), j = ix2 p q := ⟨j 0, j 1, eq_ix2 j⟩
  pointwise [val_main_v13, val_main_v12, val_main_v11, val_main_cst_3, val_main_v10, val_main_v9, val_main_v8, val_main_cst_2]
  rw [ref_g]
  rfl

theorem ref_d : val_main_v26 (F := Ideal) P w x y = specD P w x y := by
  funext j
  obtain ⟨p, q, rfl⟩ : ∃ (p : Fin 704) (q : Fin 2048), j = ix2 p q := ⟨j 0, j 1, eq_ix2 j⟩
  pointwise [val_main_v26, val_main_v25, val_main_cst_8, val_main_v24, val_main_v23, val_main_v22, val_main_cst_7, val_main_v21,
    val_main_v20, val_main_v19, val_main_cst_6, val_main_v18, val_main_v17, val_main_v16, val_main_cst_5, val_main_v15, val_main_v14,
    val_main_cst_4]
  rw [ref_m, ref_v]
  rfl

end

/-- Kernel and reference leave the same results and keep their arguments. -/
theorem algebraic : Cert.algebraic_Kernel29Ideal_Reference29Ideal := by
  intro m g m' g' hpre hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel29Ideal.Value.run_blocks m g, ?_⟩
  refine (θ_run Cert.Reference29Ideal.defs _ _).mono (fun r h c => ?_) (Cert.Reference29Ideal.Value.run (F := Ideal) m' g')
  obtain ⟨h0, h1, h2, h3, k⟩ := h c
  obtain ⟨e0, e1, e2, e3⟩ := hargs c
  refine ⟨h0.trans ?_, h1.trans ?_, h2.trans ?_, h3.trans ?_, k⟩
  · rw [e0]
    exact (Cert.Reference29Ideal.Read.val_main_v2_eq _).trans ((ref_g _).trans (arr4 m c).symm)
  · rw [e0, e1, e2, e3]
    exact (Cert.Reference29Ideal.Read.val_main_v26_eq _ _ _ _).trans ((ref_d _ _ _ _).trans (arr5 m c).symm)
  · rw [e0, e2]
    exact (Cert.Reference29Ideal.Read.val_main_v7_eq _ _).trans ((ref_m _ _).trans (arr6 m c).symm)
  · rw [e0, e3]
    exact (Cert.Reference29Ideal.Read.val_main_v13_eq _ _).trans ((ref_v _ _).trans (arr7 m c).symm)

end

end Ffn.Adam
-- ==== Proof.AdamGain.lean ====
module
public import proofs.«01_k».proof.Proof.Gen.Kernel30Ideal.Value
public import proofs.«01_k».proof.Proof.Gen.Reference30Ideal.Read
public import proofs.«01_k».proof.Proof.Adam
public import Idealize.ShloMosaic.Lib.Pointwise
public import proofs.«01_k».proof.Defs

/-! # The optimiser's step of a replicated gain -/

@[expose] public section

set_option maxRecDepth 16384

namespace Ffn.AdamGain

open Cert.Kernel30Ideal Cert.Kernel30Ideal.Gen Idealize.ShloMosaic Idealize.ShloMosaic.TcCoe Idealize.SL.Sem
open Ffn.Adam (mom vel delta)

noncomputable section

section

open Cert.Reference30Ideal.Read

variable (g w x y : FVec Ideal S1x2048 .f32) (p : Fin 1) (q : Fin 2048)

theorem ref_m : val_main_v4 (F := Ideal) g x (ix2 p q) = mom (g (ix2 p q)) (x (ix2 p q)) := by
  pointwise [val_main_v4, val_main_v3, val_main_v2, val_main_cst_0, val_main_v1, val_main_v0, val_main_cst]
  rfl

theorem ref_v : val_main_v10 (F := Ideal) g y (ix2 p q) = vel (g (ix2 p q)) (y (ix2 p q)) := by
  pointwise [val_main_v10, val_main_v9, val_main_v8, val_main_cst_2, val_main_v7, val_main_v6, val_main_v5, val_main_cst_1]
  rfl

theorem ref_d : val_main_v23 (F := Ideal) g w x y (ix2 p q)
    = delta (g (ix2 p q)) (w (ix2 p q)) (x (ix2 p q)) (y (ix2 p q)) := by
  pointwise [val_main_v23, val_main_v22, val_main_cst_7, val_main_v21, val_main_v20, val_main_v19, val_main_cst_6, val_main_v18,
    val_main_v17, val_main_v16, val_main_cst_5, val_main_v15, val_main_v14, val_main_v13, val_main_cst_4, val_main_v12,
    val_main_v11, val_main_cst_3]
  rw [ref_m, ref_v]
  rfl

end

/-- Kernel and reference leave the same results and keep their arguments. -/
theorem algebraic : Cert.algebraic_Kernel30Ideal_Reference30Ideal := by
  intro m g m' g' hpre hargs
  refine ⟨fun c => (dats m 0 c).arrAt 4 cfg0.N, fun c => (dats m 0 c).arrAt 5 cfg0.N, fun c => (dats m 0 c).arrAt 6 cfg0.N,
    Cert.Kernel30Ideal.Value.run_blocks m g, ?_⟩
  refine (θ_run Cert.Reference30Ideal.defs _ _).mono (fun r h c => ?_) (Cert.Reference30Ideal.Value.run (F := Ideal) m' g')
  obtain ⟨h0, h1, h2, k⟩ := h c
  obtain ⟨e0, e1, e2, e3⟩ := hargs c
  refine ⟨h0.trans ?_, h1.trans ?_, h2.trans ?_, k⟩
  · rw [e0, e1, e2, e3]
    refine (Cert.Reference30Ideal.Read.val_main_v23_eq _ _ _ _).trans ((funext fun j => ?_).trans (Cert.Kernel30Ideal.Value.final4 m c).symm)
    rw [eq_ix2 j]
    exact ref_d _ _ _ _ _ _
  · rw [e0, e2]
    refine (Cert.Reference30Ideal.Read.val_main_v4_eq _ _).trans ((funext fun j => ?_).trans (Cert.Kernel30Ideal.Value.final5 m c).symm)
    rw [eq_ix2 j]
    exact ref_m _ _ _ _
  · rw [e0, e3]
    refine (Cert.Reference30Ideal.Read.val_main_v10_eq _ _).trans ((funext fun j => ?_).trans (Cert.Kernel30Ideal.Value.final6 m c).symm)
    rw [eq_ix2 j]
    exact ref_v _ _ _ _

end

end Ffn.AdamGain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Pre_all_finite
public import proofs.«01_k».proof.Proof.Gen.Pre_ffn_finite
public import proofs.«01_k».proof.Proof.Agree
public import proofs.«01_k».proof.Proof.ActBwd
public import proofs.«01_k».proof.Proof.GradGate
public import proofs.«01_k».proof.Proof.GradDown
public import proofs.«01_k».proof.Proof.GateBwd
public import proofs.«01_k».proof.Proof.UpBwd
public import proofs.«01_k».proof.Proof.GateFwd
public import proofs.«01_k».proof.Proof.ActFwd
public import proofs.«01_k».proof.Proof.Down
public import proofs.«01_k».proof.Proof.ActWhole
public import proofs.«01_k».proof.Proof.ProjIn
public import proofs.«01_k».proof.Proof.GradIn
public import proofs.«01_k».proof.Proof.ProjInBwd
public import proofs.«01_k».proof.Proof.ProjOut
public import proofs.«01_k».proof.Proof.GradOut
public import proofs.«01_k».proof.Proof.ProjOutBwd
public import proofs.«01_k».proof.Proof.Glu
public import proofs.«01_k».proof.Proof.GradGlu
public import proofs.«01_k».proof.Proof.GluBwd
public import proofs.«01_k».proof.Proof.Ple
public import proofs.«01_k».proof.Proof.GradPle
public import proofs.«01_k».proof.Proof.PleGateBwd
public import proofs.«01_k».proof.Proof.NormBwd
public import proofs.«01_k».proof.Proof.MixBwd
public import proofs.«01_k».proof.Proof.Norm
public import proofs.«01_k».proof.Proof.Mix
public import proofs.«01_k».proof.Proof.Loss
public import proofs.«01_k».proof.Proof.GmlpFwd
public import proofs.«01_k».proof.Proof.Adam
public import proofs.«01_k».proof.Proof.AdamGain
public import Idealize.ShloMosaic.Adequacy
public import Idealize.ShloMosaic.Init

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_ri8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_ri10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_ri12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_ri13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_ri14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_ri15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_ri16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_ri17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_ri18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_ri19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_ri20 : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

theorem frame_ri21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem frame_ri22 : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

theorem frame_ri23 : Cert.quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

theorem frame_ri24 : Cert.quiescent_Reference24Ideal := fun m ρ _ =>
  (θ_run Cert.Reference24Ideal.defs _ _).mono (fun r h => ⟨fun c => (h c).2.2.2.2.2, sem_eq_zero_of_no_sems (by decide) r.2⟩)
    (Cert.Reference24Ideal.Value.run (F := Ideal) m ρ)

theorem frame_ri25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem frame_ri26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem frame_ri27 : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem frame_ri28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

theorem frame_ri29 : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem frame_ri30 : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

/-- The two ledger entries: each named constant is its table's value. -/
theorem preserves : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic_slope" .f32 0x3E095D4F#32 ((26829 / 200000 : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Pre_all_finite.Gen.facts, Cert.Pre_ffn_finite.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial,
    fun m ρ _ => Cert.Kernel2.Gen.frame m ρ, fun m ρ _ => Cert.Kernel2Ideal.Gen.frame m ρ, fun m ρ _ => Cert.Kernel2Ideal.Gen.frame m ρ,
    frame_ri2, fun m ρ _ => frame_ri2 m ρ trivial,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, frame_ri8,
    fun m ρ _ => Cert.Kernel9.Gen.frame m ρ, fun m ρ _ => Cert.Kernel9Ideal.Gen.frame m ρ, frame_ri9,
    fun m ρ _ => Cert.Kernel10.Gen.frame m ρ, fun m ρ _ => Cert.Kernel10Ideal.Gen.frame m ρ, frame_ri10,
    fun m ρ _ => Cert.Kernel11.Gen.frame m ρ, fun m ρ _ => Cert.Kernel11Ideal.Gen.frame m ρ, frame_ri11,
    fun m ρ _ => Cert.Kernel12.Gen.frame m ρ, fun m ρ _ => Cert.Kernel12Ideal.Gen.frame m ρ, frame_ri12,
    fun m ρ _ => Cert.Kernel13.Gen.frame m ρ, fun m ρ _ => Cert.Kernel13Ideal.Gen.frame m ρ, frame_ri13,
    fun m ρ _ => Cert.Kernel14.Gen.frame m ρ, fun m ρ _ => Cert.Kernel14Ideal.Gen.frame m ρ, frame_ri14,
    fun m ρ _ => Cert.Kernel15.Gen.frame m ρ, fun m ρ _ => Cert.Kernel15Ideal.Gen.frame m ρ, frame_ri15,
    fun m ρ _ => Cert.Kernel16.Gen.frame m ρ, fun m ρ _ => Cert.Kernel16Ideal.Gen.frame m ρ, frame_ri16,
    fun m ρ _ => Cert.Kernel17.Gen.frame m ρ, fun m ρ _ => Cert.Kernel17Ideal.Gen.frame m ρ, frame_ri17,
    fun m ρ _ => Cert.Kernel18.Gen.frame m ρ, fun m ρ _ => Cert.Kernel18Ideal.Gen.frame m ρ, frame_ri18,
    fun m ρ _ => Cert.Kernel19.Gen.frame m ρ, fun m ρ _ => Cert.Kernel19Ideal.Gen.frame m ρ, frame_ri19,
    fun m ρ _ => Cert.Kernel20.Gen.frame m ρ, fun m ρ _ => Cert.Kernel20Ideal.Gen.frame m ρ, frame_ri20,
    fun m ρ _ => Cert.Kernel21.Gen.frame m ρ, fun m ρ _ => Cert.Kernel21Ideal.Gen.frame m ρ, frame_ri21,
    fun m ρ _ => Cert.Kernel22.Gen.frame m ρ, fun m ρ _ => Cert.Kernel22Ideal.Gen.frame m ρ, frame_ri22,
    fun m ρ _ => Cert.Kernel23.Gen.frame m ρ, fun m ρ _ => Cert.Kernel23Ideal.Gen.frame m ρ, frame_ri23,
    fun m ρ _ => Cert.Kernel24.Gen.frame m ρ, fun m ρ _ => Cert.Kernel24Ideal.Gen.frame m ρ, frame_ri24,
    fun m ρ _ => Cert.Kernel25.Gen.frame m ρ, fun m ρ _ => Cert.Kernel25Ideal.Gen.frame m ρ, frame_ri25,
    fun m ρ _ => Cert.Kernel26.Gen.frame m ρ, fun m ρ _ => Cert.Kernel26Ideal.Gen.frame m ρ, frame_ri26,
    fun m ρ _ => Cert.Kernel27.Gen.frame m ρ, fun m ρ _ => Cert.Kernel27Ideal.Gen.frame m ρ, frame_ri27,
    fun m ρ _ => Cert.Kernel28.Gen.frame m ρ, fun m ρ _ => Cert.Kernel28Ideal.Gen.frame m ρ, frame_ri28,
    fun m ρ _ => Cert.Kernel29.Gen.frame m ρ, fun m ρ _ => Cert.Kernel29Ideal.Gen.frame m ρ, frame_ri29,
    fun m ρ _ => Cert.Kernel30.Gen.frame m ρ, fun m ρ _ => Cert.Kernel30Ideal.Gen.frame m ρ, frame_ri30,
    preserves, Gate.algebraic,
    trivial, Ffn.ActBwd.algebraic,
    trivial, Ffn.GradGate.algebraic,
    trivial, Ffn.GradDown.algebraic,
    trivial, Ffn.GateBwd.algebraic,
    trivial, Ffn.UpBwd.algebraic,
    trivial, Ffn.GateFwd.algebraic,
    trivial, Ffn.ActFwd.algebraic,
    trivial, Ffn.Down.algebraic,
    trivial, Ffn.ActWhole.algebraic,
    trivial, Ffn.ProjIn.algebraic,
    trivial, Ffn.GradIn.algebraic,
    trivial, Ffn.ProjInBwd.algebraic,
    trivial, Ffn.ProjOut.algebraic,
    trivial, Ffn.GradOut.algebraic,
    trivial, Ffn.ProjOutBwd.algebraic,
    trivial, Ffn.Glu.algebraic,
    trivial, Ffn.GradGlu.algebraic,
    trivial, Ffn.GluBwd.algebraic,
    trivial, Ffn.Ple.algebraic,
    trivial, Ffn.GradPle.algebraic,
    trivial, Ffn.PleGateBwd.algebraic,
    trivial, Ffn.NormBwd.algebraic,
    trivial, Ffn.MixBwd.algebraic,
    trivial, Ffn.Norm.algebraic,
    trivial, Ffn.Mix.algebraic,
    trivial, Ffn.Loss.algebraic,
    trivial, Ffn.GmlpFwd.algebraic,
    trivial, Ffn.Adam.algebraic,
    trivial, Ffn.AdamGain.algebraic⟩

end Cert.Proof

end
